-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v20_0)) (v1 : (c : Dev Cert.Kernel7Ideal.nD) → Buf (Elt Ideal) ((c.tc : Thread Cert.Kernel7Ideal.nD Cert.Kernel7Ideal.τ).loc Cert.Kernel7Ideal.main_v20_1)) (v2 : (c : Dev Cert.Kernel7Ideal.nD) → Buf (Elt Ideal) ((c.tc : Thread Cert.Kernel7Ideal.nD Cert.Kernel7Ideal.τ).loc Cert.Kernel7Ideal.main_v20_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20_0) = v0 c
          ∧ r.2.mem ((c.tc : Thread Cert.Kernel7Ideal.nD Cert.Kernel7Ideal.τ).loc Cert.Kernel7Ideal.main_v20_1) = v1 c
          ∧ r.2.mem ((c.tc : Thread Cert.Kernel7Ideal.nD Cert.Kernel7Ideal.τ).loc Cert.Kernel7Ideal.main_v20_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v92) = v0 c
          ∧ r.2.mem ((c.tc : Thread Cert.Reference7Ideal.nD Cert.Reference7Ideal.τ).loc Cert.Reference7Ideal.main_v94) = v1 c
          ∧ r.2.mem ((c.tc : Thread Cert.Reference7Ideal.nD Cert.Reference7Ideal.τ).loc Cert.Reference7Ideal.main_v97) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v20_0)) (v1 : (c : Dev Cert.Kernel8Ideal.nD) → Buf (Elt Ideal) ((c.tc : Thread Cert.Kernel8Ideal.nD Cert.Kernel8Ideal.τ).loc Cert.Kernel8Ideal.main_v20_1)) (v2 : (c : Dev Cert.Kernel8Ideal.nD) → Buf (Elt Ideal) ((c.tc : Thread Cert.Kernel8Ideal.nD Cert.Kernel8Ideal.τ).loc Cert.Kernel8Ideal.main_v20_2)) (v3 : (c : Dev Cert.Kernel8Ideal.nD) → Buf (Elt Ideal) ((c.tc : Thread Cert.Kernel8Ideal.nD Cert.Kernel8Ideal.τ).loc Cert.Kernel8Ideal.main_v20_3)) (v4 : (c : Dev Cert.Kernel8Ideal.nD) → Buf (Elt Ideal) ((c.tc : Thread Cert.Kernel8Ideal.nD Cert.Kernel8Ideal.τ).loc Cert.Kernel8Ideal.main_v20_4)) (v5 : (c : Dev Cert.Kernel8Ideal.nD) → Buf (Elt Ideal) ((c.tc : Thread Cert.Kernel8Ideal.nD Cert.Kernel8Ideal.τ).loc Cert.Kernel8Ideal.main_v20_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20_0) = v0 c
          ∧ r.2.mem ((c.tc : Thread Cert.Kernel8Ideal.nD Cert.Kernel8Ideal.τ).loc Cert.Kernel8Ideal.main_v20_1) = v1 c
          ∧ r.2.mem ((c.tc : Thread Cert.Kernel8Ideal.nD Cert.Kernel8Ideal.τ).loc Cert.Kernel8Ideal.main_v20_2) = v2 c
          ∧ r.2.mem ((c.tc : Thread Cert.Kernel8Ideal.nD Cert.Kernel8Ideal.τ).loc Cert.Kernel8Ideal.main_v20_3) = v3 c
          ∧ r.2.mem ((c.tc : Thread Cert.Kernel8Ideal.nD Cert.Kernel8Ideal.τ).loc Cert.Kernel8Ideal.main_v20_4) = v4 c
          ∧ r.2.mem ((c.tc : Thread Cert.Kernel8Ideal.nD Cert.Kernel8Ideal.τ).loc Cert.Kernel8Ideal.main_v20_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v58) = v1 c
          ∧ r.2.mem ((c.tc : Thread Cert.Reference8Ideal.nD Cert.Reference8Ideal.τ).loc Cert.Reference8Ideal.main_v61) = v2 c
          ∧ r.2.mem ((c.tc : Thread Cert.Reference8Ideal.nD Cert.Reference8Ideal.τ).loc Cert.Reference8Ideal.main_v81) = v3 c
          ∧ r.2.mem ((c.tc : Thread Cert.Reference8Ideal.nD Cert.Reference8Ideal.τ).loc Cert.Reference8Ideal.main_v103) = v4 c
          ∧ r.2.mem ((c.tc : Thread Cert.Reference8Ideal.nD Cert.Reference8Ideal.τ).loc Cert.Reference8Ideal.main_v106) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S16384x512 : Shape := ⟨2, ![16384, 512]⟩
abbrev S256x16384 : Shape := ⟨2, ![256, 16384]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .bf16) (main_arg1 : FVec F S16384x512 .bf16) (main_arg2 : FVec F S256x16384 .bf16) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  main_v10
-- ==== Kernel.lean ====
abbrev S16384x512 : Shape := ⟨2, ![16384, 512]⟩
abbrev S256x16384 : Shape := ⟨2, ![256, 16384]⟩
abbrev S36 : Shape := ⟨1, ![36]⟩
abbrev S16384x256 : Shape := ⟨2, ![16384, 256]⟩
abbrev S512x512 : Shape := ⟨2, ![512, 512]⟩
abbrev S1 : Shape := ⟨1, ![1]⟩
abbrev S256x512 : Shape := ⟨2, ![256, 512]⟩
abbrev S512x256 : Shape := ⟨2, ![512, 256]⟩
abbrev S4x1x512 : Shape := ⟨3, ![4, 1, 512]⟩
abbrev S16x512 : Shape := ⟨2, ![16, 512]⟩
abbrev S512x128 : Shape := ⟨2, ![512, 128]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩
abbrev S80x512 : Shape := ⟨2, ![80, 512]⟩

abbrev nBuf : Space → Nat
  | .hbm => 4
  | .vmem => 11
  | .smem => 2
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S256x16384, .bf16⟩
  | .hbm, ⟨3, _⟩ => ⟨S16384x256, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x512, .bf16⟩
  | .local _ .vmem, ⟨5, _⟩ => ⟨S256x512, .bf16⟩
  | .local _ .vmem, ⟨6, _⟩ => ⟨S512x256, .bf16⟩
  | .local _ .vmem, ⟨7, _⟩ => ⟨S512x256, .bf16⟩
  | .local _ .vmem, ⟨8, _⟩ => ⟨S4x1x512, .f32⟩
  | .local _ .vmem, ⟨9, _⟩ => ⟨S4x1x512, .f32⟩
  | .local _ .vmem, ⟨10, _⟩ => ⟨S256x512, .f32⟩
  | .local _ .smem, ⟨0, _⟩ => ⟨S36, .i32⟩
  | .local _ .smem, ⟨1, _⟩ => ⟨S36, .i32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![c0_i32.toNat, v3.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S256x16384 : Shape := ⟨2, ![256, 16384]⟩
abbrev S4x4096x4x128 : Shape := ⟨4, ![4, 4096, 4, 128]⟩
abbrev S4x64x4x4096 : Shape := ⟨4, ![4, 64, 4, 4096]⟩
abbrev S4x4x4096x4096 : Shape := ⟨4, ![4, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x4x64 : Shape := ⟨4, ![4, 4096, 4, 64]⟩
abbrev S16384x256 : Shape := ⟨2, ![16384, 256]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S256x16384, .bf16⟩
  | .hbm, ⟨3, _⟩ => ⟨S16384x512, .f32⟩
  | .hbm, ⟨4, _⟩ => ⟨S4x4096x4x128, .f32⟩
  | .hbm, ⟨5, _⟩ => ⟨S16384x512, .f32⟩
  | .hbm, ⟨6, _⟩ => ⟨S4x4096x4x128, .f32⟩
  | .hbm, ⟨7, _⟩ => ⟨S256x16384, .f32⟩
  | .hbm, ⟨8, _⟩ => ⟨S4x64x4x4096, .f32⟩
  | .hbm, ⟨9, _⟩ => ⟨S4x4x4096x4096, .f32⟩
  | .hbm, ⟨10, _⟩ => ⟨S_, .f32⟩
  | .hbm, ⟨11, _⟩ => ⟨S_, .f32⟩
  | .hbm, ⟨12, _⟩ => ⟨S4x4x4096x4096, .f32⟩
  | .hbm, ⟨13, _⟩ => ⟨S4x4x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4x4x4096x4096, .i1⟩
  | .hbm, ⟨23, _⟩ => ⟨S4x4x4096x4096, .f32⟩
  | .hbm, ⟨24, _⟩ => ⟨S4x4x4096x4096, .f32⟩
  | .hbm, ⟨25, _⟩ => ⟨S_, .f32⟩
  | .hbm, ⟨26, _⟩ => ⟨S4x4x4096, .f32⟩
  | .hbm, ⟨27, _⟩ => ⟨S_, .f32⟩
  | .hbm, ⟨28, _⟩ => ⟨S4x4x4096, .f32⟩
  | .hbm, ⟨29, _⟩ => ⟨S4x4x4096, .f32⟩
  | .hbm, ⟨30, _⟩ => ⟨S4x4x4096x1, .f32⟩
  | .hbm, ⟨31, _⟩ => ⟨S4x4x4096x4096, .f32⟩
  | .hbm, ⟨32, _⟩ => ⟨S4x4x4096x4096, .f32⟩
  | .hbm, ⟨33, _⟩ => ⟨S4x4x4096x4096, .f32⟩
  | .hbm, ⟨34, _⟩ => ⟨S_, .f32⟩
  | .hbm, ⟨35, _⟩ => ⟨S4x4x4096, .f32⟩
  | .hbm, ⟨36, _⟩ => ⟨S4x4x4096x1, .f32⟩
  | .hbm, ⟨37, _⟩ => ⟨S4x4x4096x4096, .f32⟩
  | .hbm, ⟨38, _⟩ => ⟨S4x4x4096x4096, .f32⟩
  | .hbm, ⟨39, _⟩ => ⟨S4x4x64x4096, .f32⟩
  | .hbm, ⟨40, _⟩ => ⟨S4x4096x4x64, .f32⟩
  | .hbm, ⟨41, _⟩ => ⟨S16384x256, .f32⟩
  | .hbm, ⟨42, _⟩ => ⟨S16384x256, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .bf16⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1x1024 : Shape := ⟨2, ![1, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S16384x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .bf16⟩
  | .local _ .vmem, ⟨5, _⟩ => ⟨S512x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x1024 : Shape := ⟨2, ![16384, 1024]⟩
abbrev S1x1024 : Shape := ⟨2, ![1, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x4096, .f32⟩
  | .hbm, ⟨20, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16384x1024 : Shape := ⟨2, ![16384, 1024]⟩
abbrev S16384x256 : Shape := ⟨2, ![16384, 256]⟩
abbrev S16384x4096 : Shape := ⟨2, ![16384, 4096]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 12
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x4096, .bf16⟩
  | .hbm, ⟨6, _⟩ => ⟨S256x1024, .bf16⟩
  | .hbm, ⟨7, _⟩ => ⟨S256x1024, .bf16⟩
  | .hbm, ⟨8, _⟩ => ⟨S256x1024, .bf16⟩
  | .hbm, ⟨9, _⟩ => ⟨S256x1024, .bf16⟩
  | .hbm, ⟨10, _⟩ => ⟨S1024x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x1024 : Shape := ⟨2, ![16384, 1024]⟩
abbrev S16384x256 : Shape := ⟨2, ![16384, 256]⟩
abbrev S16384x4096 : Shape := ⟨2, ![16384, 4096]⟩
abbrev S256x1024 : Shape := ⟨2, ![256, 1024]⟩
abbrev S1024x1024 : Shape := ⟨2, ![1024, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x4096, .bf16⟩
  | .hbm, ⟨6, _⟩ => ⟨S256x1024, .bf16⟩
  | .hbm, ⟨7, _⟩ => ⟨S256x1024, .bf16⟩
  | .hbm, ⟨8, _⟩ => ⟨S256x1024, .bf16⟩
  | .hbm, ⟨9, _⟩ => ⟨S256x1024, .bf16⟩
  | .hbm, ⟨10, _⟩ => ⟨S1024x1024, .bf16⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .bf16⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .bf16⟩
  | .hbm, ⟨27, _⟩ => ⟨S16384x1024, .f32⟩
  | .hbm, ⟨28, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel7.lean ====
abbrev S16384x4096 : Shape := ⟨2, ![16384, 4096]⟩
abbrev S4x4096 : Shape := ⟨2, ![4, 4096]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S256x128 : Shape := ⟨2, ![256, 128]⟩
abbrev S32x384 : Shape := ⟨2, ![32, 384]⟩
abbrev S1x384 : Shape := ⟨2, ![1, 384]⟩
abbrev S16 : Shape := ⟨1, ![16]⟩
abbrev S_ : Shape := ⟨0, ![]⟩
abbrev S4x4096x1 : Shape := ⟨3, ![4, 4096, 1]⟩
abbrev S1x1x16 : Shape := ⟨3, ![1, 1, 16]⟩
abbrev S4x4096x16 : Shape := ⟨3, ![4, 4096, 16]⟩
abbrev S4x4096x32 : Shape := ⟨3, ![4, 4096, 32]⟩
abbrev S16384x32 : Shape := ⟨2, ![16384, 32]⟩
abbrev S16384x512 : Shape := ⟨2, ![16384, 512]⟩
abbrev S256x16384 : Shape := ⟨2, ![256, 16384]⟩
abbrev S512x256 : Shape := ⟨2, ![512, 256]⟩
abbrev S512x128 : Shape := ⟨2, ![512, 128]⟩
abbrev S512x32 : Shape := ⟨2, ![512, 32]⟩
abbrev S512x512 : Shape := ⟨2, ![512, 512]⟩
abbrev S512 : Shape := ⟨1, ![512]⟩
abbrev S512x1 : Shape := ⟨2, ![512, 1]⟩
abbrev S512x384 : Shape := ⟨2, ![512, 384]⟩

abbrev nBuf : Space → Nat
  | .hbm => 36
  | .vmem => 21
  | .smem => 0
  | _ => 0

abbrev bufTy : (tb : Table) → Fin (tcTables nBuf tb) → BufTy
  | .hbm, ⟨0, _⟩ => ⟨S16384x4096, .f32⟩
  | .hbm, ⟨1, _⟩ => ⟨S4x4096, .i32⟩
  | .hbm, ⟨2, _⟩ => ⟨S1x256, .f32⟩
  | .hbm, ⟨3, _⟩ => ⟨S1x128, .f32⟩
  | .hbm, ⟨4, _⟩ => ⟨S256x512, .bf16⟩
  | .hbm, ⟨5, _⟩ => ⟨S128x512, .bf16⟩
  | .hbm, ⟨6, _⟩ => ⟨S256x128, .bf16⟩
  | .hbm, ⟨7, _⟩ => ⟨S32x384, .f32⟩
  | .hbm, ⟨8, _⟩ => ⟨S1x384, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S4x4096, .f32⟩
  | .hbm, ⟨24, _⟩ => ⟨S4x4096x1, .f32⟩
  | .hbm, ⟨25, _⟩ => ⟨S1x1x16, .f32⟩
  | .hbm, ⟨26, _⟩ => ⟨S4x4096x16, .f32⟩
  | .hbm, ⟨27, _⟩ => ⟨S4x4096x16, .f32⟩
  | .hbm, ⟨28, _⟩ => ⟨S4x4096x16, .f32⟩
  | .hbm, ⟨29, _⟩ => ⟨S4x4096x16, .f32⟩
  | .hbm, ⟨30, _⟩ => ⟨S4x4096x16, .f32⟩
  | .hbm, ⟨31, _⟩ => ⟨S4x4096x32, .f32⟩
  | .hbm, ⟨32, _⟩ => ⟨S16384x32, .f32⟩
  | .hbm, ⟨33, _⟩ => ⟨S16384x512, .bf16⟩
  | .hbm, ⟨34, _⟩ => ⟨S16384x512, .bf16⟩
  | .hbm, ⟨35, _⟩ => ⟨S256x16384, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x32, .f32⟩
  | .local _ .vmem, ⟨7, _⟩ => ⟨S512x32, .f32⟩
  | .local _ .vmem, ⟨8, _⟩ => ⟨S32x384, .f32⟩
  | .local _ .vmem, ⟨9, _⟩ => ⟨S1x384, .f32⟩
  | .local _ .vmem, ⟨10, _⟩ => ⟨S1x256, .f32⟩
  | .local _ .vmem, ⟨11, _⟩ => ⟨S1x128, .f32⟩
  | .local _ .vmem, ⟨12, _⟩ => ⟨S256x512, .bf16⟩
  | .local _ .vmem, ⟨13, _⟩ => ⟨S128x512, .bf16⟩
  | .local _ .vmem, ⟨14, _⟩ => ⟨S256x128, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S256x512, .bf16⟩
  | .local _ .vmem, ⟨20, _⟩ => ⟨S256x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S16384x4096 : Shape := ⟨2, ![16384, 4096]⟩
abbrev S4x4096 : Shape := ⟨2, ![4, 4096]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S256x128 : Shape := ⟨2, ![256, 128]⟩
abbrev S16384x256 : Shape := ⟨2, ![16384, 256]⟩
abbrev S16384x128 : Shape := ⟨2, ![16384, 128]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x512 : Shape := ⟨2, ![16384, 512]⟩
abbrev S16384x4x128 : Shape := ⟨3, ![16384, 4, 128]⟩
abbrev S16384x4x64 : Shape := ⟨3, ![16384, 4, 64]⟩
abbrev S16384x1x16 : Shape := ⟨3, ![16384, 1, 16]⟩
abbrev S16384x4x16 : Shape := ⟨3, ![16384, 4, 16]⟩
abbrev S16384x4x32 : Shape := ⟨3, ![16384, 4, 32]⟩
abbrev S16384x1x128 : Shape := ⟨3, ![16384, 1, 128]⟩
abbrev S16384x1x64 : Shape := ⟨3, ![16384, 1, 64]⟩
abbrev S16384x1x32 : Shape := ⟨3, ![16384, 1, 32]⟩
abbrev S128x16384 : Shape := ⟨2, ![128, 16384]⟩
abbrev S256x16384 : Shape := ⟨2, ![256, 16384]⟩

abbrev nBuf : Space → Nat
  | .hbm => 116
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .i32⟩
  | .hbm, ⟨2, _⟩ => ⟨S1x256, .f32⟩
  | .hbm, ⟨3, _⟩ => ⟨S1x128, .f32⟩
  | .hbm, ⟨4, _⟩ => ⟨S256x512, .bf16⟩
  | .hbm, ⟨5, _⟩ => ⟨S128x512, .bf16⟩
  | .hbm, ⟨6, _⟩ => ⟨S256x128, .bf16⟩
  | .hbm, ⟨7, _⟩ => ⟨S16384x256, .f32⟩
  | .hbm, ⟨8, _⟩ => ⟨S16384x128, .f32⟩
  | .hbm, ⟨9, _⟩ => ⟨S16384x128, .f32⟩
  | .hbm, ⟨10, _⟩ => ⟨S16384, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16384, .f32⟩
  | .hbm, ⟨26, _⟩ => ⟨S16384x1, .f32⟩
  | .hbm, ⟨27, _⟩ => ⟨S1x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x256, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .bf16⟩
  | .hbm, ⟨49, _⟩ => ⟨S16384x512, .f32⟩
  | .hbm, ⟨50, _⟩ => ⟨S16384x4x128, .f32⟩
  | .hbm, ⟨51, _⟩ => ⟨S16384x4x64, .f32⟩
  | .hbm, ⟨52, _⟩ => ⟨S16384x4x64, .f32⟩
  | .hbm, ⟨53, _⟩ => ⟨S16384x1x16, .f32⟩
  | .hbm, ⟨54, _⟩ => ⟨S16384x1x16, .f32⟩
  | .hbm, ⟨55, _⟩ => ⟨S16384x4x16, .f32⟩
  | .hbm, ⟨56, _⟩ => ⟨S16384x4x16, .f32⟩
  | .hbm, ⟨57, _⟩ => ⟨S16384x4x16, .f32⟩
  | .hbm, ⟨58, _⟩ => ⟨S16384x4x16, .f32⟩
  | .hbm, ⟨59, _⟩ => ⟨S16384x4x16, .f32⟩
  | .hbm, ⟨60, _⟩ => ⟨S16384x4x16, .f32⟩
  | .hbm, ⟨61, _⟩ => ⟨S16384x4x16, .f32⟩
  | .hbm, ⟨62, _⟩ => ⟨S16384x4x16, .f32⟩
  | .hbm, ⟨63, _⟩ => ⟨S16384x4x16, .f32⟩
  | .hbm, ⟨64, _⟩ => ⟨S16384x4x16, .f32⟩
  | .hbm, ⟨65, _⟩ => ⟨S16384x4x16, .f32⟩
  | .hbm, ⟨66, _⟩ => ⟨S16384x4x16, .f32⟩
  | .hbm, ⟨67, _⟩ => ⟨S16384x4x32, .f32⟩
  | .hbm, ⟨68, _⟩ => ⟨S16384x4x64, .f32⟩
  | .hbm, ⟨69, _⟩ => ⟨S16384x4x128, .f32⟩
  | .hbm, ⟨70, _⟩ => ⟨S16384x128, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x128, .f32⟩
  | .hbm, ⟨82, _⟩ => ⟨S16384x128, .f32⟩
  | .hbm, ⟨83, _⟩ => ⟨S16384x128, .f32⟩
  | .hbm, ⟨84, _⟩ => ⟨S16384x128, .f32⟩
  | .hbm, ⟨85, _⟩ => ⟨S16384x128, .bf16⟩
  | .hbm, ⟨86, _⟩ => ⟨S16384x512, .f32⟩
  | .hbm, ⟨87, _⟩ => ⟨S16384x4x128, .f32⟩
  | .hbm, ⟨88, _⟩ => ⟨S16384x1x128, .f32⟩
  | .hbm, ⟨89, _⟩ => ⟨S16384x1x64, .f32⟩
  | .hbm, ⟨90, _⟩ => ⟨S16384x1x64, .f32⟩
  | .hbm, ⟨91, _⟩ => ⟨S16384x1x16, .f32⟩
  | .hbm, ⟨92, _⟩ => ⟨S16384x1x16, .f32⟩
  | .hbm, ⟨93, _⟩ => ⟨S16384x1x16, .f32⟩
  | .hbm, ⟨94, _⟩ => ⟨S16384x1x16, .f32⟩
  | .hbm, ⟨95, _⟩ => ⟨S16384x1x16, .f32⟩
  | .hbm, ⟨96, _⟩ => ⟨S16384x1x16, .f32⟩
  | .hbm, ⟨97, _⟩ => ⟨S16384x1x16, .f32⟩
  | .hbm, ⟨98, _⟩ => ⟨S16384x1x16, .f32⟩
  | .hbm, ⟨99, _⟩ => ⟨S16384x1x16, .f32⟩
  | .hbm, ⟨100, _⟩ => ⟨S16384x1x16, .f32⟩
  | .hbm, ⟨101, _⟩ => ⟨S16384x1x32, .f32⟩
  | .hbm, ⟨102, _⟩ => ⟨S16384x1x64, .f32⟩
  | .hbm, ⟨103, _⟩ => ⟨S16384x1x128, .f32⟩
  | .hbm, ⟨104, _⟩ => ⟨S16384x4x128, .f32⟩
  | .hbm, ⟨105, _⟩ => ⟨S16384x4x128, .f32⟩
  | .hbm, ⟨106, _⟩ => ⟨S_, .f32⟩
  | .hbm, ⟨107, _⟩ => ⟨S16384x4x128, .f32⟩
  | .hbm, ⟨108, _⟩ => ⟨S16384x4x128, .f32⟩
  | .hbm, ⟨109, _⟩ => ⟨S16384x512, .f32⟩
  | .hbm, ⟨110, _⟩ => ⟨S16384x512, .bf16⟩
  | .hbm, ⟨111, _⟩ => ⟨S16384x512, .f32⟩
  | .hbm, ⟨112, _⟩ => ⟨S16384x512, .bf16⟩
  | .hbm, ⟨113, _⟩ => ⟨S128x16384, .bf16⟩
  | .hbm, ⟨114, _⟩ => ⟨S256x16384, .f32⟩
  | .hbm, ⟨115, _⟩ => ⟨S256x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_9 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩

abbrev nD : Nat := 1
abbrev τ : Topo := Topo.v7x

variable {F : FTy → Type} [FloatOps F]
-- ==== Kernel8.lean ====
abbrev S16384x4096 : Shape := ⟨2, ![16384, 4096]⟩
abbrev S4x4096 : Shape := ⟨2, ![4, 4096]⟩
abbrev S16x384 : Shape := ⟨2, ![16, 384]⟩
abbrev S1x384 : Shape := ⟨2, ![1, 384]⟩
abbrev S8 : Shape := ⟨1, ![8]⟩
abbrev S_ : Shape := ⟨0, ![]⟩
abbrev S4x4096x1 : Shape := ⟨3, ![4, 4096, 1]⟩
abbrev S1x1x8 : Shape := ⟨3, ![1, 1, 8]⟩
abbrev S4x4096x8 : Shape := ⟨3, ![4, 4096, 8]⟩
abbrev S4x4096x16 : Shape := ⟨3, ![4, 4096, 16]⟩
abbrev S16384x16 : Shape := ⟨2, ![16384, 16]⟩
abbrev S16384x64 : Shape := ⟨2, ![16384, 64]⟩
abbrev S4x16384x64 : Shape := ⟨3, ![4, 16384, 64]⟩
abbrev S64x256x256 : Shape := ⟨3, ![64, 256, 256]⟩
abbrev S512x16384 : Shape := ⟨2, ![512, 16384]⟩
abbrev S256x16384 : Shape := ⟨2, ![256, 16384]⟩
abbrev S8x16384 : Shape := ⟨2, ![8, 16384]⟩
abbrev S256x512 : Shape := ⟨2, ![256, 512]⟩
abbrev S256x128 : Shape := ⟨2, ![256, 128]⟩
abbrev S256x256 : Shape := ⟨2, ![256, 256]⟩
abbrev S256x16 : Shape := ⟨2, ![256, 16]⟩
abbrev S256x64 : Shape := ⟨2, ![256, 64]⟩
abbrev S4x256x64 : Shape := ⟨3, ![4, 256, 64]⟩
abbrev S1x256x256 : Shape := ⟨3, ![1, 256, 256]⟩
abbrev S512x256 : Shape := ⟨2, ![512, 256]⟩
abbrev S8x256 : Shape := ⟨2, ![8, 256]⟩
abbrev S256x384 : Shape := ⟨2, ![256, 384]⟩
abbrev S1x256x64 : Shape := ⟨3, ![1, 256, 64]⟩
abbrev S128x256 : Shape := ⟨2, ![128, 256]⟩

abbrev nBuf : Space → Nat
  | .hbm => 34
  | .vmem => 26
  | .smem => 0
  | _ => 0

abbrev bufTy : (tb : Table) → Fin (tcTables nBuf tb) → BufTy
  | .hbm, ⟨0, _⟩ => ⟨S16384x4096, .f32⟩
  | .hbm, ⟨1, _⟩ => ⟨S4x4096, .i32⟩
  | .hbm, ⟨2, _⟩ => ⟨S16x384, .f32⟩
  | .hbm, ⟨3, _⟩ => ⟨S1x384, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4x4096, .f32⟩
  | .hbm, ⟨19, _⟩ => ⟨S4x4096x1, .f32⟩
  | .hbm, ⟨20, _⟩ => ⟨S1x1x8, .f32⟩
  | .hbm, ⟨21, _⟩ => ⟨S4x4096x8, .f32⟩
  | .hbm, ⟨22, _⟩ => ⟨S4x4096x8, .f32⟩
  | .hbm, ⟨23, _⟩ => ⟨S4x4096x8, .f32⟩
  | .hbm, ⟨24, _⟩ => ⟨S4x4096x8, .f32⟩
  | .hbm, ⟨25, _⟩ => ⟨S4x4096x8, .f32⟩
  | .hbm, ⟨26, _⟩ => ⟨S4x4096x16, .f32⟩
  | .hbm, ⟨27, _⟩ => ⟨S16384x16, .f32⟩
  | .hbm, ⟨28, _⟩ => ⟨S16384x64, .bf16⟩
  | .hbm, ⟨29, _⟩ => ⟨S4x16384x64, .bf16⟩
  | .hbm, ⟨30, _⟩ => ⟨S64x256x256, .bf16⟩
  | .hbm, ⟨31, _⟩ => ⟨S512x16384, .bf16⟩
  | .hbm, ⟨32, _⟩ => ⟨S256x16384, .bf16⟩
  | .hbm, ⟨33, _⟩ => ⟨S8x16384, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x16, .f32⟩
  | .local _ .vmem, ⟨11, _⟩ => ⟨S256x16, .f32⟩
  | .local _ .vmem, ⟨12, _⟩ => ⟨S16x384, .f32⟩
  | .local _ .vmem, ⟨13, _⟩ => ⟨S1x384, .f32⟩
  | .local _ .vmem, ⟨14, _⟩ => ⟨S256x64, .bf16⟩
  | .local _ .vmem, ⟨15, _⟩ => ⟨S256x64, .bf16⟩
  | .local _ .vmem, ⟨16, _⟩ => ⟨S4x256x64, .bf16⟩
  | .local _ .vmem, ⟨17, _⟩ => ⟨S4x256x64, .bf16⟩
  | .local _ .vmem, ⟨18, _⟩ => ⟨S1x256x256, .bf16⟩
  | .local _ .vmem, ⟨19, _⟩ => ⟨S1x256x256, .bf16⟩
  | .local _ .vmem, ⟨20, _⟩ => ⟨S512x256, .bf16⟩
  | .local _ .vmem, ⟨21, _⟩ => ⟨S512x256, .bf16⟩
  | .local _ .vmem, ⟨22, _⟩ => ⟨S256x256, .bf16⟩
  | .local _ .vmem, ⟨23, _⟩ => ⟨S256x256, .bf16⟩
  | .local _ .vmem, ⟨24, _⟩ => ⟨S8x256, .f32⟩
  | .local _ .vmem, ⟨25, _⟩ => ⟨S8x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S16384x4096 : Shape := ⟨2, ![16384, 4096]⟩
abbrev S4x4096 : Shape := ⟨2, ![4, 4096]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x512 : Shape := ⟨2, ![16384, 512]⟩
abbrev S16384x64 : Shape := ⟨2, ![16384, 64]⟩
abbrev S16384x256 : Shape := ⟨2, ![16384, 256]⟩
abbrev S16384x1x64 : Shape := ⟨3, ![16384, 1, 64]⟩
abbrev S16384x1x8 : Shape := ⟨3, ![16384, 1, 8]⟩
abbrev S16384x1x48 : Shape := ⟨3, ![16384, 1, 48]⟩
abbrev S16384x4x64 : Shape := ⟨3, ![16384, 4, 64]⟩
abbrev S16384x4x8 : Shape := ⟨3, ![16384, 4, 8]⟩
abbrev S16384x4x48 : Shape := ⟨3, ![16384, 4, 48]⟩
abbrev S4x16384x64 : Shape := ⟨3, ![4, 16384, 64]⟩
abbrev S64x256x256 : Shape := ⟨3, ![64, 256, 256]⟩
abbrev S16384x8x64 : Shape := ⟨3, ![16384, 8, 64]⟩
abbrev S16384x8x8 : Shape := ⟨3, ![16384, 8, 8]⟩
abbrev S16384x8x48 : Shape := ⟨3, ![16384, 8, 48]⟩
abbrev S512x16384 : Shape := ⟨2, ![512, 16384]⟩
abbrev S256x16384 : Shape := ⟨2, ![256, 16384]⟩
abbrev S8x16384 : Shape := ⟨2, ![8, 16384]⟩

abbrev nBuf : Space → Nat
  | .hbm => 115
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .i32⟩
  | .hbm, ⟨2, _⟩ => ⟨S16384, .i32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S16384, .f32⟩
  | .hbm, ⟨18, _⟩ => ⟨S16384x1, .f32⟩
  | .hbm, ⟨19, _⟩ => ⟨S1x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S16384x512, .f32⟩
  | .hbm, ⟨26, _⟩ => ⟨S16384x64, .f32⟩
  | .hbm, ⟨27, _⟩ => ⟨S16384x8, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x1x64, .f32⟩
  | .hbm, ⟨32, _⟩ => ⟨S16384x1x8, .f32⟩
  | .hbm, ⟨33, _⟩ => ⟨S16384x1x8, .f32⟩
  | .hbm, ⟨34, _⟩ => ⟨S16384x1x8, .f32⟩
  | .hbm, ⟨35, _⟩ => ⟨S16384x1x8, .f32⟩
  | .hbm, ⟨36, _⟩ => ⟨S16384x1x8, .f32⟩
  | .hbm, ⟨37, _⟩ => ⟨S16384x1x8, .f32⟩
  | .hbm, ⟨38, _⟩ => ⟨S16384x1x8, .f32⟩
  | .hbm, ⟨39, _⟩ => ⟨S16384x1x8, .f32⟩
  | .hbm, ⟨40, _⟩ => ⟨S16384x1x8, .f32⟩
  | .hbm, ⟨41, _⟩ => ⟨S16384x1x8, .f32⟩
  | .hbm, ⟨42, _⟩ => ⟨S16384x1x48, .f32⟩
  | .hbm, ⟨43, _⟩ => ⟨S16384x1x64, .f32⟩
  | .hbm, ⟨44, _⟩ => ⟨S16384x64, .f32⟩
  | .hbm, ⟨45, _⟩ => ⟨S16384x64, .bf16⟩
  | .hbm, ⟨46, _⟩ => ⟨S16384x4x64, .f32⟩
  | .hbm, ⟨47, _⟩ => ⟨S16384x1x8, .f32⟩
  | .hbm, ⟨48, _⟩ => ⟨S16384x1x8, .f32⟩
  | .hbm, ⟨49, _⟩ => ⟨S16384x4x8, .f32⟩
  | .hbm, ⟨50, _⟩ => ⟨S16384x4x8, .f32⟩
  | .hbm, ⟨51, _⟩ => ⟨S16384x4x8, .f32⟩
  | .hbm, ⟨52, _⟩ => ⟨S16384x4x8, .f32⟩
  | .hbm, ⟨53, _⟩ => ⟨S16384x4x8, .f32⟩
  | .hbm, ⟨54, _⟩ => ⟨S16384x4x8, .f32⟩
  | .hbm, ⟨55, _⟩ => ⟨S16384x4x8, .f32⟩
  | .hbm, ⟨56, _⟩ => ⟨S16384x4x8, .f32⟩
  | .hbm, ⟨57, _⟩ => ⟨S16384x4x8, .f32⟩
  | .hbm, ⟨58, _⟩ => ⟨S16384x4x8, .f32⟩
  | .hbm, ⟨59, _⟩ => ⟨S16384x4x8, .f32⟩
  | .hbm, ⟨60, _⟩ => ⟨S16384x4x8, .f32⟩
  | .hbm, ⟨61, _⟩ => ⟨S16384x4x48, .f32⟩
  | .hbm, ⟨62, _⟩ => ⟨S16384x4x64, .f32⟩
  | .hbm, ⟨63, _⟩ => ⟨S4x16384x64, .f32⟩
  | .hbm, ⟨64, _⟩ => ⟨S4x16384x64, .bf16⟩
  | .hbm, ⟨65, _⟩ => ⟨S64x256x256, .f32⟩
  | .hbm, ⟨66, _⟩ => ⟨S64x256x256, .f32⟩
  | .hbm, ⟨67, _⟩ => ⟨S64x256x256, .bf16⟩
  | .hbm, ⟨68, _⟩ => ⟨S16384x8x64, .f32⟩
  | .hbm, ⟨69, _⟩ => ⟨S16384x1x8, .f32⟩
  | .hbm, ⟨70, _⟩ => ⟨S16384x1x8, .f32⟩
  | .hbm, ⟨71, _⟩ => ⟨S16384x8x8, .f32⟩
  | .hbm, ⟨72, _⟩ => ⟨S16384x8x8, .f32⟩
  | .hbm, ⟨73, _⟩ => ⟨S16384x8x8, .f32⟩
  | .hbm, ⟨74, _⟩ => ⟨S16384x8x8, .f32⟩
  | .hbm, ⟨75, _⟩ => ⟨S16384x8x8, .f32⟩
  | .hbm, ⟨76, _⟩ => ⟨S16384x8x8, .f32⟩
  | .hbm, ⟨77, _⟩ => ⟨S16384x8x8, .f32⟩
  | .hbm, ⟨78, _⟩ => ⟨S16384x8x8, .f32⟩
  | .hbm, ⟨79, _⟩ => ⟨S16384x8x8, .f32⟩
  | .hbm, ⟨80, _⟩ => ⟨S16384x8x8, .f32⟩
  | .hbm, ⟨81, _⟩ => ⟨S16384x8x8, .f32⟩
  | .hbm, ⟨82, _⟩ => ⟨S16384x8x8, .f32⟩
  | .hbm, ⟨83, _⟩ => ⟨S16384x8x48, .f32⟩
  | .hbm, ⟨84, _⟩ => ⟨S16384x8x64, .f32⟩
  | .hbm, ⟨85, _⟩ => ⟨S16384x512, .f32⟩
  | .hbm, ⟨86, _⟩ => ⟨S512x16384, .f32⟩
  | .hbm, ⟨87, _⟩ => ⟨S512x16384, .bf16⟩
  | .hbm, ⟨88, _⟩ => ⟨S16384x4x64, .f32⟩
  | .hbm, ⟨89, _⟩ => ⟨S16384x1x8, .f32⟩
  | .hbm, ⟨90, _⟩ => ⟨S16384x1x8, .f32⟩
  | .hbm, ⟨91, _⟩ => ⟨S16384x4x8, .f32⟩
  | .hbm, ⟨92, _⟩ => ⟨S16384x4x8, .f32⟩
  | .hbm, ⟨93, _⟩ => ⟨S16384x4x8, .f32⟩
  | .hbm, ⟨94, _⟩ => ⟨S16384x4x8, .f32⟩
  | .hbm, ⟨95, _⟩ => ⟨S16384x4x8, .f32⟩
  | .hbm, ⟨96, _⟩ => ⟨S16384x4x8, .f32⟩
  | .hbm, ⟨97, _⟩ => ⟨S16384x4x8, .f32⟩
  | .hbm, ⟨98, _⟩ => ⟨S16384x4x8, .f32⟩
  | .hbm, ⟨99, _⟩ => ⟨S16384x4x8, .f32⟩
  | .hbm, ⟨100, _⟩ => ⟨S16384x4x8, .f32⟩
  | .hbm, ⟨101, _⟩ => ⟨S16384x4x8, .f32⟩
  | .hbm, ⟨102, _⟩ => ⟨S16384x4x8, .f32⟩
  | .hbm, ⟨103, _⟩ => ⟨S16384x4x48, .f32⟩
  | .hbm, ⟨104, _⟩ => ⟨S16384x4x64, .f32⟩
  | .hbm, ⟨105, _⟩ => ⟨S16384x256, .f32⟩
  | .hbm, ⟨106, _⟩ => ⟨S_, .f32⟩
  | .hbm, ⟨107, _⟩ => ⟨S16384x256, .f32⟩
  | .hbm, ⟨108, _⟩ => ⟨S16384x256, .f32⟩
  | .hbm, ⟨109, _⟩ => ⟨S256x16384, .f32⟩
  | .hbm, ⟨110, _⟩ => ⟨S256x16384, .bf16⟩
  | .hbm, ⟨111, _⟩ => ⟨S8x16384, .f32⟩
  | .hbm, ⟨112, _⟩ => ⟨S_, .f32⟩
  | .hbm, ⟨113, _⟩ => ⟨S8x16384, .f32⟩
  | .hbm, ⟨114, _⟩ => ⟨S8x16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_cst_3 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_cst_4 : Ref sig .tc := ⟨.hbm, 112, rfl⟩
abbrev main_v105 : Ref sig .tc := ⟨.hbm, 113, rfl⟩
abbrev main_v106 : Ref sig .tc := ⟨.hbm, 114, rfl⟩

abbrev nD : Nat := 1
abbrev τ : Topo := Topo.v7x

variable {F : FTy → Type} [FloatOps F]
-- ==== Proof.AttBits.Runs.lean ====
module

public import proofs.«01_k».proof.Proof.Gen.Kernel.Skeleton
public import proofs.«01_k».proof.Proof.AttBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-! ## The kernel body per control path, on symbolic staging memrefs: a subtype the run finds -/

/-- One staging buffer of output window 3, through which its contents are stated (`View.read_writes_of_cover`). -/
abbrev VO0_3 : View sig .tc .vmem S512x256 .bf16 := (Memref.whole cc0_stg3_0 : Memref sig .tc .vmem S512x256 .bf16).view

set_option backward.proofsInPublic true in
set_option maxHeartbeats 8000000 in
/-- PATH A (points 0, 36, 72, 108): what the body leaves — per stored output its pieces (last first), per scratch its
    contents — WITH the proof that, on whole staging memrefs, from the inputs at their blocks, the tables, the outputs
    (3: stored) and the scratches (0: covered, 1: covered, 2: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Bits .i32)) (T1 : (S36.Idx → Elt Bits .i32))
     (x0 : (S512x512.Idx → Elt Bits .bf16)) (x1 : (S512x512.Idx → Elt Bits .bf16)) (x2 : (S256x512.Idx → Elt Bits .bf16)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (View.readAt (Elt Bits) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) :
    Σ' (out0 : List (View.Piece (Elt Bits) S512x256 .bf16)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_mla_flash i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_mla_flash_eq_skeleton]; unfold cc0_mla_flash_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

/-- Path A's pieces for output 3 tile its block (1 store of `S512x256`: the kernel evaluates the tiling, Lib/Ring.lean `Piece.tiledL`). -/
theorem cover0_A_3 (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Bits .i32)) (T1 : (S36.Idx → Elt Bits .i32))
     (x0 : (S512x512.Idx → Elt Bits .bf16)) (x1 : (S512x512.Idx → Elt Bits .bf16)) (x2 : (S256x512.Idx → Elt Bits .bf16)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (View.readAt (Elt Bits) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) (y : S512x256.Idx) :
    ∃ pc ∈ (kernelRun0_A c i arg4 harg4 arg5 harg5 arg6 harg6 arg7 harg7 T0 T1 x0 x1 x2 hc0 hc1 k0_h3).1, y ∈ pc.1.set :=
  View.cover_of_tiledL (kernelRun0_A c i arg4 harg4 arg5 harg5 arg6 harg6 arg7 harg7 T0 T1 x0 x1 x2 hc0 hc1 k0_h3).1 S512x256.size (by sl_kernel_rfl) y

/-- What path A leaves in output 3's staging buffer: its pieces read back over junk. -/
def out0_A_3 (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Bits .i32)) (T1 : (S36.Idx → Elt Bits .i32))
     (x0 : (S512x512.Idx → Elt Bits .bf16)) (x1 : (S512x512.Idx → Elt Bits .bf16)) (x2 : (S256x512.Idx → Elt Bits .bf16)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (View.readAt (Elt Bits) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) : (S512x256.Idx → Elt Bits .bf16) :=
  VO0_3.read (Elt Bits) (VO0_3.writes (Elt Bits) VO0_3.junk (kernelRun0_A c i arg4 harg4 arg5 harg5 arg6 harg6 arg7 harg7 T0 T1 x0 x1 x2 hc0 hc1 k0_h3).1)

set_option backward.proofsInPublic true in
set_option maxHeartbeats 8000000 in
/-- PATH B (points 1, 3, … 136: 28 of 144): what the body leaves — per stored output its pieces (last first), per scratch its
    contents — WITH the proof that, on whole staging memrefs, from the inputs at their blocks, the tables, the outputs
    (3: idle) and the scratches (0: covered, 1: covered, 2: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Bits .i32)) (T1 : (S36.Idx → Elt Bits .i32))
     (x0 : (S512x512.Idx → Elt Bits .bf16)) (x1 : (S512x512.Idx → Elt Bits .bf16)) (x2 : (S256x512.Idx → Elt Bits .bf16)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (View.readAt (Elt Bits) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S512x256.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_mla_flash i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, fun (y3 : (S512x256.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_mla_flash_eq_skeleton]; unfold cc0_mla_flash_skel
    iintro ⟨H0, H1, H2, HT0, HT1, ⟨%f3, %hf3, HO3⟩, HS0, HS1, HS2, Hk⟩
    obtain rfl := harg7.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

set_option backward.proofsInPublic true in
set_option maxHeartbeats 8000000 in
/-- PATH C (points 2, 5, … 143: 28 of 144): what the body leaves — per stored output its pieces (last first), per scratch its
    contents — WITH the proof that, on whole staging memrefs, from the inputs at their blocks, the tables, the outputs
    (3: stored) and the scratches (0: carried, 1: carried, 2: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Bits .i32)) (T1 : (S36.Idx → Elt Bits .i32))
     (x0 : (S512x512.Idx → Elt Bits .bf16)) (x1 : (S512x512.Idx → Elt Bits .bf16)) (x2 : (S256x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (View.readAt (Elt Bits) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) :
    Σ' (out0 : List (View.Piece (Elt Bits) S512x256 .bf16)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_mla_flash i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0_mla_flash_eq_skeleton]; unfold cc0_mla_flash_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

/-- Path C's pieces for output 3 tile its block (1 store of `S512x256`: the kernel evaluates the tiling, Lib/Ring.lean `Piece.tiledL`). -/
theorem cover0_C_3 (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Bits .i32)) (T1 : (S36.Idx → Elt Bits .i32))
     (x0 : (S512x512.Idx → Elt Bits .bf16)) (x1 : (S512x512.Idx → Elt Bits .bf16)) (x2 : (S256x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (View.readAt (Elt Bits) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) (y : S512x256.Idx) :
    ∃ pc ∈ (kernelRun0_C c i arg4 harg4 arg5 harg5 arg6 harg6 arg7 harg7 T0 T1 x0 x1 x2 xa0 xa1 xa2 hc0 hc1 k0_h3).1, y ∈ pc.1.set :=
  View.cover_of_tiledL (kernelRun0_C c i arg4 harg4 arg5 harg5 arg6 harg6 arg7 harg7 T0 T1 x0 x1 x2 xa0 xa1 xa2 hc0 hc1 k0_h3).1 S512x256.size (by sl_kernel_rfl) y

/-- What path C leaves in output 3's staging buffer: its pieces read back over junk. -/
def out0_C_3 (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Bits .i32)) (T1 : (S36.Idx → Elt Bits .i32))
     (x0 : (S512x512.Idx → Elt Bits .bf16)) (x1 : (S512x512.Idx → Elt Bits .bf16)) (x2 : (S256x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (View.readAt (Elt Bits) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) : (S512x256.Idx → Elt Bits .bf16) :=
  VO0_3.read (Elt Bits) (VO0_3.writes (Elt Bits) VO0_3.junk (kernelRun0_C c i arg4 harg4 arg5 harg5 arg6 harg6 arg7 harg7 T0 T1 x0 x1 x2 xa0 xa1 xa2 hc0 hc1 k0_h3).1)

set_option backward.proofsInPublic true in
set_option maxHeartbeats 8000000 in
/-- PATH D (points 4, 7, … 142: 84 of 144): what the body leaves — per stored output its pieces (last first), per scratch its
    contents — WITH the proof that, on whole staging memrefs, from the inputs at their blocks, the tables, the outputs
    (3: idle) and the scratches (0: carried, 1: carried, 2: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Bits .i32)) (T1 : (S36.Idx → Elt Bits .i32))
     (x0 : (S512x512.Idx → Elt Bits .bf16)) (x1 : (S512x512.Idx → Elt Bits .bf16)) (x2 : (S256x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (View.readAt (Elt Bits) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S512x256.Idx → Elt Bits .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_mla_flash i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, fun (y3 : (S512x256.Idx → Elt Bits .bf16)) K => by
    unfold owns
    rw [cc0_mla_flash_eq_skeleton]; unfold cc0_mla_flash_skel
    iintro ⟨H0, H1, H2, HT0, HT1, ⟨%f3, %hf3, HO3⟩, HS0, HS1, HS2, Hk⟩
    obtain rfl := harg7.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

end Cert.Kernel.Att

end
-- ==== Proof.AttBits.Ok0.lean ====
module

public import proofs.«01_k».proof.Proof.AttBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

theorem ok_pfN_0_0_inb : ∀ i : grid0.Coords, ∀ a, (cc0_transform_0 k0_off1_inb numel1_S1 (pfN (⟨0, by omega⟩ : Fin 1)) i a + 1) * S512x512.size a ≤ S16384x512.size a := by decide +kernel
theorem ok_pfN_0_0 : (∀ i : grid0.Coords, ∃ h : (∀ a, (cc0_transform_0 k0_off1_inb numel1_S1 (pfN (⟨0, by omega⟩ : Fin 1)) i a + 1) * S512x512.size a ≤ S16384x512.size a), EltTy.bits .bf16 = 32 ∨ (Rect.block (s := S16384x512) S512x512.size (cc0_transform_0 k0_off1_inb numel1_S1 (pfN (⟨0, by omega⟩ : Fin 1)) i) h).WholeWords (EltTy.packing .bf16)) := fun i => ⟨ok_pfN_0_0_inb i, .inr (Affine.block_words_dvd (s := S16384x512) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S512x512.size a ≤ S16384x512.size a := by decide +kernel
theorem ok_pfN_0_1 : (∀ i : grid0.Coords, ∃ h : (∀ a, (cc0_transform_1 k0_off1_inb numel1_S1 (pfN (⟨0, by omega⟩ : Fin 1)) i a + 1) * S512x512.size a ≤ S16384x512.size a), EltTy.bits .bf16 = 32 ∨ (Rect.block (s := S16384x512) S512x512.size (cc0_transform_1 k0_off1_inb numel1_S1 (pfN (⟨0, by omega⟩ : Fin 1)) i) h).WholeWords (EltTy.packing .bf16)) := fun i => ⟨ok_pfN_0_1_inb i, .inr (Affine.block_words_dvd (s := S16384x512) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S256x512.size a ≤ S256x16384.size a := by decide +kernel
theorem ok_pfN_0_2 : (∀ i : grid0.Coords, ∃ h : (∀ a, (cc0_transform_2 k0_off1_inb numel1_S1 (pfN (⟨0, by omega⟩ : Fin 1)) i a + 1) * S256x512.size a ≤ S256x16384.size a), EltTy.bits .bf16 = 32 ∨ (Rect.block (s := S256x16384) S256x512.size (cc0_transform_2 k0_off1_inb numel1_S1 (pfN (⟨0, by omega⟩ : Fin 1)) i) h).WholeWords (EltTy.packing .bf16)) := fun i => ⟨ok_pfN_0_2_inb i, .inr (Affine.block_words_dvd (s := S256x16384) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S512x256.size a ≤ S16384x256.size a := by decide +kernel
theorem ok_pfN_0_3 : (∀ i : grid0.Coords, ∃ h : (∀ a, (cc0_transform_3 k0_off1_inb numel1_S1 (pfN (⟨0, by omega⟩ : Fin 1)) i a + 1) * S512x256.size a ≤ S16384x256.size a), EltTy.bits .bf16 = 32 ∨ (Rect.block (s := S16384x256) S512x256.size (cc0_transform_3 k0_off1_inb numel1_S1 (pfN (⟨0, by omega⟩ : Fin 1)) i) h).WholeWords (EltTy.packing .bf16)) := fun i => ⟨ok_pfN_0_3_inb i, .inr (Affine.block_words_dvd (s := S16384x256) (p := EltTy.packing .bf16) (by decide) (by decide))⟩
theorem ok_pfN_0 : ok0 (F := Bits) (pfN (⟨0, by omega⟩ : Fin 1)) := ⟨ok_pfN_0_0, ok_pfN_0_1, ok_pfN_0_2, ok_pfN_0_3⟩

end Cert.Kernel.Att

end
-- ==== Proof.AttBits.Cfg.lean ====
module

public import proofs.«01_k».proof.Proof.AttBits.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)

/-- The side condition holds of the pinned tables at EVERY member (every block inside its array). -/
theorem ok_pfN : ∀ ch : Fin 1, ok0 (F := Bits) (pfN ch) := fun ch => match ch with
  | ⟨0, _⟩ => ok_pfN_0
  | ⟨_ + 1, h⟩ => absurd h (by omega)

/-- The admissible contents, the pipeline at them (`cfgA ch`: member `ch`'s grid, 144 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x512 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S512x512 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S256x512 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S512x256 .bf16 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

set_option backward.proofsInPublic true in
/-- Whether output 3 holds junk BEFORE each position `1 ‥ N` of member `ch`'s grid — nothing stored into it since
    its last write-back —: the classifier's table (written back at the point before, or idle there and junk
    before it) as a bitmask, bit `n` for position `n + 1`, which `frTab0_3_step` checks against the pipeline's
    own recursion point by point (a bit test is one kernel step; a list walk or the recursion, hundreds). -/
def frMask0_3 : Fin 1 → ℕ
  | ⟨0, _⟩ => 0xffffffffffffffffffffffffffffffffffff
  | ⟨_ + 1, h⟩ => absurd h (by omega)
/-- `(cfgA ch).fresh 3` TABULATED (TableIdle.lean `Cfg.fresh_tab`): true before the first point, then the table. -/
def frTab0_3 : ℕ → Bool
  | 0 => true
  | n + 1 => (frMask0_3 ch).testBit n

end Cert.Kernel.Att

end
-- ==== Proof.AttBits.Facts.lean ====
module

public import proofs.«01_k».proof.Proof.AttBits.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)
variable (m : (ℓ : Loc nD τ sig) → Buf (Elt Bits) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, frTab0_3_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True))))
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch (t.val + 1) = false ∧ sfrTab0_1 ch (t.val + 1) = false ∧ sfrTab0_2 ch (t.val + 1) = false)
  ∧ (P0_0 ch t → P0_1 ch t → ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True))))
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → ¬P0_1 ch t → (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True))))
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → P0_1 ch t → (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True))))
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.Kernel.Att

end
-- ==== Proof.AttBits.Run.lean ====
module

public import proofs.«01_k».proof.Proof.AttBits.Runs
public import proofs.«01_k».proof.Proof.AttBits.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Bits) ℓ) (ρ : Dev nD → PrngReg)

/-- The facts at every point of every member. -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem frTab0_3_step : ∀ (ch : Fin 1) (t : Fin (cfgA ch).N),
    frTab0_3 ch (t.val + 1) = (((cfgA ch).win (3 : Fin 4)).flush t || ((cfgA ch).idle (3 : Fin 4) ((cfgA ch).grid.coords t) && frTab0_3 ch t.val)) := fun ch t => (allFacts ch t).2.2.2.1
theorem freshF0_3 (t : Fin (cfgA ch).N) : (cfgA ch).fresh (3 : Fin 4) t.val = frTab0_3 ch t.val :=
  Pipeline.Cfg.fresh_tab (cfgA ch) (3 : Fin 4) (frTab0_3 ch) rfl (frTab0_3_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → ¬P0_1 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True))) := fun ch t => (allFacts ch t).2.2.2.2.1

theorem hypsR0_A : ∀ (ch : Fin 1) (t : Fin (cfgA ch).N), P0_0 ch t → ¬P0_1 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True))) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false ∧ sfresh0_2 ch (t.val + 1) = false := by
  intro ch t; rw [freshF0_3 ch t, sfreshS0_0 ch t, sfreshS0_1 ch t, sfreshS0_2 ch t]; exact (fun ch t => (allFacts ch t).2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → P0_1 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True))) := fun ch t => (allFacts ch t).2.2.2.2.2.2.1

theorem hypsR0_B : ∀ (ch : Fin 1) (t : Fin (cfgA ch).N), P0_0 ch t → P0_1 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True))) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True))) := fun ch t => (allFacts ch t).2.2.2.2.2.2.2.2.1

theorem hypsR0_C : ∀ (ch : Fin 1) (t : Fin (cfgA ch).N), ¬P0_0 ch t → ¬P0_1 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True))) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → P0_1 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True))) := fun ch t => (allFacts ch t).2.2.2.2.2.2.2.2.2.2.1

theorem hypsR0_D : ∀ (ch : Fin 1) (t : Fin (cfgA ch).N), ¬P0_0 ch t → P0_1 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (View.readAt (Elt Bits) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True))) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.2.2) ch t

/-! ## What the outputs and scratches hold after each point -/

/-- ONE STEP of the trajectory: what the outputs' current buffers and the scratches hold after the body at point `t`
    (output 3, scratch 0, scratch 1, scratch 2), from what they held before (`prev`): the path the decisions select at `t`, its
    run's contents; an output the path leaves idle keeps what it held (junk — `default`, named by nothing — where fresh). -/
def step0 (c : Dev nD) (t : Fin (cfgA ch).N) (prev : (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2)) : (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if q0 : P0_0 ch t then
    if q1 : P0_1 ch t then
      ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).2.2.1)
    else
      (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.2.1)
  else
    if q1 : P0_1 ch t then
      ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).2.2.1)
    else
      (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.2.2.1)

/-- THE TRAJECTORY: after position `n`. -/
def traj0 (c : Dev nD) : (n : ℕ) → n < (cfgA ch).N → (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2)) (q0 : P0_0 ch t) (q1 : ¬P0_1 ch t) :
    step0 ch m ρ c t prev = (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.2.1) := by
  unfold step0; simp only [dif_pos q0, dif_neg q1]

/-- `step0` at a point of path B. -/
theorem step0_B (c : Dev nD) (t : Fin (cfgA ch).N) (prev : (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2)) (q0 : P0_0 ch t) (q1 : P0_1 ch t) :
    step0 ch m ρ c t prev = ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).2.2.1) := by
  unfold step0; simp only [dif_pos q0, dif_pos q1]

/-- `step0` at a point of path C. -/
theorem step0_C (c : Dev nD) (t : Fin (cfgA ch).N) (prev : (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2)) (q0 : ¬P0_0 ch t) (q1 : ¬P0_1 ch t) :
    step0 ch m ρ c t prev = (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.2.2.1) := by
  unfold step0; simp only [dif_neg q0, dif_neg q1]

/-- `step0` at a point of path D. -/
theorem step0_D (c : Dev nD) (t : Fin (cfgA ch).N) (prev : (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2)) (q0 : ¬P0_0 ch t) (q1 : P0_1 ch t) :
    step0 ch m ρ c t prev = ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).2.2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S512x256.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · rw [step0_B ch m ρ c t _ q0 q1]
      simp only [hf, Bool.false_eq_true, ↓reduceIte]
      unfold prev0; rw [dif_neg ht]
    · obtain ⟨i3, -, -, -, -, -⟩ := sched0_A ch t q0 q1
      rw [i3] at hi; exact absurd hi (by decide)
  · by_cases q1 : P0_1 ch t
    · rw [step0_D ch m ρ c t _ q0 q1]
      simp only [hf, Bool.false_eq_true, ↓reduceIte]
      unfold prev0; rw [dif_neg ht]
    · obtain ⟨i3, -, -, -, -, -, -, -, -⟩ := sched0_C ch t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_mla_flash (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sf0, sfn0, sf1, sfn1, sf2, sfn2⟩ := sched0_B ch t q0 q1
      have F0 := hypsR0_B ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 hc1 k0_h3).2.2.2 _ a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sfn0, sfn1, sfn2⟩ := sched0_A ch t q0 q1
      have F0 := hypsR0_A ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 hc1 k0_h3).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 ch t
    · obtain ⟨i3, f3, fr3, sf0, sfn0, sf1, sfn1, sf2, sfn2⟩ := sched0_D ch t q0 q1
      have F0 := hypsR0_D ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ _ hc0 hc1 k0_h3).2.2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1, sf2, sfn2⟩ := sched0_C ch t q0 q1
      have F0 := hypsR0_C ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ _ hc0 hc1 k0_h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _)

/-- The library's body obligation, at every point. -/
theorem body_obligation (c : Dev nD) : BodyObligation (dats ch m ρ 0 c) (defs₀ (F := Bits)) Variants.none () Set.univ := fun t => by
  rw [bigSep_W0]
  exact sound_body ch m ρ c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- What each TensorCore buffer holds when the region is entered: the launch memory after the two host operations that
    write the schedule tables. -/
abbrev V (c : Dev nD) (b : Ref sig .tc) : Buf (Elt Bits) ((c : Thread nD τ).loc b) := StableHlo.after (hostOps0 (F := Bits)) (fun b => m (c, b)) b

/-- The table operations leave a buffer that is neither table alone. -/
theorem V_of_ne (c : Dev nD) (b : Ref sig .tc) (h0 : b ≠ main_c) (h1 : b ≠ main_c_0) : V m c b = m ((c : Thread nD τ).loc b) := by
  show StableHlo.after _ _ _ = _
  rw [StableHlo.after_cons, StableHlo.after_cons, StableHlo.after_nil, StableHlo.nullary_result_ne _ _ _ _ h1, StableHlo.nullary_result_ne _ _ _ _ h0]

theorem lit0_eq : ∀ x : S36.Idx, lit0 (S36.rowMajor x) = pinT_0 ch x := by decide +kernel +revert
theorem lit1_eq : ∀ x : S36.Idx, lit1 (S36.rowMajor x) = pinT_1 ch x := by decide +kernel +revert

/-- The tables hold the schedule when the region is entered. -/
theorem V_pre (c : Dev nD) (j : Fin 2) : V m c (pre0.ref j) = (adm ch).1 j := by
  fin_cases j
  · show V m c main_c = pinT_0 ch
    show StableHlo.after _ _ _ = _
    rw [StableHlo.after_cons, StableHlo.after_cons, StableHlo.after_nil, StableHlo.nullary_result_ne _ _ _ _ (by decide), StableHlo.nullary_result]
    funext x; exact lit0_eq ch x
  · show V m c main_c_0 = pinT_1 ch
    show StableHlo.after _ _ _ = _
    rw [StableHlo.after_cons, StableHlo.after_cons, StableHlo.after_nil, StableHlo.nullary_result]
    funext x; exact lit1_eq ch x

theorem hostOps0_fresh : (hostOps0 (F := Bits)).Forall fun op => op.fresh = ∅ := by
  simp only [List.Forall]; repeat' constructor

set_option backward.isDefEq.respectTransparency.types false in
set_option maxHeartbeats 4000000 in
/-- At the compiled mesh, from any memory with zero counters : every weakly
    fair execution of @main on the TensorCores terminates, and every final state has each array at the computed contents,
    and every semaphore counter of the machine at zero. -/
theorem run_main_quiescent : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := V m)
    (hmain := Pipeline.hmainP_prefix _ (0 : Fin 1) defs₀ Variants.none m main hostOps0 hostOps0_sub hostOps0_fresh main_chain)
    (hsplit := fun c => Pipeline.arrays_split (pcs ch) (dats ch m ρ) 0 (launch0 (F := Bits)).win.arr_inj c (launch0 (F := Bits)).arr_whole
      (share_eq ch m ρ c) _ _ fun w => by
        fin_cases w
        · exact V_of_ne m c main_arg0 (by decide) (by decide)
        · exact V_of_ne m c main_arg1 (by decide) (by decide)
        · exact V_of_ne m c main_arg2 (by decide) (by decide)
        · exact V_of_ne m c main_v0 (by decide) (by decide))
    (hpf := V_pre ch m)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := Bits)) (onTc (τ := τ) (main (F := Bits))) (s₀ m ρ) (QC ch m ρ) :=
  (θ_run defs _ _).mono (fun _ h => h.1) (run_main_quiescent ch m ρ)

/-- The argument arrays end unchanged. -/
theorem unchanged :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 (0 : Fin 4)).trans ((dats 0 m ρ 0 c).arrAt_in (0 : Fin 4) rfl _), ((h c).1 (1 : Fin 4)).trans ((dats 0 m ρ 0 c).arrAt_in (1 : Fin 4) rfl _), ((h c).1 (2 : Fin 4)).trans ((dats 0 m ρ 0 c).arrAt_in (2 : Fin 4) rfl _)⟩) (run_main 0 m ρ)

/-- The frame: every weakly fair execution terminates, nothing faults, every argument array ends unchanged and every
    semaphore counter of the machine reads zero at every final state. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent 0 m ρ))

end Cert.Kernel.Att

end
-- ==== Proof.AttIdeal.Pins.lean ====
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The tables and scratches the kernel is handed, whole, at their literal types. -/
abbrev tbM0_0 : Memref sig .tc .smem S36 .i32 := Memref.whole main_c
abbrev tbM0_1 : Memref sig .tc .smem S36 .i32 := Memref.whole main_c_0
abbrev scM0_0 : Memref sig .tc .vmem S4x1x512 .f32 := Memref.whole cc0_scratch0
abbrev scM0_1 : Memref sig .tc .vmem S4x1x512 .f32 := Memref.whole cc0_scratch1
abbrev scM0_2 : Memref sig .tc .vmem S256x512 .f32 := Memref.whole cc0_scratch2

/-! ## The pinned words: the tables and the steering windows' arrays, closed forms of the schedule index `ch` -/

/- The schedule index: there is one schedule. -/
variable (ch : Fin 1)

/-- Prefetched table 0 (`main_c`, [36]). -/
def pinT_0 (ch : Fin 1) : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Prefetched table 1 (`main_c_0`, [36]). -/
def pinT_1 (ch : Fin 1) : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

set_option backward.proofsInPublic true in
/-- The tables' contents the certificate is written at, member `ch`'s. -/
def pfN : pre0.Contents (Elt Ideal) := fun | ⟨0, _⟩ => pinT_0 ch | ⟨1, _⟩ => pinT_1 ch | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

end Cert.KernelIdeal.Att

end
-- ==== Proof.AttIdeal.Runs.lean ====
module

public import proofs.«01_k».proof.Proof.Gen.KernelIdeal.Skeleton
public import proofs.«01_k».proof.Proof.AttIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-! ## The kernel body per control path, on symbolic staging memrefs: a subtype the run finds -/

/-- One staging buffer of output window 3, through which its contents are stated (`View.read_writes_of_cover`). -/
abbrev VO0_3 : View sig .tc .vmem S512x256 .bf16 := (Memref.whole cc0_stg3_0 : Memref sig .tc .vmem S512x256 .bf16).view

set_option backward.proofsInPublic true in
set_option maxHeartbeats 8000000 in
/-- PATH A (points 0, 36, 72, 108): what the body leaves — per stored output its pieces (last first), per scratch its
    contents — WITH the proof that, on whole staging memrefs, from the inputs at their blocks, the tables, the outputs
    (3: stored) and the scratches (0: covered, 1: covered, 2: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    Σ' (out0 : List (View.Piece (Elt Ideal) S512x256 .bf16)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_mla_flash i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_mla_flash_eq_skeleton]; unfold cc0_mla_flash_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

/-- Path A's pieces for output 3 tile its block (1 store of `S512x256`: the kernel evaluates the tiling, Lib/Ring.lean `Piece.tiledL`). -/
theorem cover0_A_3 (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (y : S512x256.Idx) :
    ∃ pc ∈ (kernelRun0_A c i arg4 harg4 arg5 harg5 arg6 harg6 arg7 harg7 T0 T1 x0 x1 x2 hc0 hc1 k0_h3).1, y ∈ pc.1.set :=
  View.cover_of_tiledL (kernelRun0_A c i arg4 harg4 arg5 harg5 arg6 harg6 arg7 harg7 T0 T1 x0 x1 x2 hc0 hc1 k0_h3).1 S512x256.size (by sl_kernel_rfl) y

/-- What path A leaves in output 3's staging buffer: its pieces read back over junk. -/
def out0_A_3 (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) : (S512x256.Idx → Elt Ideal .bf16) :=
  VO0_3.read (Elt Ideal) (VO0_3.writes (Elt Ideal) VO0_3.junk (kernelRun0_A c i arg4 harg4 arg5 harg5 arg6 harg6 arg7 harg7 T0 T1 x0 x1 x2 hc0 hc1 k0_h3).1)

set_option backward.proofsInPublic true in
set_option maxHeartbeats 8000000 in
/-- PATH B (points 1, 3, … 136: 28 of 144): what the body leaves — per stored output its pieces (last first), per scratch its
    contents — WITH the proof that, on whole staging memrefs, from the inputs at their blocks, the tables, the outputs
    (3: idle) and the scratches (0: covered, 1: covered, 2: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S512x256.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_mla_flash i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, fun (y3 : (S512x256.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_mla_flash_eq_skeleton]; unfold cc0_mla_flash_skel
    iintro ⟨H0, H1, H2, HT0, HT1, ⟨%f3, %hf3, HO3⟩, HS0, HS1, HS2, Hk⟩
    obtain rfl := harg7.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

set_option backward.proofsInPublic true in
set_option maxHeartbeats 8000000 in
/-- PATH C (points 2, 5, … 143: 28 of 144): what the body leaves — per stored output its pieces (last first), per scratch its
    contents — WITH the proof that, on whole staging memrefs, from the inputs at their blocks, the tables, the outputs
    (3: stored) and the scratches (0: carried, 1: carried, 2: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    Σ' (out0 : List (View.Piece (Elt Ideal) S512x256 .bf16)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_mla_flash i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0_mla_flash_eq_skeleton]; unfold cc0_mla_flash_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

/-- Path C's pieces for output 3 tile its block (1 store of `S512x256`: the kernel evaluates the tiling, Lib/Ring.lean `Piece.tiledL`). -/
theorem cover0_C_3 (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (y : S512x256.Idx) :
    ∃ pc ∈ (kernelRun0_C c i arg4 harg4 arg5 harg5 arg6 harg6 arg7 harg7 T0 T1 x0 x1 x2 xa0 xa1 xa2 hc0 hc1 k0_h3).1, y ∈ pc.1.set :=
  View.cover_of_tiledL (kernelRun0_C c i arg4 harg4 arg5 harg5 arg6 harg6 arg7 harg7 T0 T1 x0 x1 x2 xa0 xa1 xa2 hc0 hc1 k0_h3).1 S512x256.size (by sl_kernel_rfl) y

/-- What path C leaves in output 3's staging buffer: its pieces read back over junk. -/
def out0_C_3 (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) : (S512x256.Idx → Elt Ideal .bf16) :=
  VO0_3.read (Elt Ideal) (VO0_3.writes (Elt Ideal) VO0_3.junk (kernelRun0_C c i arg4 harg4 arg5 harg5 arg6 harg6 arg7 harg7 T0 T1 x0 x1 x2 xa0 xa1 xa2 hc0 hc1 k0_h3).1)

set_option backward.proofsInPublic true in
set_option maxHeartbeats 8000000 in
/-- PATH D (points 4, 7, … 142: 84 of 144): what the body leaves — per stored output its pieces (last first), per scratch its
    contents — WITH the proof that, on whole staging memrefs, from the inputs at their blocks, the tables, the outputs
    (3: idle) and the scratches (0: carried, 1: carried, 2: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S512x256.Idx → Elt Ideal .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_mla_flash i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, fun (y3 : (S512x256.Idx → Elt Ideal .bf16)) K => by
    unfold owns
    rw [cc0_mla_flash_eq_skeleton]; unfold cc0_mla_flash_skel
    iintro ⟨H0, H1, H2, HT0, HT1, ⟨%f3, %hf3, HO3⟩, HS0, HS1, HS2, Hk⟩
    obtain rfl := harg7.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

end Cert.KernelIdeal.Att

end
-- ==== Proof.AttIdeal.Ok0.lean ====
module

public import proofs.«01_k».proof.Proof.AttIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S512x512.size a ≤ S16384x512.size a := by decide +kernel
theorem ok_pfN_0_0 : (∀ i : grid0.Coords, ∃ h : (∀ a, (cc0_transform_0 k0_off1_inb numel1_S1 (pfN (⟨0, by omega⟩ : Fin 1)) i a + 1) * S512x512.size a ≤ S16384x512.size a), EltTy.bits .bf16 = 32 ∨ (Rect.block (s := S16384x512) S512x512.size (cc0_transform_0 k0_off1_inb numel1_S1 (pfN (⟨0, by omega⟩ : Fin 1)) i) h).WholeWords (EltTy.packing .bf16)) := fun i => ⟨ok_pfN_0_0_inb i, .inr (Affine.block_words_dvd (s := S16384x512) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S512x512.size a ≤ S16384x512.size a := by decide +kernel
theorem ok_pfN_0_1 : (∀ i : grid0.Coords, ∃ h : (∀ a, (cc0_transform_1 k0_off1_inb numel1_S1 (pfN (⟨0, by omega⟩ : Fin 1)) i a + 1) * S512x512.size a ≤ S16384x512.size a), EltTy.bits .bf16 = 32 ∨ (Rect.block (s := S16384x512) S512x512.size (cc0_transform_1 k0_off1_inb numel1_S1 (pfN (⟨0, by omega⟩ : Fin 1)) i) h).WholeWords (EltTy.packing .bf16)) := fun i => ⟨ok_pfN_0_1_inb i, .inr (Affine.block_words_dvd (s := S16384x512) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S256x512.size a ≤ S256x16384.size a := by decide +kernel
theorem ok_pfN_0_2 : (∀ i : grid0.Coords, ∃ h : (∀ a, (cc0_transform_2 k0_off1_inb numel1_S1 (pfN (⟨0, by omega⟩ : Fin 1)) i a + 1) * S256x512.size a ≤ S256x16384.size a), EltTy.bits .bf16 = 32 ∨ (Rect.block (s := S256x16384) S256x512.size (cc0_transform_2 k0_off1_inb numel1_S1 (pfN (⟨0, by omega⟩ : Fin 1)) i) h).WholeWords (EltTy.packing .bf16)) := fun i => ⟨ok_pfN_0_2_inb i, .inr (Affine.block_words_dvd (s := S256x16384) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S512x256.size a ≤ S16384x256.size a := by decide +kernel
theorem ok_pfN_0_3 : (∀ i : grid0.Coords, ∃ h : (∀ a, (cc0_transform_3 k0_off1_inb numel1_S1 (pfN (⟨0, by omega⟩ : Fin 1)) i a + 1) * S512x256.size a ≤ S16384x256.size a), EltTy.bits .bf16 = 32 ∨ (Rect.block (s := S16384x256) S512x256.size (cc0_transform_3 k0_off1_inb numel1_S1 (pfN (⟨0, by omega⟩ : Fin 1)) i) h).WholeWords (EltTy.packing .bf16)) := fun i => ⟨ok_pfN_0_3_inb i, .inr (Affine.block_words_dvd (s := S16384x256) (p := EltTy.packing .bf16) (by decide) (by decide))⟩
theorem ok_pfN_0 : ok0 (F := Ideal) (pfN (⟨0, by omega⟩ : Fin 1)) := ⟨ok_pfN_0_0, ok_pfN_0_1, ok_pfN_0_2, ok_pfN_0_3⟩

end Cert.KernelIdeal.Att

end
-- ==== Proof.AttIdeal.Cfg.lean ====
module

public import proofs.«01_k».proof.Proof.AttIdeal.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)

/-- The side condition holds of the pinned tables at EVERY member (every block inside its array). -/
theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: member `ch`'s grid, 144 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x512 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S512x512 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S256x512 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S512x256 .bf16 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

set_option backward.proofsInPublic true in
/-- Whether output 3 holds junk BEFORE each position `1 ‥ N` of member `ch`'s grid — nothing stored into it since
    its last write-back —: the classifier's table (written back at the point before, or idle there and junk
    before it) as a bitmask, bit `n` for position `n + 1`, which `frTab0_3_step` checks against the pipeline's
    own recursion point by point (a bit test is one kernel step; a list walk or the recursion, hundreds). -/
def frMask0_3 : Fin 1 → ℕ
  | ⟨0, _⟩ => 0xffffffffffffffffffffffffffffffffffff
  | ⟨_ + 1, h⟩ => absurd h (by omega)
/-- `(cfgA ch).fresh 3` TABULATED (TableIdle.lean `Cfg.fresh_tab`): true before the first point, then the table. -/
def frTab0_3 : ℕ → Bool
  | 0 => true
  | n + 1 => (frMask0_3 ch).testBit n

end Cert.KernelIdeal.Att

end
-- ==== Proof.AttIdeal.Facts.lean ====
module

public import proofs.«01_k».proof.Proof.AttIdeal.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, frTab0_3_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True))))
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch (t.val + 1) = false ∧ sfrTab0_1 ch (t.val + 1) = false ∧ sfrTab0_2 ch (t.val + 1) = false)
  ∧ (P0_0 ch t → P0_1 ch t → ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True))))
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → ¬P0_1 ch t → (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True))))
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → P0_1 ch t → (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True))))
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.KernelIdeal.Att

end
-- ==== Proof.AttIdeal.Facts0.lean ====
module

public import proofs.«01_k».proof.Proof.AttIdeal.Facts

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem allFacts_0_0 : ∀ t : Fin (cfgA (⟨0, by omega⟩ : Fin 1)).N, 0 ≤ t.val → t.val < 18 → FactsAt (⟨0, by omega⟩ : Fin 1) t := by decide +kernel
theorem allFacts_0_1 : ∀ t : Fin (cfgA (⟨0, by omega⟩ : Fin 1)).N, 18 ≤ t.val → t.val < 36 → FactsAt (⟨0, by omega⟩ : Fin 1) t := by decide +kernel
theorem allFacts_0_2 : ∀ t : Fin (cfgA (⟨0, by omega⟩ : Fin 1)).N, 36 ≤ t.val → t.val < 54 → FactsAt (⟨0, by omega⟩ : Fin 1) t := by decide +kernel
theorem allFacts_0_3 : ∀ t : Fin (cfgA (⟨0, by omega⟩ : Fin 1)).N, 54 ≤ t.val → t.val < 72 → FactsAt (⟨0, by omega⟩ : Fin 1) t := by decide +kernel
theorem allFacts_0_4 : ∀ t : Fin (cfgA (⟨0, by omega⟩ : Fin 1)).N, 72 ≤ t.val → t.val < 90 → FactsAt (⟨0, by omega⟩ : Fin 1) t := by decide +kernel
theorem allFacts_0_5 : ∀ t : Fin (cfgA (⟨0, by omega⟩ : Fin 1)).N, 90 ≤ t.val → t.val < 108 → FactsAt (⟨0, by omega⟩ : Fin 1) t := by decide +kernel
theorem allFacts_0_6 : ∀ t : Fin (cfgA (⟨0, by omega⟩ : Fin 1)).N, 108 ≤ t.val → t.val < 126 → FactsAt (⟨0, by omega⟩ : Fin 1) t := by decide +kernel
theorem allFacts_0_7 : ∀ t : Fin (cfgA (⟨0, by omega⟩ : Fin 1)).N, 126 ≤ t.val → t.val < 144 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 18 with h1 | h1; · exact allFacts_0_0 t h0 h1
  rcases Nat.lt_or_ge t.val 36 with h2 | h2; · exact allFacts_0_1 t h1 h2
  rcases Nat.lt_or_ge t.val 54 with h3 | h3; · exact allFacts_0_2 t h2 h3
  rcases Nat.lt_or_ge t.val 72 with h4 | h4; · exact allFacts_0_3 t h3 h4
  rcases Nat.lt_or_ge t.val 90 with h5 | h5; · exact allFacts_0_4 t h4 h5
  rcases Nat.lt_or_ge t.val 108 with h6 | h6; · exact allFacts_0_5 t h5 h6
  rcases Nat.lt_or_ge t.val 126 with h7 | h7; · exact allFacts_0_6 t h6 h7
  exact allFacts_0_7 t h7 t.isLt

end Cert.KernelIdeal.Att

end
-- ==== Proof.AttIdeal.Run.lean ====
module

public import proofs.«01_k».proof.Proof.AttIdeal.Runs
public import proofs.«01_k».proof.Proof.AttIdeal.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

/-- The facts at every point of every member. -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem frTab0_3_step : ∀ (ch : Fin 1) (t : Fin (cfgA ch).N),
    frTab0_3 ch (t.val + 1) = (((cfgA ch).win (3 : Fin 4)).flush t || ((cfgA ch).idle (3 : Fin 4) ((cfgA ch).grid.coords t) && frTab0_3 ch t.val)) := fun ch t => (allFacts ch t).2.2.2.1
theorem freshF0_3 (t : Fin (cfgA ch).N) : (cfgA ch).fresh (3 : Fin 4) t.val = frTab0_3 ch t.val :=
  Pipeline.Cfg.fresh_tab (cfgA ch) (3 : Fin 4) (frTab0_3 ch) rfl (frTab0_3_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → ¬P0_1 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True))) := fun ch t => (allFacts ch t).2.2.2.2.1

theorem hypsR0_A : ∀ (ch : Fin 1) (t : Fin (cfgA ch).N), P0_0 ch t → ¬P0_1 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True))) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false ∧ sfresh0_2 ch (t.val + 1) = false := by
  intro ch t; rw [freshF0_3 ch t, sfreshS0_0 ch t, sfreshS0_1 ch t, sfreshS0_2 ch t]; exact (fun ch t => (allFacts ch t).2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → P0_1 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True))) := fun ch t => (allFacts ch t).2.2.2.2.2.2.1

theorem hypsR0_B : ∀ (ch : Fin 1) (t : Fin (cfgA ch).N), P0_0 ch t → P0_1 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True))) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True))) := fun ch t => (allFacts ch t).2.2.2.2.2.2.2.2.1

theorem hypsR0_C : ∀ (ch : Fin 1) (t : Fin (cfgA ch).N), ¬P0_0 ch t → ¬P0_1 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True))) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True))) := fun ch t => (allFacts ch t).2.2.2.2.2.2.2.2.2.2.1

theorem hypsR0_D : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (View.readAt (Elt Ideal) (tbM0_0).view (Rect.unit (s := S36) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True))) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.2.2) ch t

/-! ## What the outputs and scratches hold after each point -/

/-- ONE STEP of the trajectory: what the outputs' current buffers and the scratches hold after the body at point `t`
    (output 3, scratch 0, scratch 1, scratch 2), from what they held before (`prev`): the path the decisions select at `t`, its
    run's contents; an output the path leaves idle keeps what it held (junk — `default`, named by nothing — where fresh). -/
def step0 (c : Dev nD) (t : Fin (cfgA ch).N) (prev : (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) : (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if q0 : P0_0 ch t then
    if q1 : P0_1 ch t then
      ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).2.2.1)
    else
      (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.2.1)
  else
    if q1 : P0_1 ch t then
      ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).2.2.1)
    else
      (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.2.2.1)

/-- THE TRAJECTORY: after position `n`. -/
def traj0 (c : Dev nD) : (n : ℕ) → n < (cfgA ch).N → (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 ch t) (q1 : ¬P0_1 ch t) :
    step0 ch m ρ c t prev = (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.2.1) := by
  unfold step0; simp only [dif_pos q0, dif_neg q1]

/-- `step0` at a point of path B. -/
theorem step0_B (c : Dev nD) (t : Fin (cfgA ch).N) (prev : (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 ch t) (q1 : P0_1 ch t) :
    step0 ch m ρ c t prev = ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1).2.2.1) := by
  unfold step0; simp only [dif_pos q0, dif_pos q1]

/-- `step0` at a point of path C. -/
theorem step0_C (c : Dev nD) (t : Fin (cfgA ch).N) (prev : (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) (q1 : ¬P0_1 ch t) :
    step0 ch m ρ c t prev = (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1).2.2.2.1) := by
  unfold step0; simp only [dif_neg q0, dif_neg q1]

/-- `step0` at a point of path D. -/
theorem step0_D (c : Dev nD) (t : Fin (cfgA ch).N) (prev : (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) (q1 : P0_1 ch t) :
    step0 ch m ρ c t prev = ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1).2.2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S512x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · rw [step0_B ch m ρ c t _ q0 q1]
      simp only [hf, Bool.false_eq_true, ↓reduceIte]
      unfold prev0; rw [dif_neg ht]
    · obtain ⟨i3, -, -, -, -, -⟩ := sched0_A ch t q0 q1
      rw [i3] at hi; exact absurd hi (by decide)
  · by_cases q1 : P0_1 ch t
    · rw [step0_D ch m ρ c t _ q0 q1]
      simp only [hf, Bool.false_eq_true, ↓reduceIte]
      unfold prev0; rw [dif_neg ht]
    · obtain ⟨i3, -, -, -, -, -, -, -, -⟩ := sched0_C ch t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_mla_flash (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sf0, sfn0, sf1, sfn1, sf2, sfn2⟩ := sched0_B ch t q0 q1
      have F0 := hypsR0_B ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 hc1 k0_h3).2.2.2 _ a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sfn0, sfn1, sfn2⟩ := sched0_A ch t q0 q1
      have F0 := hypsR0_A ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 hc1 k0_h3).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 ch t
    · obtain ⟨i3, f3, fr3, sf0, sfn0, sf1, sfn1, sf2, sfn2⟩ := sched0_D ch t q0 q1
      have F0 := hypsR0_D ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ _ hc0 hc1 k0_h3).2.2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1, sf2, sfn2⟩ := sched0_C ch t q0 q1
      have F0 := hypsR0_C ch t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ _ hc0 hc1 k0_h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _)

/-- The library's body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- What each TensorCore buffer holds when the region is entered: the launch memory after the two host operations that
    write the schedule tables. -/
abbrev V (c : Dev nD) (b : Ref sig .tc) : Buf (Elt Ideal) ((c : Thread nD τ).loc b) := StableHlo.after (hostOps0 (F := Ideal)) (fun b => m (c, b)) b

/-- The table operations leave a buffer that is neither table alone. -/
theorem V_of_ne (c : Dev nD) (b : Ref sig .tc) (h0 : b ≠ main_c) (h1 : b ≠ main_c_0) : V m c b = m ((c : Thread nD τ).loc b) := by
  show StableHlo.after _ _ _ = _
  rw [StableHlo.after_cons, StableHlo.after_cons, StableHlo.after_nil, StableHlo.nullary_result_ne _ _ _ _ h1, StableHlo.nullary_result_ne _ _ _ _ h0]

theorem lit0_eq : ∀ x : S36.Idx, lit0 (S36.rowMajor x) = pinT_0 ch x := by decide +kernel +revert
theorem lit1_eq : ∀ x : S36.Idx, lit1 (S36.rowMajor x) = pinT_1 ch x := by decide +kernel +revert

/-- The tables hold the schedule when the region is entered. -/
theorem V_pre (c : Dev nD) (j : Fin 2) : V m c (pre0.ref j) = (adm ch).1 j := by
  fin_cases j
  · show V m c main_c = pinT_0 ch
    show StableHlo.after _ _ _ = _
    rw [StableHlo.after_cons, StableHlo.after_cons, StableHlo.after_nil, StableHlo.nullary_result_ne _ _ _ _ (by decide), StableHlo.nullary_result]
    funext x; exact lit0_eq ch x
  · show V m c main_c_0 = pinT_1 ch
    show StableHlo.after _ _ _ = _
    rw [StableHlo.after_cons, StableHlo.after_cons, StableHlo.after_nil, StableHlo.nullary_result]
    funext x; exact lit1_eq ch x

theorem hostOps0_fresh : (hostOps0 (F := Ideal)).Forall fun op => op.fresh = ∅ := by
  simp only [List.Forall]; repeat' constructor

set_option backward.isDefEq.respectTransparency.types false in
set_option maxHeartbeats 4000000 in
/-- At the compiled mesh, from any memory with zero counters : every weakly
    fair execution of @main on the TensorCores terminates, and every final state has each array at the computed contents,
    and every semaphore counter of the machine at zero. -/
theorem run_main_quiescent : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := V m)
    (hmain := Pipeline.hmainP_prefix _ (0 : Fin 1) defs₀ Variants.none m main hostOps0 hostOps0_sub hostOps0_fresh main_chain)
    (hsplit := fun c => Pipeline.arrays_split (pcs ch) (dats ch m ρ) 0 (launch0 (F := Ideal)).win.arr_inj c (launch0 (F := Ideal)).arr_whole
      (share_eq ch m ρ c) _ _ fun w => by
        fin_cases w
        · exact V_of_ne m c main_arg0 (by decide) (by decide)
        · exact V_of_ne m c main_arg1 (by decide) (by decide)
        · exact V_of_ne m c main_arg2 (by decide) (by decide)
        · exact V_of_ne m c main_v0 (by decide) (by decide))
    (hpf := V_pre ch m)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := Ideal)) (onTc (τ := τ) (main (F := Ideal))) (s₀ m ρ) (QC ch m ρ) :=
  (θ_run defs _ _).mono (fun _ h => h.1) (run_main_quiescent ch m ρ)

/-- The argument arrays end unchanged. -/
theorem unchanged :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 (0 : Fin 4)).trans ((dats 0 m ρ 0 c).arrAt_in (0 : Fin 4) rfl _), ((h c).1 (1 : Fin 4)).trans ((dats 0 m ρ 0 c).arrAt_in (1 : Fin 4) rfl _), ((h c).1 (2 : Fin 4)).trans ((dats 0 m ρ 0 c).arrAt_in (2 : Fin 4) rfl _)⟩) (run_main 0 m ρ)

/-- The frame: every weakly fair execution terminates, nothing faults, every argument array ends unchanged and every
    semaphore counter of the machine reads zero at every final state. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent 0 m ρ))

end Cert.KernelIdeal.Att

end
-- ==== Proof.InProj.lean ====
module

public import proofs.«01_k».proof.Proof.Gen.Kernel3Ideal.Value
public import proofs.«01_k».proof.Proof.Gen.Reference3Ideal.Run
public import Idealize.ShloMosaic.Lib.Pipeline.ValueKit

@[expose] public section

/-! The input projection with a 32-bit result: each block of the kernel's result is the matching block of the
    reference's one product of the normalised rows with the weights. -/

set_option maxRecDepth 16384

noncomputable section

open Idealize.ShloMosaic Idealize.ShloMosaic.TcCoe Idealize.SL.Sem
open Idealize.ShloMosaic.Pipeline (Dat)

namespace Cert.Kernel3Ideal.InProj

open Cert.Kernel3Ideal Cert.Kernel3Ideal.Gen

variable (m : (ℓ : Loc nD τ sig) → Buf (Elt Ideal) ℓ)

open Cert.Reference3Ideal.Gen in
/-- The reference's result as one term of its three arguments. -/
abbrev ref (X : FVec Ideal Cert.Reference3Ideal.S16384x1024 .f32) (G : FVec Ideal Cert.Reference3Ideal.S1x1024 .f32)
    (W : FVec Ideal Cert.Reference3Ideal.S1024x4096 .bf16) : FVec Ideal Cert.Reference3Ideal.S16384x4096 .f32 :=
  Host.dotGeneral Cert.Reference3Ideal.dot_S16384x1024_S1024x4096_S16384x4096_1_0_0_1_n_n none
    (truncf .bf16 (mulf (mulf X (broadcastInDim Cert.Reference3Ideal.S16384x1024 ![0, 1] bcast_S16384x1_S16384x1024_0_1
      (Host.rsqrt (addf (Host.divf (broadcastInDim Cert.Reference3Ideal.S16384x1 ![0] bcast_S16384_S16384x1_0
        (Host.reduceAdd (mulf X X) (constant Cert.Reference3Ideal.S_ .f32 0x00000000#32) reducesTo_S16384x1024_S16384_d1 h_S_))
        (broadcastInDim Cert.Reference3Ideal.S16384x1 ![] bcast_S_S16384x1 (constant Cert.Reference3Ideal.S_ .f32 0x44800000#32)))
        (broadcastInDim Cert.Reference3Ideal.S16384x1 ![] bcast_S_S16384x1 (constant Cert.Reference3Ideal.S_ .f32 0x358637BD#32))))))
      (broadcastInDim Cert.Reference3Ideal.S16384x1024 ![0, 1] bcast_S1x1024_S16384x1024_0_1 G)) Cert.Reference3Ideal.Gen.bitsLt_bf16_f32) W

/-- The block each window is at, at grid point `t`. -/
theorem idx : ∀ t : Fin cfg0.N, win0_0.index t = ![(grid0.coords t 0).val, 0] ∧ win0_1.index t = ![0, 0]
    ∧ win0_2.index t = ![0, 0] ∧ win0_3.index t = ![(grid0.coords t 0).val, 0] :=
  (by decide +kernel : ∀ t : Fin grid0.N, _)

/-- The body's whole block: every entry is the product of a normalised row with a column of the weights. -/
theorem out_at (x0 : Vec Ideal S512x1024 .f32) (x1 : Vec Ideal S1x1024 .f32) (x2 : Vec Ideal S1024x4096 .bf16) (y : S512x4096.Idx) :
    out0_3 (F := Ideal) x0 x1 x2 y = ∑ k : Fin 1024, k0_pay5 (F := Ideal) x0 x1 (ix2 (y 0) k) * x2 (ix2 k (y 1)) := by
  canon_tiles x h
  all_goals (open_payloads; pointwise; blk_point [])

/-- What the body stores at index `y` of grid point `t`'s block is the reference at the array index `y` sits at. -/
theorem point (c : Dev nD) (t : Fin cfg0.N) (y) : out0_3 (iblk m c 0 t) (iblk m c 1 t) (iblk m c 2 t) y
    = ref (m ((c : Thread nD τ).loc main_arg0)) (m ((c : Thread nD τ).loc main_arg1)) (m ((c : Thread nD τ).loc main_arg2))
        (((cfg0.win 3).blk t).view.emb y) := by
  rw [out_at]
  pointwise [k0_pay5, ref]
  blk_point [iblk, V, idx t]

/-- The kernel's result array is the reference's term of the same arguments. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Kernel3Ideal.InProj

end
-- ==== Proof.InProjGates.lean ====
module

public import proofs.«01_k».proof.Proof.Gen.Kernel4Ideal.Value
public import proofs.«01_k».proof.Proof.Gen.Reference4Ideal.Run
public import Idealize.ShloMosaic.Lib.Pipeline.ValueKit

@[expose] public section

/-! The input projection with a 16-bit result (the gates): each block of the kernel's result is the matching block of the
    reference's one product of the normalised rows with the weights. -/

set_option maxRecDepth 16384

noncomputable section

open Idealize.ShloMosaic Idealize.ShloMosaic.TcCoe Idealize.SL.Sem
open Idealize.ShloMosaic.Pipeline (Dat)

namespace Cert.Kernel4Ideal.InProjGates

open Cert.Kernel4Ideal Cert.Kernel4Ideal.Gen

variable (m : (ℓ : Loc nD τ sig) → Buf (Elt Ideal) ℓ)

open Cert.Reference4Ideal.Gen in
/-- The reference's result as one term of its three arguments. -/
abbrev ref (X : FVec Ideal Cert.Reference4Ideal.S16384x1024 .f32) (G : FVec Ideal Cert.Reference4Ideal.S1x1024 .f32)
    (W : FVec Ideal Cert.Reference4Ideal.S1024x4096 .bf16) : FVec Ideal Cert.Reference4Ideal.S16384x4096 .bf16 :=
  truncf .bf16 (Host.dotGeneral Cert.Reference4Ideal.dot_S16384x1024_S1024x4096_S16384x4096_1_0_0_1_n_n none
    (truncf .bf16 (mulf (mulf X (broadcastInDim Cert.Reference4Ideal.S16384x1024 ![0, 1] bcast_S16384x1_S16384x1024_0_1
      (Host.rsqrt (addf (Host.divf (broadcastInDim Cert.Reference4Ideal.S16384x1 ![0] bcast_S16384_S16384x1_0
        (Host.reduceAdd (mulf X X) (constant Cert.Reference4Ideal.S_ .f32 0x00000000#32) reducesTo_S16384x1024_S16384_d1 h_S_))
        (broadcastInDim Cert.Reference4Ideal.S16384x1 ![] bcast_S_S16384x1 (constant Cert.Reference4Ideal.S_ .f32 0x44800000#32)))
        (broadcastInDim Cert.Reference4Ideal.S16384x1 ![] bcast_S_S16384x1 (constant Cert.Reference4Ideal.S_ .f32 0x358637BD#32))))))
      (broadcastInDim Cert.Reference4Ideal.S16384x1024 ![0, 1] bcast_S1x1024_S16384x1024_0_1 G)) Cert.Reference4Ideal.Gen.bitsLt_bf16_f32) W) Cert.Reference4Ideal.Gen.bitsLt_bf16_f32

/-- The block each window is at, at grid point `t`. -/
theorem idx : ∀ t : Fin cfg0.N, win0_0.index t = ![(grid0.coords t 0).val, 0] ∧ win0_1.index t = ![0, 0]
    ∧ win0_2.index t = ![0, 0] ∧ win0_3.index t = ![(grid0.coords t 0).val, 0] :=
  (by decide +kernel : ∀ t : Fin grid0.N, _)

/-- The body's whole block: every entry is the product of a normalised row with a column of the weights. -/
theorem out_at (x0 : Vec Ideal S512x1024 .f32) (x1 : Vec Ideal S1x1024 .f32) (x2 : Vec Ideal S1024x4096 .bf16) (y : S512x4096.Idx) :
    out0_3 (F := Ideal) x0 x1 x2 y = ∑ k : Fin 1024, k0_pay5 (F := Ideal) x0 x1 (ix2 (y 0) k) * x2 (ix2 k (y 1)) := by
  canon_tiles x h
  all_goals (open_payloads; pointwise; blk_point [])

/-- What the body stores at index `y` of grid point `t`'s block is the reference at the array index `y` sits at. -/
theorem point (c : Dev nD) (t : Fin cfg0.N) (y) : out0_3 (iblk m c 0 t) (iblk m c 1 t) (iblk m c 2 t) y
    = ref (m ((c : Thread nD τ).loc main_arg0)) (m ((c : Thread nD τ).loc main_arg1)) (m ((c : Thread nD τ).loc main_arg2))
        (((cfg0.win 3).blk t).view.emb y) := by
  rw [out_at]
  pointwise [k0_pay5, ref]
  blk_point [iblk, V, idx t]

/-- The kernel's result array is the reference's term of the same arguments. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Kernel4Ideal.InProjGates

end
-- ==== Proof.Merge.lean ====
module

public import proofs.«01_k».proof.Proof.Gen.Kernel5Ideal.Value
public import proofs.«01_k».proof.Proof.Gen.Reference5Ideal.Run
public import Idealize.ShloMosaic.Lib.Pipeline.ValueKit

@[expose] public section

/-! The merge of the four mixers' outputs: each block of the kernel's result is the matching block of the reference's
    residual plus the product of the gated sum with the output weights. -/

set_option maxRecDepth 16384

noncomputable section

open Idealize.ShloMosaic Idealize.ShloMosaic.TcCoe Idealize.SL.Sem
open Idealize.ShloMosaic.Pipeline (Dat)

namespace Cert.Kernel5Ideal.Merge

open Cert.Kernel5Ideal Cert.Kernel5Ideal.Gen

variable (m : (ℓ : Loc nD τ sig) → Buf (Elt Ideal) ℓ)

/-- The word of one half is the number one half. -/
theorem half_word : Ideal.ofBits .bf16 0x3F00#16 = ((1 / 2 : ℝ) : EReal) := by
  simp [Ideal.ofBits, Ideal.ieee, -EReal.coe_mul]; norm_num

/-- The kernel's gate, half the hyperbolic tangent of half the argument plus a half, is the logistic function, at the
    infinities too. -/
theorem gate_eq (x : EReal) : ((1 / 2 : ℝ) : EReal) * Ideal.tanh (((1 / 2 : ℝ) : EReal) * x) + ((1 / 2 : ℝ) : EReal)
    = Ideal.div 1 (1 + Ideal.exp (-x)) := by
  have h2 : (0 : ℝ) < 1 / 2 := by norm_num
  induction x with
  | bot =>
    rw [EReal.coe_mul_bot_of_pos h2, EReal.neg_bot]
    show ((1 / 2 : ℝ) : EReal) * (-1) + ((1 / 2 : ℝ) : EReal) = Ideal.logistic ⊥
    rw [Ideal.logistic_bot, show (-1 : EReal) = ((-1 : ℝ) : EReal) from by norm_num, ← EReal.coe_mul, ← EReal.coe_add]
    norm_num
  | top =>
    rw [EReal.coe_mul_top_of_pos h2, EReal.neg_top]
    show ((1 / 2 : ℝ) : EReal) * 1 + ((1 / 2 : ℝ) : EReal) = Ideal.logistic ⊤
    rw [Ideal.logistic_top, mul_one, ← EReal.coe_add]
    norm_num
  | coe r =>
    rw [← EReal.coe_mul]
    show ((1 / 2 : ℝ) : EReal) * ((Real.tanh (1 / 2 * r) : ℝ) : EReal) + ((1 / 2 : ℝ) : EReal) = Ideal.logistic (r : EReal)
    rw [Ideal.logistic_coe, ← EReal.coe_mul, ← EReal.coe_add, EReal.coe_eq_coe_iff, Real.tanh_eq_sinh_div_cosh, Real.sinh_eq, Real.cosh_eq]
    have ha : Real.exp (-r) = Real.exp (-(1 / 2 * r)) * Real.exp (-(1 / 2 * r)) := by rw [← Real.exp_add]; ring_nf
    have hb : Real.exp (1 / 2 * r) * Real.exp (-(1 / 2 * r)) = 1 := by rw [← Real.exp_add]; simp
    have p1 := Real.exp_pos (1 / 2 * r)
    have p2 := Real.exp_pos (-(1 / 2 * r))
    rw [ha]
    generalize Real.exp (1 / 2 * r) = a at *
    generalize Real.exp (-(1 / 2 * r)) = b at *
    have h3 : a + b ≠ 0 := by positivity
    have h4 : 1 + b * b ≠ 0 := by positivity
    field_simp
    linear_combination 2 * b * hb

/-- The reference's gates: the logistic function of every entry. -/
abbrev gate (G : FVec Ideal Cert.Reference5Ideal.S16384x4096 .bf16) : FVec Ideal Cert.Reference5Ideal.S16384x4096 .f32 :=
  Host.divf (broadcastInDim Cert.Reference5Ideal.S16384x4096 ![] Cert.Reference5Ideal.Gen.bcast_S_S16384x4096 (constant Cert.Reference5Ideal.S_ .f32 0x3F800000#32))
    (addf (broadcastInDim Cert.Reference5Ideal.S16384x4096 ![] Cert.Reference5Ideal.Gen.bcast_S_S16384x4096 (constant Cert.Reference5Ideal.S_ .f32 0x3F800000#32))
      (Host.exp (Host.negf (extf .f32 G Cert.Reference5Ideal.Gen.bitsLt_bf16_f32))))

/-- The reference's result as one term of its eleven arguments. -/
abbrev ref (X : FVec Ideal Cert.Reference5Ideal.S16384x1024 .f32) (A B C D : FVec Ideal Cert.Reference5Ideal.S16384x256 .bf16) (G : FVec Ideal Cert.Reference5Ideal.S16384x4096 .bf16)
    (WA WB WC WD : FVec Ideal Cert.Reference5Ideal.S256x1024 .bf16) (WO : FVec Ideal Cert.Reference5Ideal.S1024x1024 .bf16) : FVec Ideal Cert.Reference5Ideal.S16384x1024 .f32 :=
  addf X (Host.dotGeneral Cert.Reference5Ideal.dot_S16384x1024_S1024x1024_S16384x1024_1_0_0_1_n_n none (truncf .bf16 (addf (addf (addf
      (mulf (extractStridedSlice Cert.Reference5Ideal.S16384x1024 ![0, 0] (gate G) Cert.Reference5Ideal.Gen.slices_S16384x4096_S16384x1024_0_0)
        (Host.dotGeneral Cert.Reference5Ideal.dot_S16384x256_S256x1024_S16384x1024_1_0_0_1_n_n none A WA))
      (mulf (extractStridedSlice Cert.Reference5Ideal.S16384x1024 ![0, 1024] (gate G) Cert.Reference5Ideal.Gen.slices_S16384x4096_S16384x1024_0_1024)
        (Host.dotGeneral Cert.Reference5Ideal.dot_S16384x256_S256x1024_S16384x1024_1_0_0_1_n_n none B WB)))
      (mulf (extractStridedSlice Cert.Reference5Ideal.S16384x1024 ![0, 2048] (gate G) Cert.Reference5Ideal.Gen.slices_S16384x4096_S16384x1024_0_2048)
        (Host.dotGeneral Cert.Reference5Ideal.dot_S16384x256_S256x1024_S16384x1024_1_0_0_1_n_n none C WC)))
      (mulf (extractStridedSlice Cert.Reference5Ideal.S16384x1024 ![0, 3072] (gate G) Cert.Reference5Ideal.Gen.slices_S16384x4096_S16384x1024_0_3072)
        (Host.dotGeneral Cert.Reference5Ideal.dot_S16384x256_S256x1024_S16384x1024_1_0_0_1_n_n none D WD))) Cert.Reference5Ideal.Gen.bitsLt_bf16_f32) WO)

/-- The block each window is at, at grid point `t`. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0] ∧ win0_4.index t = ![(grid0.coords t 0).val, 0]
    ∧ win0_5.index t = ![(grid0.coords t 0).val, 0] ∧ win0_6.index t = ![(grid0.coords t 0).val, 1] ∧ win0_7.index t = ![(grid0.coords t 0).val, 2]
    ∧ win0_8.index t = ![(grid0.coords t 0).val, 3] ∧ win0_9.index t = ![0, 0] ∧ win0_10.index t = ![0, 0] ∧ win0_11.index t = ![0, 0]
    ∧ win0_12.index t = ![0, 0] ∧ win0_13.index t = ![0, 0] ∧ win0_14.index t = ![(grid0.coords t 0).val, 0] :=
  (by decide +kernel : ∀ t : Fin grid0.N, _)

/-- What the body stores at index `y` of grid point `t`'s block is the reference at the array index `y` sits at. -/
theorem point (c : Dev nD) (t : Fin cfg0.N) (y) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        (((cfg0.win 14).blk t).view.emb y) := by
  frame_out
  pointwise [k0_pay1, k0_pay2, k0_pay3, ref]
  simp only [half_word, Ideal.ofBits_one_f32, gate_eq]
  blk_point [iblk, V, idx t]

/-- The kernel's result array is the reference's term of the same arguments. -/
theorem final (c : Dev nD) : (dats m 0 c).arrAt 14 (cfgs 0).N
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after0_14]
  exact point m c t y

end Cert.Kernel5Ideal.Merge

end
-- ==== Proof.Mlp.lean ====
module

public import proofs.«01_k».proof.Proof.Gen.Kernel2Ideal.Value
public import proofs.«01_k».proof.Proof.Gen.Reference2Ideal.Run
public import Idealize.ShloMosaic.Lib.Pipeline.ValueKit

@[expose] public section

/-! The last feed-forward call with the final norm: four grid points share a block of rows, each adding its quarter
    of the hidden units to a running block; the last one adds the residual and normalises.  The kernel's result
    is the reference's, which contracts all hidden units at once. -/

set_option maxRecDepth 16384

noncomputable section

open Idealize.ShloMosaic Idealize.ShloMosaic.TcCoe Idealize.SL.Sem
open Idealize.ShloMosaic.Pipeline (Dat)

namespace Cert.Kernel2Ideal.Mlp

open Cert.Kernel2Ideal Cert.Kernel2Ideal.Gen

variable (m : (ℓ : Loc nD τ sig) → Buf (Elt Ideal) ℓ)

open Cert.Reference2Ideal.Gen in
/-- The reference's row norm: every row divided by the root of its mean square. -/
def rms (X : FVec Ideal Cert.Reference2Ideal.S16384x1024 .f32) (G : FVec Ideal Cert.Reference2Ideal.S1x1024 .f32) : FVec Ideal Cert.Reference2Ideal.S16384x1024 .f32 :=
  mulf (mulf X (broadcastInDim Cert.Reference2Ideal.S16384x1024 ![0, 1] bcast_S16384x1_S16384x1024_0_1
      (Host.rsqrt (addf (Host.divf (broadcastInDim Cert.Reference2Ideal.S16384x1 ![0] bcast_S16384_S16384x1_0
        (Host.reduceAdd (mulf X X) (constant Cert.Reference2Ideal.S_ .f32 0x00000000#32) reducesTo_S16384x1024_S16384_d1 h_S_))
        (broadcastInDim Cert.Reference2Ideal.S16384x1 ![] bcast_S_S16384x1 (constant Cert.Reference2Ideal.S_ .f32 0x44800000#32)))
        (broadcastInDim Cert.Reference2Ideal.S16384x1 ![] bcast_S_S16384x1 (constant Cert.Reference2Ideal.S_ .f32 0x358637BD#32))))))
      (broadcastInDim Cert.Reference2Ideal.S16384x1024 ![0, 1] bcast_S1x1024_S16384x1024_0_1 G)

/-- The reference's hidden units before the rectifier. -/
def hidden (X : FVec Ideal Cert.Reference2Ideal.S16384x1024 .f32) (G : FVec Ideal Cert.Reference2Ideal.S1x1024 .f32)
    (WU : FVec Ideal Cert.Reference2Ideal.S1024x4096 .bf16) : FVec Ideal Cert.Reference2Ideal.S16384x4096 .f32 :=
  Host.dotGeneral Cert.Reference2Ideal.dot_S16384x1024_S1024x4096_S16384x4096_1_0_0_1_n_n none
    (truncf .bf16 (rms X G) Cert.Reference2Ideal.Gen.bitsLt_bf16_f32) WU

open Cert.Reference2Ideal.Gen in
/-- The reference's residual with the feed-forward sum added, before the final norm. -/
def mixed (X : FVec Ideal Cert.Reference2Ideal.S16384x1024 .f32) (G : FVec Ideal Cert.Reference2Ideal.S1x1024 .f32)
    (WU : FVec Ideal Cert.Reference2Ideal.S1024x4096 .bf16) (WD : FVec Ideal Cert.Reference2Ideal.S4096x1024 .bf16) : FVec Ideal Cert.Reference2Ideal.S16384x1024 .f32 :=
  addf X (Host.dotGeneral Cert.Reference2Ideal.dot_S16384x4096_S4096x1024_S16384x1024_1_0_0_1_n_n none
    (truncf .bf16 (mulf (maximumf (hidden X G WU) (broadcastInDim Cert.Reference2Ideal.S16384x4096 ![] bcast_S_S16384x4096 (constant Cert.Reference2Ideal.S_ .f32 0x00000000#32)))
      (maximumf (hidden X G WU) (broadcastInDim Cert.Reference2Ideal.S16384x4096 ![] bcast_S_S16384x4096 (constant Cert.Reference2Ideal.S_ .f32 0x00000000#32))))
      Cert.Reference2Ideal.Gen.bitsLt_bf16_f32) WD)

/-- The reference's result: the final norm of the mixed residual. -/
def ref (X : FVec Ideal Cert.Reference2Ideal.S16384x1024 .f32) (G : FVec Ideal Cert.Reference2Ideal.S1x1024 .f32)
    (WU : FVec Ideal Cert.Reference2Ideal.S1024x4096 .bf16) (WD : FVec Ideal Cert.Reference2Ideal.S4096x1024 .bf16)
    (FG : FVec Ideal Cert.Reference2Ideal.S1x1024 .f32) : FVec Ideal Cert.Reference2Ideal.S16384x1024 .f32 :=
  rms (mixed X G WU WD) FG

/-- The reference program's own composed term is `ref` of its arguments. -/
theorem res_eq (m' : (ℓ : Loc Cert.Reference2Ideal.nD Cert.Reference2Ideal.τ Cert.Reference2Ideal.sig) → Buf (Elt Ideal) ℓ) (c : Dev Cert.Reference2Ideal.nD) :
    Cert.Reference2Ideal.Value.res_main_v30 m' c = ref (m' ((c.tc : Thread _ _).loc Cert.Reference2Ideal.main_arg0))
      (m' ((c.tc : Thread _ _).loc Cert.Reference2Ideal.main_arg1)) (m' ((c.tc : Thread _ _).loc Cert.Reference2Ideal.main_arg2))
      (m' ((c.tc : Thread _ _).loc Cert.Reference2Ideal.main_arg3)) (m' ((c.tc : Thread _ _).loc Cert.Reference2Ideal.main_arg4)) := by
  unfold Cert.Reference2Ideal.Value.res_main_v30 ref mixed hidden rms
  rfl

/-- The block each window is at, at grid point `t`. -/
theorem idx : ∀ t : Fin cfg0.N, win0_0.index t = ![t.val / 4, 0] ∧ win0_1.index t = ![0, 0]
    ∧ win0_2.index t = ![0, t.val % 4] ∧ win0_3.index t = ![t.val % 4, 0] ∧ win0_4.index t = ![0, 0] ∧ win0_5.index t = ![t.val / 4, 0] :=
  (by decide +kernel : ∀ t : Fin grid0.N, _)

/-- One rectified, squared hidden unit of a normalised block, by row and unit. -/
def unit (h w : FVec Ideal S1024x1024 .bf16) (i f : Fin 1024) : EReal :=
  max (∑ k : Fin 1024, h (ix2 i k) * w (ix2 k f)) 0 * max (∑ k : Fin 1024, h (ix2 i k) * w (ix2 k f)) 0

/-- The accumulating store: the running block plus this quarter's product. -/
theorem hpay (h w : Vec Ideal S1024x1024 .bf16) (a : Vec Ideal S1024x1024 .f32) (d : Vec Ideal S1024x1024 .bf16) (j : S1024x1024.Idx) :
    k0_pay3 (F := Ideal) h w a d j = a j + ∑ f : Fin 1024, unit h w (j 0) f * d (ix2 f (j 1)) := by
  pointwise [k0_pay3, unit]

/-- The resetting store holds zeros. -/
theorem hzero (j : S1024x1024.Idx) : k0_pay2 (F := Ideal) j = 0 := by
  pointwise [k0_pay2]

/-- Two grid points of one run see the same block of rows. -/
theorem iblk0_pred (c : Dev nD) (t : Fin cfg0.N) (h : ¬t.val % 4 = 0) :
    (iblk m c 0 ⟨t.val - 1, Nat.lt_of_le_of_lt (Nat.sub_le _ _) t.isLt⟩ : Vec Ideal S1024x1024 .f32) = iblk m c 0 t
    ∧ (iblk m c 1 ⟨t.val - 1, Nat.lt_of_le_of_lt (Nat.sub_le _ _) t.isLt⟩ : Vec Ideal S1x1024 .f32) = iblk m c 1 t := by
  have e : (t.val - 1) / 4 = t.val / 4 := by omega
  constructor <;> funext y <;>
  blk_ext [iblk, V, idx t, idx ⟨t.val - 1, Nat.lt_of_le_of_lt (Nat.sub_le _ _) t.isLt⟩, e]

/-- The first scratch holds the normalised rows of the run's block after every point. -/
theorem scratch0 (c : Dev nD) (n : Nat) : ∀ hn : n < cfg0.N,
    (outsAt0 m c n hn).2.1 = k0_pay1 (F := Ideal) (iblk m c 0 ⟨n, hn⟩) (iblk m c 1 ⟨n, hn⟩) := by
  induction n with
  | zero => intro hn; rw [outsAt0_A m c ⟨0, hn⟩ (Nat.zero_mod 4) (by show ¬0 % 4 = 3; omega)]; frame_out
  | succ n ih =>
    intro hn
    by_cases h0 : (n + 1) % 4 = 0
    · rw [outsAt0_A m c ⟨n + 1, hn⟩ h0 (by show ¬(n + 1) % 4 = 3; omega)]; frame_out
    · obtain ⟨e0, e1⟩ := iblk0_pred m c ⟨n + 1, hn⟩ h0
      have ih' := ih (Nat.lt_of_succ_lt hn)
      by_cases h1 : (n + 1) % 4 = 3
      · rw [outsAt0_C m c ⟨n + 1, hn⟩ h0 h1]
        exact ih'.trans (congrArg₂ (k0_pay1 (F := Ideal)) e0 e1)
      · rw [outsAt0_B m c ⟨n + 1, hn⟩ h0 h1]
        exact ih'.trans (congrArg₂ (k0_pay1 (F := Ideal)) e0 e1)

/-- What point `t` adds to the running block at `j`. -/
def term (c : Dev nD) (t : Fin cfg0.N) (j : S1024x1024.Idx) : EReal :=
  ∑ f : Fin 1024, unit (k0_pay1 (F := Ideal) (iblk m c 0 t) (iblk m c 1 t)) (iblk m c 2 t) (j 0) f * (iblk m c 3 t : Vec Ideal S1024x1024 .bf16) (ix2 f (j 1))

/-- The second scratch, after a run's last point, is the sum of the four quarters' products. -/
theorem scratch1 (c : Dev nD) (t : Fin cfg0.N) (ht : t.val % 4 = 4 - 1) (j : S1024x1024.Idx) :
    ((outsAt0 m c t.val t.isLt).2.2 : Vec Ideal S1024x1024 .f32) j = 0 + ∑ s : Fin 4, term m c ⟨4 * (t.val / 4) + s.val, Pipeline.run_point_lt_of_flush t ht s⟩ j := by
  refine Pipeline.eq_sum_fin_of_reset_step_apply_of_flush (fun n h => ((outsAt0 m c n h).2.2 : S1024x1024.Idx → EReal)) 4 (fun _ => 0) (term m c) (fun t h j => ?_) (fun t h j => ?_) t ht j
  · rw [outsAt0_A m c t h (by omega)]; frame_out; rw [hpay, hzero]; rfl
  · have hp := scratch0 m c (t.val - 1) (Nat.lt_of_le_of_lt (Nat.sub_le _ _) t.isLt)
    obtain ⟨e0, e1⟩ := iblk0_pred m c t h
    rw [e0, e1] at hp
    by_cases h1 : t.val % 4 = 3
    · rw [outsAt0_C m c t h h1]; frame_out; rw [hpay, hp, (Memref.isWhole_whole _).read_unread, (Memref.isWhole_whole _).read_unread]; rfl
    · rw [outsAt0_B m c t h h1]; frame_out; rw [hpay, hp, (Memref.isWhole_whole _).read_unread, (Memref.isWhole_whole _).read_unread]; rfl

/-- The block's row `i` sits at row `1024 q + i` of the arrays, `q` the run of grid point `t`. -/
def row (t : Fin cfg0.N) (i : Fin 1024) : Fin 16384 := ⟨t.val / 4 * 1024 + i.val, by have := Nat.lt_of_lt_of_eq t.isLt N_0; have := i.isLt; omega⟩

/-- The residual's block at point `t`. -/
abbrev xb (c : Dev nD) (t : Fin cfg0.N) : S1024x1024.Idx → EReal := iblk m c 0 t

/-- The running block after point `t`. -/
abbrev ab (c : Dev nD) (t : Fin cfg0.N) : S1024x1024.Idx → EReal := (outsAt0 m c t.val t.isLt).2.2

/-- The block plus the running block, after a run's last point, is the reference's residual with the whole sum added. -/
theorem mixed_at (c : Dev nD) (t : Fin cfg0.N) (ht : t.val % 4 = 4 - 1) (i k : Fin 1024) :
    xb m c t (ix2 i k) + ab m c t (ix2 i k)
      = mixed (m ((c : Thread nD τ).loc main_arg0)) (m ((c : Thread nD τ).loc main_arg1)) (m ((c : Thread nD τ).loc main_arg2))
          (m ((c : Thread nD τ).loc main_arg3)) (ix2 (row t i) k) := by
  refine (congrArg (HAdd.hAdd (xb m c t (ix2 i k))) ((scratch1 m c t ht (ix2 i k)).trans (zero_add _))).trans ?_
  pointwise [mixed]
  congr 1
  · blk_point [iblk, V, idx t, row]
  · refine Fin.sum_mul_add_congr fun s f hl => ?_
    pointwise [term, unit, k0_pay1, hidden, rms]
    blk_point [iblk, V, row, idx ⟨_, Pipeline.run_point_lt_of_flush t ht s⟩]

/-- The final norm of a block is the final norm of the array at the block's rows. -/
theorem norm_at (t : Fin cfg0.N) (x a : Vec Ideal S1024x1024 .f32) (g : Vec Ideal S1x1024 .f32) (Y : FVec Ideal Cert.Reference2Ideal.S16384x1024 .f32)
    (h : ∀ i k : Fin 1024, x (ix2 i k) + a (ix2 i k) = Y (ix2 (row t i) k)) (i k : Fin 1024) :
    k0_pay4 (F := Ideal) x a g (ix2 i k) = rms Y g (ix2 (row t i) k) := by
  pointwise [k0_pay4, rms]
  simp only [h]

/-- What a run's last point stores is the reference at the array index it sits at. -/
theorem point (c : Dev nD) (t : Fin cfg0.N) (ht : t.val % 4 = 4 - 1) (y) : (outsAt0 m c t.val t.isLt).1 y
    = ref (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  have h0 : ¬t.val % 4 = 0 := by omega
  have hout : (outsAt0 m c t.val t.isLt).1 = k0_pay4 (F := Ideal) (iblk m c 0 t) (outsAt0 m c t.val t.isLt).2.2 (iblk m c 4 t) := by
    rw [outsAt0_C m c t h0 ht]; frame_out
  have hy : y = (ix2 (y 0) (y 1) : S1024x1024.Idx) := by funext a; fin_cases a <;> rfl
  have he : ((cfg0.win 5).blk t).view.emb y = (ix2 (row t (y 0)) (y 1) : Cert.Reference2Ideal.S16384x1024.Idx) := by
    blk_ext [idx t, row]
  have hg : (iblk m c 4 t : Vec Ideal S1x1024 .f32) = m ((c : Thread nD τ).loc main_arg4) := by
    funext z; blk_ext [iblk, V, idx t]
  rw [hout, he]
  refine (congrArg _ hy).trans ?_
  exact (norm_at t (xb m c t) (ab m c t) (iblk m c 4 t) _ (mixed_at m c t ht) (y 0) (y 1)).trans (by rw [hg]; rfl)

/-- The kernel's result array is the reference's term of the same arguments. -/
theorem final (c : Dev nD) : (dats m 0 c).arrAt 5 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  exact point m c t ((flush0_5 t).mp hf) y

end Cert.Kernel2Ideal.Mlp

end
-- ==== Proof.MlpInner.lean ====
module

public import proofs.«01_k».proof.Proof.Gen.Kernel6Ideal.Value
public import proofs.«01_k».proof.Proof.Gen.Reference6Ideal.Run
public import Idealize.ShloMosaic.Lib.Pipeline.ValueKit

@[expose] public section

/-! The feed-forward call of the layers before the last: four grid points share a block of rows, each adding its quarter
    of the hidden units to a running block; the last one adds the residual.  The kernel's result
    is the reference's, which contracts all hidden units at once. -/

set_option maxRecDepth 16384

noncomputable section

open Idealize.ShloMosaic Idealize.ShloMosaic.TcCoe Idealize.SL.Sem
open Idealize.ShloMosaic.Pipeline (Dat)

namespace Cert.Kernel6Ideal.MlpInner

open Cert.Kernel6Ideal Cert.Kernel6Ideal.Gen

variable (m : (ℓ : Loc nD τ sig) → Buf (Elt Ideal) ℓ)

open Cert.Reference6Ideal.Gen in
/-- The reference's row norm: every row divided by the root of its mean square. -/
def rms (X : FVec Ideal Cert.Reference6Ideal.S16384x1024 .f32) (G : FVec Ideal Cert.Reference6Ideal.S1x1024 .f32) : FVec Ideal Cert.Reference6Ideal.S16384x1024 .f32 :=
  mulf (mulf X (broadcastInDim Cert.Reference6Ideal.S16384x1024 ![0, 1] bcast_S16384x1_S16384x1024_0_1
      (Host.rsqrt (addf (Host.divf (broadcastInDim Cert.Reference6Ideal.S16384x1 ![0] bcast_S16384_S16384x1_0
        (Host.reduceAdd (mulf X X) (constant Cert.Reference6Ideal.S_ .f32 0x00000000#32) reducesTo_S16384x1024_S16384_d1 h_S_))
        (broadcastInDim Cert.Reference6Ideal.S16384x1 ![] bcast_S_S16384x1 (constant Cert.Reference6Ideal.S_ .f32 0x44800000#32)))
        (broadcastInDim Cert.Reference6Ideal.S16384x1 ![] bcast_S_S16384x1 (constant Cert.Reference6Ideal.S_ .f32 0x358637BD#32))))))
      (broadcastInDim Cert.Reference6Ideal.S16384x1024 ![0, 1] bcast_S1x1024_S16384x1024_0_1 G)

/-- The reference's hidden units before the rectifier. -/
def hidden (X : FVec Ideal Cert.Reference6Ideal.S16384x1024 .f32) (G : FVec Ideal Cert.Reference6Ideal.S1x1024 .f32)
    (WU : FVec Ideal Cert.Reference6Ideal.S1024x4096 .bf16) : FVec Ideal Cert.Reference6Ideal.S16384x4096 .f32 :=
  Host.dotGeneral Cert.Reference6Ideal.dot_S16384x1024_S1024x4096_S16384x4096_1_0_0_1_n_n none
    (truncf .bf16 (rms X G) Cert.Reference6Ideal.Gen.bitsLt_bf16_f32) WU

open Cert.Reference6Ideal.Gen in
/-- The reference's residual with the feed-forward sum added, before the final norm. -/
def mixed (X : FVec Ideal Cert.Reference6Ideal.S16384x1024 .f32) (G : FVec Ideal Cert.Reference6Ideal.S1x1024 .f32)
    (WU : FVec Ideal Cert.Reference6Ideal.S1024x4096 .bf16) (WD : FVec Ideal Cert.Reference6Ideal.S4096x1024 .bf16) : FVec Ideal Cert.Reference6Ideal.S16384x1024 .f32 :=
  addf X (Host.dotGeneral Cert.Reference6Ideal.dot_S16384x4096_S4096x1024_S16384x1024_1_0_0_1_n_n none
    (truncf .bf16 (mulf (maximumf (hidden X G WU) (broadcastInDim Cert.Reference6Ideal.S16384x4096 ![] bcast_S_S16384x4096 (constant Cert.Reference6Ideal.S_ .f32 0x00000000#32)))
      (maximumf (hidden X G WU) (broadcastInDim Cert.Reference6Ideal.S16384x4096 ![] bcast_S_S16384x4096 (constant Cert.Reference6Ideal.S_ .f32 0x00000000#32))))
      Cert.Reference6Ideal.Gen.bitsLt_bf16_f32) WD)

/-- The block each window is at, at grid point `t`. -/
theorem idx : ∀ t : Fin cfg0.N, win0_0.index t = ![t.val / 4, 0] ∧ win0_1.index t = ![0, 0]
    ∧ win0_2.index t = ![0, t.val % 4] ∧ win0_3.index t = ![t.val % 4, 0] ∧ win0_4.index t = ![0, 0] ∧ win0_5.index t = ![t.val / 4, 0] :=
  (by decide +kernel : ∀ t : Fin grid0.N, _)

/-- One rectified, squared hidden unit of a normalised block, by row and unit. -/
def unit (h w : FVec Ideal S1024x1024 .bf16) (i f : Fin 1024) : EReal :=
  max (∑ k : Fin 1024, h (ix2 i k) * w (ix2 k f)) 0 * max (∑ k : Fin 1024, h (ix2 i k) * w (ix2 k f)) 0

/-- The accumulating store: the running block plus this quarter's product. -/
theorem hpay (h w : Vec Ideal S1024x1024 .bf16) (a : Vec Ideal S1024x1024 .f32) (d : Vec Ideal S1024x1024 .bf16) (j : S1024x1024.Idx) :
    k0_pay3 (F := Ideal) h w a d j = a j + ∑ f : Fin 1024, unit h w (j 0) f * d (ix2 f (j 1)) := by
  pointwise [k0_pay3, unit]

/-- The resetting store holds zeros. -/
theorem hzero (j : S1024x1024.Idx) : k0_pay2 (F := Ideal) j = 0 := by
  pointwise [k0_pay2]

/-- Two grid points of one run see the same block of rows. -/
theorem iblk0_pred (c : Dev nD) (t : Fin cfg0.N) (h : ¬t.val % 4 = 0) :
    (iblk m c 0 ⟨t.val - 1, Nat.lt_of_le_of_lt (Nat.sub_le _ _) t.isLt⟩ : Vec Ideal S1024x1024 .f32) = iblk m c 0 t
    ∧ (iblk m c 1 ⟨t.val - 1, Nat.lt_of_le_of_lt (Nat.sub_le _ _) t.isLt⟩ : Vec Ideal S1x1024 .f32) = iblk m c 1 t := by
  have e : (t.val - 1) / 4 = t.val / 4 := by omega
  constructor <;> funext y <;>
  blk_ext [iblk, V, idx t, idx ⟨t.val - 1, Nat.lt_of_le_of_lt (Nat.sub_le _ _) t.isLt⟩, e]

/-- The first scratch holds the normalised rows of the run's block after every point. -/
theorem scratch0 (c : Dev nD) (n : Nat) : ∀ hn : n < cfg0.N,
    (outsAt0 m c n hn).2.1 = k0_pay1 (F := Ideal) (iblk m c 0 ⟨n, hn⟩) (iblk m c 1 ⟨n, hn⟩) := by
  induction n with
  | zero => intro hn; rw [outsAt0_A m c ⟨0, hn⟩ (Nat.zero_mod 4) (by show ¬0 % 4 = 3; omega)]; frame_out
  | succ n ih =>
    intro hn
    by_cases h0 : (n + 1) % 4 = 0
    · rw [outsAt0_A m c ⟨n + 1, hn⟩ h0 (by show ¬(n + 1) % 4 = 3; omega)]; frame_out
    · obtain ⟨e0, e1⟩ := iblk0_pred m c ⟨n + 1, hn⟩ h0
      have ih' := ih (Nat.lt_of_succ_lt hn)
      by_cases h1 : (n + 1) % 4 = 3
      · rw [outsAt0_C m c ⟨n + 1, hn⟩ h0 h1]
        exact ih'.trans (congrArg₂ (k0_pay1 (F := Ideal)) e0 e1)
      · rw [outsAt0_B m c ⟨n + 1, hn⟩ h0 h1]
        exact ih'.trans (congrArg₂ (k0_pay1 (F := Ideal)) e0 e1)

/-- What point `t` adds to the running block at `j`. -/
def term (c : Dev nD) (t : Fin cfg0.N) (j : S1024x1024.Idx) : EReal :=
  ∑ f : Fin 1024, unit (k0_pay1 (F := Ideal) (iblk m c 0 t) (iblk m c 1 t)) (iblk m c 2 t) (j 0) f * (iblk m c 3 t : Vec Ideal S1024x1024 .bf16) (ix2 f (j 1))

/-- The second scratch, after a run's last point, is the sum of the four quarters' products. -/
theorem scratch1 (c : Dev nD) (t : Fin cfg0.N) (ht : t.val % 4 = 4 - 1) (j : S1024x1024.Idx) :
    ((outsAt0 m c t.val t.isLt).2.2 : Vec Ideal S1024x1024 .f32) j = 0 + ∑ s : Fin 4, term m c ⟨4 * (t.val / 4) + s.val, Pipeline.run_point_lt_of_flush t ht s⟩ j := by
  refine Pipeline.eq_sum_fin_of_reset_step_apply_of_flush (fun n h => ((outsAt0 m c n h).2.2 : S1024x1024.Idx → EReal)) 4 (fun _ => 0) (term m c) (fun t h j => ?_) (fun t h j => ?_) t ht j
  · rw [outsAt0_A m c t h (by omega)]; frame_out; rw [hpay, hzero]; rfl
  · have hp := scratch0 m c (t.val - 1) (Nat.lt_of_le_of_lt (Nat.sub_le _ _) t.isLt)
    obtain ⟨e0, e1⟩ := iblk0_pred m c t h
    rw [e0, e1] at hp
    by_cases h1 : t.val % 4 = 3
    · rw [outsAt0_C m c t h h1]; frame_out; rw [hpay, hp, (Memref.isWhole_whole _).read_unread, (Memref.isWhole_whole _).read_unread]; rfl
    · rw [outsAt0_B m c t h h1]; frame_out; rw [hpay, hp, (Memref.isWhole_whole _).read_unread, (Memref.isWhole_whole _).read_unread]; rfl

/-- The block's row `i` sits at row `1024 q + i` of the arrays, `q` the run of grid point `t`. -/
def row (t : Fin cfg0.N) (i : Fin 1024) : Fin 16384 := ⟨t.val / 4 * 1024 + i.val, by have := Nat.lt_of_lt_of_eq t.isLt N_0; have := i.isLt; omega⟩

/-- The residual's block at point `t`. -/
abbrev xb (c : Dev nD) (t : Fin cfg0.N) : S1024x1024.Idx → EReal := iblk m c 0 t

/-- The running block after point `t`. -/
abbrev ab (c : Dev nD) (t : Fin cfg0.N) : S1024x1024.Idx → EReal := (outsAt0 m c t.val t.isLt).2.2

/-- The block plus the running block, after a run's last point, is the reference's residual with the whole sum added. -/
theorem mixed_at (c : Dev nD) (t : Fin cfg0.N) (ht : t.val % 4 = 4 - 1) (i k : Fin 1024) :
    xb m c t (ix2 i k) + ab m c t (ix2 i k)
      = mixed (m ((c : Thread nD τ).loc main_arg0)) (m ((c : Thread nD τ).loc main_arg1)) (m ((c : Thread nD τ).loc main_arg2))
          (m ((c : Thread nD τ).loc main_arg3)) (ix2 (row t i) k) := by
  refine (congrArg (HAdd.hAdd (xb m c t (ix2 i k))) ((scratch1 m c t ht (ix2 i k)).trans (zero_add _))).trans ?_
  pointwise [mixed]
  congr 1
  · blk_point [iblk, V, idx t, row]
  · refine Fin.sum_mul_add_congr fun s f hl => ?_
    pointwise [term, unit, k0_pay1, hidden, rms]
    blk_point [iblk, V, row, idx ⟨_, Pipeline.run_point_lt_of_flush t ht s⟩]

/-- What a run's last point stores is the reference at the array index it sits at. -/
theorem point (c : Dev nD) (t : Fin cfg0.N) (ht : t.val % 4 = 4 - 1) (y) : (outsAt0 m c t.val t.isLt).1 y
    = mixed (m ((c : Thread nD τ).loc main_arg0)) (m ((c : Thread nD τ).loc main_arg1)) (m ((c : Thread nD τ).loc main_arg2))
        (m ((c : Thread nD τ).loc main_arg3)) (((cfg0.win 5).blk t).view.emb y) := by
  have h0 : ¬t.val % 4 = 0 := by omega
  have hout : (outsAt0 m c t.val t.isLt).1 = k0_pay4 (F := Ideal) (iblk m c 0 t) (outsAt0 m c t.val t.isLt).2.2 := by
    rw [outsAt0_C m c t h0 ht]; frame_out
  have hy : y = (ix2 (y 0) (y 1) : S1024x1024.Idx) := by funext a; fin_cases a <;> rfl
  have he : ((cfg0.win 5).blk t).view.emb y = (ix2 (row t (y 0)) (y 1) : Cert.Reference6Ideal.S16384x1024.Idx) := by
    blk_ext [idx t, row]
  rw [hout, he]
  refine (congrArg _ hy).trans (Eq.trans ?_ (mixed_at m c t ht (y 0) (y 1)))
  pointwise [k0_pay4]

/-- The kernel's result array is the reference's term of the same arguments. -/
theorem final (c : Dev nD) : (dats m 0 c).arrAt 5 (cfgs 0).N
    = mixed (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  exact point m c t ((flush0_5 t).mp hf) y

end Cert.Kernel6Ideal.MlpInner

end
-- ==== Proof.MlaTable.lean ====
module

public import proofs.«01_k».proof.Proof.Gen.Kernel7Ideal.Value
public import proofs.«01_k».proof.Proof.Gen.Reference7Ideal.Run
public import Idealize.ShloMosaic.Lib.Pipeline.ValueKit

@[expose] public section

/-! The tables the second layer's projection is given: one nonzero entry at most in each column, and a base row of
    ones and zeros. -/

set_option maxRecDepth 16384

noncomputable section

open Idealize.ShloMosaic Idealize.ShloMosaic.TcCoe Idealize.SL.Sem
open Idealize.ShloMosaic.Pipeline (Dat)

namespace Cert.Kernel7Ideal.MlaPrep

open Cert.Kernel7Ideal Cert.Kernel7Ideal.Gen

variable (m : (ℓ : Loc nD τ sig) → Buf (Elt Ideal) ℓ)

/-- The row of the table's one nonzero entry in column `l`; 32 where the column is all zeros. -/
def row (l : ℕ) : ℕ :=
  if l < 64 then 32 else if l < 80 then l - 64 else if l < 96 then l - 80 else if l < 192 then 32
  else if l < 208 then l - 176 else if l < 336 then 32 else if l < 352 then l - 320 else 32

/-- The table's entries. -/
theorem lit0_eq : ∀ (j : Fin 32) (l : Fin 384), lit0t (j.val * 384 + l.val)
    = if j.val = row l.val then (if 128 ≤ l.val ∧ l.val < 256 then 0xBF800000#32 else 0x3F800000#32) else 0x00000000#32 := by
  decide +kernel

/-- The base row's entries. -/
theorem lit1_eq : ∀ l : Fin 384, lit1 l = if l.val < 64 ∨ (96 ≤ l.val ∧ l.val < 128) then 0x3F800000#32 else 0x00000000#32 := by
  decide +kernel

/-- The block each window is at, at grid point `t`. -/
theorem idx : ∀ t : Fin cfg0.N, win0_0.index t = ![(grid0.coords t 0).val, 8] ∧ win0_1.index t = ![(grid0.coords t 0).val, 18]
    ∧ win0_2.index t = ![(grid0.coords t 0).val, 19] ∧ win0_3.index t = ![(grid0.coords t 0).val, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![(grid0.coords t 0).val, 0] ∧ win0_12.index t = ![(grid0.coords t 0).val, 0]
    ∧ win0_13.index t = ![0, (grid0.coords t 0).val] :=
  (by decide +kernel : ∀ t : Fin grid0.N, _)

end Cert.Kernel7Ideal.MlaPrep

end
-- ==== Proof.MlaRead.lean ====
module

public import proofs.«01_k».proof.Proof.Gen.Kernel7Ideal.Value
public import proofs.«01_k».proof.Proof.Gen.Reference7Ideal.Run
public import proofs.«01_k».proof.Proof.MlaTable
public import Idealize.ShloMosaic.Lib.Pipeline.ValueKit

@[expose] public section

/-! What the second layer's projection reads: the cosines and sines of the positions, real numbers all, and the tables. -/

set_option maxRecDepth 16384

noncomputable section

open Idealize.ShloMosaic Idealize.ShloMosaic.TcCoe Idealize.SL.Sem
open Idealize.ShloMosaic.Pipeline (Dat)

namespace Cert.Kernel7Ideal.MlaPrep

open Cert.Kernel7Ideal Cert.Kernel7Ideal.Gen

variable (m : (ℓ : Loc nD τ sig) → Buf (Elt Ideal) ℓ)

/-- The angles' multipliers: powers of 500000. -/
abbrev inv : FVec Ideal S16 .f32 :=
  Host.powf (broadcastInDim S16 ![] bcast_S_S16 (constant S_ .f32 0x48F42400#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The kernel's angles. -/
abbrev kang (P : Vec Ideal S4x4096 .i32) : FVec Ideal S4x4096x16 .f32 :=
  mulf (broadcastInDim S4x4096x16 ![0, 1, 2] bcast_S4x4096x1_S4x4096x16_0_1_2
      (broadcastInDim S4x4096x1 ![0, 1] bcast_S4x4096_S4x4096x1_0_1 (sitofp .f32 P : FVec Ideal S4x4096 .f32)))
    (broadcastInDim S4x4096x16 ![0, 1, 2] bcast_S1x1x16_S4x4096x16_0_1_2 (broadcastInDim S1x1x16 ![2] bcast_S16_S1x1x16_2 inv))

/-- The kernel's cosines and sines, side by side. -/
abbrev kcs (P : Vec Ideal S4x4096 .i32) : FVec Ideal S16384x32 .f32 :=
  shapeCast _ (concatenate S4x4096x32 2 [⟨S4x4096x16, Host.cos (kang P)⟩, ⟨S4x4096x16, Host.sin (kang P)⟩]
    concatenates_S4x4096x16_S4x4096x16_S4x4096x32_d2) shapeCasts_S4x4096x32_S16384x32

/-- The array the kernel's fourth window reads. -/
theorem V19 (c : Dev nD) : V m c main_v19 = kcs (m ((c : Thread nD τ).loc main_arg1)) := by
  unfold V
  after_results_simp <;> (try dsimp only [Matrix.cons_val]) <;> (try after_results_simp) <;> rfl

/-- The array the kernel's fifth window reads. -/
theorem V0 (c : Dev nD) : V m c main_cst = (fun i => FloatOps.ofBits (F := Ideal) .f32 (lit0 (S32x384.rowMajor i)) : FVec Ideal S32x384 .f32) := by
  unfold V
  after_results_simp <;> (try dsimp only [Matrix.cons_val]) <;> (try after_results_simp) <;> rfl

/-- The array the kernel's sixth window reads. -/
theorem V1 (c : Dev nD) : V m c main_cst_0 = (fun i => FloatOps.ofBits (F := Ideal) .f32 (lit1 (S1x384.rowMajor i)) : FVec Ideal S1x384 .f32) := by
  unfold V
  after_results_simp <;> (try dsimp only [Matrix.cons_val]) <;> (try after_results_simp) <;> rfl

/-- The array row that row `r` of grid point `t`'s blocks is. -/
abbrev R (t : Fin cfg0.N) (r : Fin 512) : Fin 16384 :=
  ⟨(grid0.coords t 0).val * 512 + r.val, by
    have := (grid0.coords t 0).isLt
    have h : (grid0.coords t 0).val < 32 := this
    omega⟩

/-- The angle of row `r` at lane `i`. -/
def ang (P : Vec Ideal S4x4096 .i32) (r : Fin 16384) (i : Fin 16) : EReal :=
  FloatOps.sitofp (F := Ideal) .f32 (P (ix2 ⟨r.val / 4096, by omega⟩ ⟨r.val % 4096, by omega⟩)) *
    Ideal.pow (Ideal.ofBits .f32 0x48F42400#32)
      (Ideal.div (-(Ideal.ofBits .f32 0x40000000#32 * FloatOps.sitofp (F := Ideal) .f32 (BitVec.ofNat 32 i.val))) (Ideal.ofBits .f32 0x42000000#32))

theorem kcs_lo (P : Vec Ideal S4x4096 .i32) (r : Fin 16384) (i : Fin 16) : kcs P (ix2 r ⟨i.val, by omega⟩) = Ideal.cos (ang P r i) := by
  pointwise [ang]

theorem kcs_hi (P : Vec Ideal S4x4096 .i32) (r : Fin 16384) (i : Fin 16) : kcs P (ix2 r ⟨16 + i.val, by omega⟩) = Ideal.sin (ang P r i) := by
  pointwise [ang]

/-- An angle is a real number. -/
theorem ang_real (P : Vec Ideal S4x4096 .i32) (r : Fin 16384) (i : Fin 16) : ∃ v : ℝ, ang P r i = (v : EReal) := by
  have hs : ∀ b : BitVec 32, FloatOps.sitofp (F := Ideal) .f32 b = ((b.toInt : ℝ) : EReal) := fun b => rfl
  have h1 : Ideal.ofBits .f32 0x48F42400#32 = ((500000 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x42000000#32 = ((32 : ℝ) : EReal) := by
    simp [Ideal.ofBits, Ideal.ieee, -EReal.coe_mul]; norm_num
  have hd : ∀ x : ℝ, ∃ y : ℝ, Ideal.div (x : EReal) ((32 : ℝ) : EReal) = (y : EReal) := fun x => by
    refine ⟨x / 32, ?_⟩
    simp [Ideal.div]
    rw [← EReal.coe_inv, ← EReal.coe_mul, div_eq_mul_inv]
  unfold ang
  rw [h1, h2, h3, hs, hs, ← EReal.coe_mul, ← EReal.coe_neg]
  obtain ⟨y, hy⟩ := hd (-(2 * ((BitVec.ofNat 32 i.val).toInt : ℝ)))
  rw [hy]
  exact ⟨_ , (EReal.coe_mul _ (Real.rpow 500000 y)).symm⟩

/-- A cosine or sine the kernel is given is a real number. -/
theorem kcs_real (P : Vec Ideal S4x4096 .i32) (r : Fin 16384) (j : Fin 32) : ∃ v : ℝ, kcs P (ix2 r j) = (v : EReal) := by
  by_cases h : j.val < 16
  · obtain ⟨v, e⟩ := ang_real P r ⟨j.val, h⟩
    exact ⟨Real.cos v, (kcs_lo P r ⟨j.val, h⟩).trans (by rw [e]; rfl)⟩
  · obtain ⟨v, e⟩ := ang_real P r ⟨j.val - 16, by omega⟩
    have hj : j = ⟨16 + (j.val - 16), by omega⟩ := Fin.ext (by simp; omega)
    exact ⟨Real.sin v, by rw [hj]; exact (kcs_hi P r ⟨j.val - 16, by omega⟩).trans (by rw [e]; rfl)⟩

theorem iblk3_at (c : Dev nD) (t : Fin cfg0.N) (r : Fin 512) (j : Fin 32) :
    iblk m c 3 t (ix2 r j) = kcs (m ((c : Thread nD τ).loc main_arg1)) (ix2 (R t r) j) := by
  rw [← V19]
  blk_point [iblk, idx t]

theorem iblk4_at (c : Dev nD) (t : Fin cfg0.N) (j : Fin 32) (l : Fin 384) :
    iblk m c 4 t (ix2 j l) = if j.val = row l.val then (if 128 ≤ l.val ∧ l.val < 256 then (-1 : EReal) else 1) else 0 := by
  have e : iblk m c 4 t (ix2 j l) = V m c main_cst (ix2 j l) := by
    blk_point [iblk, idx t]
  have hp : Ideal.ofBits .f32 0x3F800000#32 = (1 : EReal) := by
    simp [Ideal.ofBits, Ideal.ieee, -EReal.coe_mul]; norm_num
  have hn : Ideal.ofBits .f32 0xBF800000#32 = (-1 : EReal) := by
    simp [Ideal.ofBits, Ideal.ieee, -EReal.coe_mul]; norm_num
  have hz : Ideal.ofBits .f32 0x00000000#32 = (0 : EReal) := by
    simp [Ideal.ofBits, Ideal.ieee, -EReal.coe_mul]
  rw [e, V0]
  have ev : (S32x384.rowMajor (ix2 j l)).val = j.val * 384 + l.val := (Shape.rowMajor_val_two _).trans (by simp)
  have el : lit0 (S32x384.rowMajor (ix2 j l)) = lit0t (j.val * 384 + l.val) := congrArg lit0t ev
  show Ideal.ofBits .f32 (lit0 (S32x384.rowMajor (ix2 j l))) = _
  rw [el, lit0_eq]
  split_ifs
  · exact hn
  · exact hp
  · exact hz

theorem iblk5_at (c : Dev nD) (t : Fin cfg0.N) (l : Fin 384) :
    iblk m c 5 t (ix2 0 l) = if l.val < 64 ∨ (96 ≤ l.val ∧ l.val < 128) then (1 : EReal) else 0 := by
  have e : iblk m c 5 t (ix2 0 l) = V m c main_cst_0 (ix2 0 l) := by
    blk_point [iblk, idx t]
  have hp : Ideal.ofBits .f32 0x3F800000#32 = (1 : EReal) := by
    simp [Ideal.ofBits, Ideal.ieee, -EReal.coe_mul]; norm_num
  have hz : Ideal.ofBits .f32 0x00000000#32 = (0 : EReal) := by
    simp [Ideal.ofBits, Ideal.ieee, -EReal.coe_mul]
  rw [e, V1]
  have el : S1x384.rowMajor (ix2 0 l) = l := Fin.ext ((Shape.rowMajor_val_two _).trans (by simp))
  show Ideal.ofBits .f32 (lit1 (S1x384.rowMajor (ix2 0 l))) = _
  rw [el, lit1_eq]
  split_ifs
  · exact hp
  · exact hz

end Cert.Kernel7Ideal.MlaPrep

end
-- ==== Proof.MlaBlock.lean ====
module

public import proofs.«01_k».proof.Proof.Gen.Kernel7Ideal.Value
public import proofs.«01_k».proof.Proof.Gen.Reference7Ideal.Run
public import proofs.«01_k».proof.Proof.MlaRead
public import Idealize.ShloMosaic.Lib.Pipeline.ValueKit

@[expose] public section

/-! The second layer's projection, a block at a time: each of its three results as sums, and the reference's. -/

set_option maxRecDepth 16384

noncomputable section

open Idealize.ShloMosaic Idealize.ShloMosaic.TcCoe Idealize.SL.Sem
open Idealize.ShloMosaic.Pipeline (Dat)

namespace Cert.Kernel7Ideal.MlaPrep

open Cert.Kernel7Ideal Cert.Kernel7Ideal.Gen

variable (m : (ℓ : Loc nD τ sig) → Buf (Elt Ideal) ℓ)

/-- The reference's normalised query rows. -/
def rhq (X : FVec Ideal Cert.Reference7Ideal.S16384x4096 .f32) (G : FVec Ideal Cert.Reference7Ideal.S1x256 .f32) : FVec Ideal Cert.Reference7Ideal.S16384x256 .bf16 :=
  (truncf .bf16 (mulf (mulf (extractStridedSlice Cert.Reference7Ideal.S16384x256 ![0, 2048] X Cert.Reference7Ideal.Gen.slices_S16384x4096_S16384x256_0_2048) (broadcastInDim Cert.Reference7Ideal.S16384x256 ![0, 1] Cert.Reference7Ideal.Gen.bcast_S16384x1_S16384x256_0_1 (Host.rsqrt (addf (Host.divf (broadcastInDim Cert.Reference7Ideal.S16384x1 ![0] Cert.Reference7Ideal.Gen.bcast_S16384_S16384x1_0 (Host.reduceAdd (mulf (extractStridedSlice Cert.Reference7Ideal.S16384x256 ![0, 2048] X Cert.Reference7Ideal.Gen.slices_S16384x4096_S16384x256_0_2048) (extractStridedSlice Cert.Reference7Ideal.S16384x256 ![0, 2048] X Cert.Reference7Ideal.Gen.slices_S16384x4096_S16384x256_0_2048)) (constant Cert.Reference7Ideal.S_ .f32 0x00000000#32) Cert.Reference7Ideal.Gen.reducesTo_S16384x256_S16384_d1 Cert.Reference7Ideal.Gen.h_S_)) (broadcastInDim Cert.Reference7Ideal.S16384x1 ![] Cert.Reference7Ideal.Gen.bcast_S_S16384x1 (constant Cert.Reference7Ideal.S_ .f32 0x43800000#32))) (broadcastInDim Cert.Reference7Ideal.S16384x1 ![] Cert.Reference7Ideal.Gen.bcast_S_S16384x1 (constant Cert.Reference7Ideal.S_ .f32 0x358637BD#32)))))) (broadcastInDim Cert.Reference7Ideal.S16384x256 ![0, 1] Cert.Reference7Ideal.Gen.bcast_S1x256_S16384x256_0_1 G)) Cert.Reference7Ideal.Gen.bitsLt_bf16_f32)

/-- The reference's normalised key and value rows. -/
def rhkv (X : FVec Ideal Cert.Reference7Ideal.S16384x4096 .f32) (G : FVec Ideal Cert.Reference7Ideal.S1x128 .f32) : FVec Ideal Cert.Reference7Ideal.S16384x128 .bf16 :=
  (truncf .bf16 (mulf (mulf (extractStridedSlice Cert.Reference7Ideal.S16384x128 ![0, 2304] X Cert.Reference7Ideal.Gen.slices_S16384x4096_S16384x128_0_2304) (broadcastInDim Cert.Reference7Ideal.S16384x128 ![0, 1] Cert.Reference7Ideal.Gen.bcast_S16384x1_S16384x128_0_1 (Host.rsqrt (addf (Host.divf (broadcastInDim Cert.Reference7Ideal.S16384x1 ![0] Cert.Reference7Ideal.Gen.bcast_S16384_S16384x1_0 (Host.reduceAdd (mulf (extractStridedSlice Cert.Reference7Ideal.S16384x128 ![0, 2304] X Cert.Reference7Ideal.Gen.slices_S16384x4096_S16384x128_0_2304) (extractStridedSlice Cert.Reference7Ideal.S16384x128 ![0, 2304] X Cert.Reference7Ideal.Gen.slices_S16384x4096_S16384x128_0_2304)) (constant Cert.Reference7Ideal.S_ .f32 0x00000000#32) Cert.Reference7Ideal.Gen.reducesTo_S16384x128_S16384_d1 Cert.Reference7Ideal.Gen.h_S_)) (broadcastInDim Cert.Reference7Ideal.S16384x1 ![] Cert.Reference7Ideal.Gen.bcast_S_S16384x1 (constant Cert.Reference7Ideal.S_ .f32 0x43000000#32))) (broadcastInDim Cert.Reference7Ideal.S16384x1 ![] Cert.Reference7Ideal.Gen.bcast_S_S16384x1 (constant Cert.Reference7Ideal.S_ .f32 0x358637BD#32)))))) (broadcastInDim Cert.Reference7Ideal.S16384x128 ![0, 1] Cert.Reference7Ideal.Gen.bcast_S1x128_S16384x128_0_1 G)) Cert.Reference7Ideal.Gen.bitsLt_bf16_f32)

/-- The reference's cosines. -/
def rcos (P : Vec Ideal Cert.Reference7Ideal.S4x4096 .i32) : FVec Ideal Cert.Reference7Ideal.S16384x16 .f32 :=
  (Host.cos (mulf (broadcastInDim Cert.Reference7Ideal.S16384x16 ![0, 1] Cert.Reference7Ideal.Gen.bcast_S16384x1_S16384x16_0_1 (broadcastInDim Cert.Reference7Ideal.S16384x1 ![0] Cert.Reference7Ideal.Gen.bcast_S16384_S16384x1_0 (sitofp .f32 (shapeCast _ P Cert.Reference7Ideal.Gen.shapeCasts_S4x4096_S16384)))) (broadcastInDim Cert.Reference7Ideal.S16384x16 ![0, 1] Cert.Reference7Ideal.Gen.bcast_S1x16_S16384x16_0_1 (broadcastInDim Cert.Reference7Ideal.S1x16 ![1] Cert.Reference7Ideal.Gen.bcast_S16_S1x16_1 (Host.powf (broadcastInDim Cert.Reference7Ideal.S16 ![] Cert.Reference7Ideal.Gen.bcast_S_S16 (constant Cert.Reference7Ideal.S_ .f32 0x48F42400#32)) (Host.divf (Host.negf (addf (broadcastInDim Cert.Reference7Ideal.S16 ![] Cert.Reference7Ideal.Gen.bcast_S_S16 (constant Cert.Reference7Ideal.S_ .f32 0x00000000#32)) (mulf (broadcastInDim Cert.Reference7Ideal.S16 ![] Cert.Reference7Ideal.Gen.bcast_S_S16 (constant Cert.Reference7Ideal.S_ .f32 0x40000000#32)) (sitofp .f32 (iotaInDim Cert.Reference7Ideal.S16 32 0))))) (broadcastInDim Cert.Reference7Ideal.S16 ![] Cert.Reference7Ideal.Gen.bcast_S_S16 (constant Cert.Reference7Ideal.S_ .f32 0x42000000#32))))))))

/-- The reference's sines. -/
def rsin (P : Vec Ideal Cert.Reference7Ideal.S4x4096 .i32) : FVec Ideal Cert.Reference7Ideal.S16384x16 .f32 :=
  (Host.sin (mulf (broadcastInDim Cert.Reference7Ideal.S16384x16 ![0, 1] Cert.Reference7Ideal.Gen.bcast_S16384x1_S16384x16_0_1 (broadcastInDim Cert.Reference7Ideal.S16384x1 ![0] Cert.Reference7Ideal.Gen.bcast_S16384_S16384x1_0 (sitofp .f32 (shapeCast _ P Cert.Reference7Ideal.Gen.shapeCasts_S4x4096_S16384)))) (broadcastInDim Cert.Reference7Ideal.S16384x16 ![0, 1] Cert.Reference7Ideal.Gen.bcast_S1x16_S16384x16_0_1 (broadcastInDim Cert.Reference7Ideal.S1x16 ![1] Cert.Reference7Ideal.Gen.bcast_S16_S1x16_1 (Host.powf (broadcastInDim Cert.Reference7Ideal.S16 ![] Cert.Reference7Ideal.Gen.bcast_S_S16 (constant Cert.Reference7Ideal.S_ .f32 0x48F42400#32)) (Host.divf (Host.negf (addf (broadcastInDim Cert.Reference7Ideal.S16 ![] Cert.Reference7Ideal.Gen.bcast_S_S16 (constant Cert.Reference7Ideal.S_ .f32 0x00000000#32)) (mulf (broadcastInDim Cert.Reference7Ideal.S16 ![] Cert.Reference7Ideal.Gen.bcast_S_S16 (constant Cert.Reference7Ideal.S_ .f32 0x40000000#32)) (sitofp .f32 (iotaInDim Cert.Reference7Ideal.S16 32 0))))) (broadcastInDim Cert.Reference7Ideal.S16 ![] Cert.Reference7Ideal.Gen.bcast_S_S16 (constant Cert.Reference7Ideal.S_ .f32 0x42000000#32))))))))

/-- The reference's queries before their rotation. -/
def rQ (X : FVec Ideal Cert.Reference7Ideal.S16384x4096 .f32) (G : FVec Ideal Cert.Reference7Ideal.S1x256 .f32) (W : FVec Ideal Cert.Reference7Ideal.S256x512 .bf16) : FVec Ideal Cert.Reference7Ideal.S16384x512 .f32 :=
  (Host.dotGeneral Cert.Reference7Ideal.dot_S16384x256_S256x512_S16384x512_1_0_0_1_n_n none (rhq X G) W)

/-- The reference's queries. -/
def refQ (X : FVec Ideal Cert.Reference7Ideal.S16384x4096 .f32) (P : Vec Ideal Cert.Reference7Ideal.S4x4096 .i32) (G : FVec Ideal Cert.Reference7Ideal.S1x256 .f32) (W : FVec Ideal Cert.Reference7Ideal.S256x512 .bf16) : FVec Ideal Cert.Reference7Ideal.S16384x512 .bf16 :=
  truncf .bf16 (shapeCast _ (mulf (concatenate Cert.Reference7Ideal.S16384x4x128 2 [⟨Cert.Reference7Ideal.S16384x4x64, (extractStridedSlice Cert.Reference7Ideal.S16384x4x64 ![0, 0, 0] (shapeCast _ (rQ X G W) Cert.Reference7Ideal.Gen.shapeCasts_S16384x512_S16384x4x128) Cert.Reference7Ideal.Gen.slices_S16384x4x128_S16384x4x64_0_0_0)⟩, ⟨Cert.Reference7Ideal.S16384x4x64, ((concatenate Cert.Reference7Ideal.S16384x4x64 2 [⟨Cert.Reference7Ideal.S16384x4x16, ((subf (mulf (extractStridedSlice Cert.Reference7Ideal.S16384x4x16 ![0, 0, 0] (extractStridedSlice Cert.Reference7Ideal.S16384x4x64 ![0, 0, 64] (shapeCast _ (rQ X G W) Cert.Reference7Ideal.Gen.shapeCasts_S16384x512_S16384x4x128) Cert.Reference7Ideal.Gen.slices_S16384x4x128_S16384x4x64_0_0_64) Cert.Reference7Ideal.Gen.slices_S16384x4x64_S16384x4x16_0_0_0) (broadcastInDim Cert.Reference7Ideal.S16384x4x16 ![0, 1, 2] Cert.Reference7Ideal.Gen.bcast_S16384x1x16_S16384x4x16_0_1_2 (broadcastInDim Cert.Reference7Ideal.S16384x1x16 ![0, 2] Cert.Reference7Ideal.Gen.bcast_S16384x16_S16384x1x16_0_2 (rcos P)))) (mulf (extractStridedSlice Cert.Reference7Ideal.S16384x4x16 ![0, 0, 16] (extractStridedSlice Cert.Reference7Ideal.S16384x4x64 ![0, 0, 64] (shapeCast _ (rQ X G W) Cert.Reference7Ideal.Gen.shapeCasts_S16384x512_S16384x4x128) Cert.Reference7Ideal.Gen.slices_S16384x4x128_S16384x4x64_0_0_64) Cert.Reference7Ideal.Gen.slices_S16384x4x64_S16384x4x16_0_0_16) (broadcastInDim Cert.Reference7Ideal.S16384x4x16 ![0, 1, 2] Cert.Reference7Ideal.Gen.bcast_S16384x1x16_S16384x4x16_0_1_2 (broadcastInDim Cert.Reference7Ideal.S16384x1x16 ![0, 2] Cert.Reference7Ideal.Gen.bcast_S16384x16_S16384x1x16_0_2 (rsin P))))) : (⟨Cert.Reference7Ideal.S16384x4x16, .f32⟩ : BufTy).Contents (Elt Ideal))⟩, ⟨Cert.Reference7Ideal.S16384x4x16, ((addf (mulf (extractStridedSlice Cert.Reference7Ideal.S16384x4x16 ![0, 0, 16] (extractStridedSlice Cert.Reference7Ideal.S16384x4x64 ![0, 0, 64] (shapeCast _ (rQ X G W) Cert.Reference7Ideal.Gen.shapeCasts_S16384x512_S16384x4x128) Cert.Reference7Ideal.Gen.slices_S16384x4x128_S16384x4x64_0_0_64) Cert.Reference7Ideal.Gen.slices_S16384x4x64_S16384x4x16_0_0_16) (broadcastInDim Cert.Reference7Ideal.S16384x4x16 ![0, 1, 2] Cert.Reference7Ideal.Gen.bcast_S16384x1x16_S16384x4x16_0_1_2 (broadcastInDim Cert.Reference7Ideal.S16384x1x16 ![0, 2] Cert.Reference7Ideal.Gen.bcast_S16384x16_S16384x1x16_0_2 (rcos P)))) (mulf (extractStridedSlice Cert.Reference7Ideal.S16384x4x16 ![0, 0, 0] (extractStridedSlice Cert.Reference7Ideal.S16384x4x64 ![0, 0, 64] (shapeCast _ (rQ X G W) Cert.Reference7Ideal.Gen.shapeCasts_S16384x512_S16384x4x128) Cert.Reference7Ideal.Gen.slices_S16384x4x128_S16384x4x64_0_0_64) Cert.Reference7Ideal.Gen.slices_S16384x4x64_S16384x4x16_0_0_0) (broadcastInDim Cert.Reference7Ideal.S16384x4x16 ![0, 1, 2] Cert.Reference7Ideal.Gen.bcast_S16384x1x16_S16384x4x16_0_1_2 (broadcastInDim Cert.Reference7Ideal.S16384x1x16 ![0, 2] Cert.Reference7Ideal.Gen.bcast_S16384x16_S16384x1x16_0_2 (rsin P))))) : (⟨Cert.Reference7Ideal.S16384x4x16, .f32⟩ : BufTy).Contents (Elt Ideal))⟩, ⟨Cert.Reference7Ideal.S16384x4x32, ((extractStridedSlice Cert.Reference7Ideal.S16384x4x32 ![0, 0, 32] (extractStridedSlice Cert.Reference7Ideal.S16384x4x64 ![0, 0, 64] (shapeCast _ (rQ X G W) Cert.Reference7Ideal.Gen.shapeCasts_S16384x512_S16384x4x128) Cert.Reference7Ideal.Gen.slices_S16384x4x128_S16384x4x64_0_0_64) Cert.Reference7Ideal.Gen.slices_S16384x4x64_S16384x4x32_0_0_32) : (⟨Cert.Reference7Ideal.S16384x4x32, .f32⟩ : BufTy).Contents (Elt Ideal))⟩] Cert.Reference7Ideal.Gen.concatenates_S16384x4x16_S16384x4x16_S16384x4x32_S16384x4x64_d2 : (⟨Cert.Reference7Ideal.S16384x4x64, .f32⟩ : BufTy).Contents (Elt Ideal)))⟩] Cert.Reference7Ideal.Gen.concatenates_S16384x4x64_S16384x4x64_S16384x4x128_d2) (broadcastInDim Cert.Reference7Ideal.S16384x4x128 ![] Cert.Reference7Ideal.Gen.bcast_S_S16384x4x128 (constant Cert.Reference7Ideal.S_ .f32 0x3E16C740#32))) Cert.Reference7Ideal.Gen.shapeCasts_S16384x4x128_S16384x512) Cert.Reference7Ideal.Gen.bitsLt_bf16_f32

/-- The reference's keys. -/
def refK (X : FVec Ideal Cert.Reference7Ideal.S16384x4096 .f32) (P : Vec Ideal Cert.Reference7Ideal.S4x4096 .i32) (G : FVec Ideal Cert.Reference7Ideal.S1x128 .f32) (W : FVec Ideal Cert.Reference7Ideal.S128x512 .bf16) : FVec Ideal Cert.Reference7Ideal.S16384x512 .bf16 :=
  truncf .bf16 (shapeCast _ (addf (shapeCast _ (Host.dotGeneral Cert.Reference7Ideal.dot_S16384x128_S128x512_S16384x512_1_0_0_1_n_n none (rhkv X G) W) Cert.Reference7Ideal.Gen.shapeCasts_S16384x512_S16384x4x128) (broadcastInDim Cert.Reference7Ideal.S16384x4x128 ![0, 1, 2] Cert.Reference7Ideal.Gen.bcast_S16384x1x128_S16384x4x128_0_1_2 (concatenate Cert.Reference7Ideal.S16384x1x128 2 [⟨Cert.Reference7Ideal.S16384x1x64, (extractStridedSlice Cert.Reference7Ideal.S16384x1x64 ![0, 0, 0] (broadcastInDim Cert.Reference7Ideal.S16384x1x128 ![0, 2] Cert.Reference7Ideal.Gen.bcast_S16384x128_S16384x1x128_0_2 (extractStridedSlice Cert.Reference7Ideal.S16384x128 ![0, 2432] X Cert.Reference7Ideal.Gen.slices_S16384x4096_S16384x128_0_2432)) Cert.Reference7Ideal.Gen.slices_S16384x1x128_S16384x1x64_0_0_0)⟩, ⟨Cert.Reference7Ideal.S16384x1x64, ((concatenate Cert.Reference7Ideal.S16384x1x64 2 [⟨Cert.Reference7Ideal.S16384x1x16, ((subf (mulf (extractStridedSlice Cert.Reference7Ideal.S16384x1x16 ![0, 0, 0] (extractStridedSlice Cert.Reference7Ideal.S16384x1x64 ![0, 0, 64] (broadcastInDim Cert.Reference7Ideal.S16384x1x128 ![0, 2] Cert.Reference7Ideal.Gen.bcast_S16384x128_S16384x1x128_0_2 (extractStridedSlice Cert.Reference7Ideal.S16384x128 ![0, 2432] X Cert.Reference7Ideal.Gen.slices_S16384x4096_S16384x128_0_2432)) Cert.Reference7Ideal.Gen.slices_S16384x1x128_S16384x1x64_0_0_64) Cert.Reference7Ideal.Gen.slices_S16384x1x64_S16384x1x16_0_0_0) (broadcastInDim Cert.Reference7Ideal.S16384x1x16 ![0, 2] Cert.Reference7Ideal.Gen.bcast_S16384x16_S16384x1x16_0_2 (rcos P))) (mulf (extractStridedSlice Cert.Reference7Ideal.S16384x1x16 ![0, 0, 16] (extractStridedSlice Cert.Reference7Ideal.S16384x1x64 ![0, 0, 64] (broadcastInDim Cert.Reference7Ideal.S16384x1x128 ![0, 2] Cert.Reference7Ideal.Gen.bcast_S16384x128_S16384x1x128_0_2 (extractStridedSlice Cert.Reference7Ideal.S16384x128 ![0, 2432] X Cert.Reference7Ideal.Gen.slices_S16384x4096_S16384x128_0_2432)) Cert.Reference7Ideal.Gen.slices_S16384x1x128_S16384x1x64_0_0_64) Cert.Reference7Ideal.Gen.slices_S16384x1x64_S16384x1x16_0_0_16) (broadcastInDim Cert.Reference7Ideal.S16384x1x16 ![0, 2] Cert.Reference7Ideal.Gen.bcast_S16384x16_S16384x1x16_0_2 (rsin P)))) : (⟨Cert.Reference7Ideal.S16384x1x16, .f32⟩ : BufTy).Contents (Elt Ideal))⟩, ⟨Cert.Reference7Ideal.S16384x1x16, ((addf (mulf (extractStridedSlice Cert.Reference7Ideal.S16384x1x16 ![0, 0, 16] (extractStridedSlice Cert.Reference7Ideal.S16384x1x64 ![0, 0, 64] (broadcastInDim Cert.Reference7Ideal.S16384x1x128 ![0, 2] Cert.Reference7Ideal.Gen.bcast_S16384x128_S16384x1x128_0_2 (extractStridedSlice Cert.Reference7Ideal.S16384x128 ![0, 2432] X Cert.Reference7Ideal.Gen.slices_S16384x4096_S16384x128_0_2432)) Cert.Reference7Ideal.Gen.slices_S16384x1x128_S16384x1x64_0_0_64) Cert.Reference7Ideal.Gen.slices_S16384x1x64_S16384x1x16_0_0_16) (broadcastInDim Cert.Reference7Ideal.S16384x1x16 ![0, 2] Cert.Reference7Ideal.Gen.bcast_S16384x16_S16384x1x16_0_2 (rcos P))) (mulf (extractStridedSlice Cert.Reference7Ideal.S16384x1x16 ![0, 0, 0] (extractStridedSlice Cert.Reference7Ideal.S16384x1x64 ![0, 0, 64] (broadcastInDim Cert.Reference7Ideal.S16384x1x128 ![0, 2] Cert.Reference7Ideal.Gen.bcast_S16384x128_S16384x1x128_0_2 (extractStridedSlice Cert.Reference7Ideal.S16384x128 ![0, 2432] X Cert.Reference7Ideal.Gen.slices_S16384x4096_S16384x128_0_2432)) Cert.Reference7Ideal.Gen.slices_S16384x1x128_S16384x1x64_0_0_64) Cert.Reference7Ideal.Gen.slices_S16384x1x64_S16384x1x16_0_0_0) (broadcastInDim Cert.Reference7Ideal.S16384x1x16 ![0, 2] Cert.Reference7Ideal.Gen.bcast_S16384x16_S16384x1x16_0_2 (rsin P)))) : (⟨Cert.Reference7Ideal.S16384x1x16, .f32⟩ : BufTy).Contents (Elt Ideal))⟩, ⟨Cert.Reference7Ideal.S16384x1x32, ((extractStridedSlice Cert.Reference7Ideal.S16384x1x32 ![0, 0, 32] (extractStridedSlice Cert.Reference7Ideal.S16384x1x64 ![0, 0, 64] (broadcastInDim Cert.Reference7Ideal.S16384x1x128 ![0, 2] Cert.Reference7Ideal.Gen.bcast_S16384x128_S16384x1x128_0_2 (extractStridedSlice Cert.Reference7Ideal.S16384x128 ![0, 2432] X Cert.Reference7Ideal.Gen.slices_S16384x4096_S16384x128_0_2432)) Cert.Reference7Ideal.Gen.slices_S16384x1x128_S16384x1x64_0_0_64) Cert.Reference7Ideal.Gen.slices_S16384x1x64_S16384x1x32_0_0_32) : (⟨Cert.Reference7Ideal.S16384x1x32, .f32⟩ : BufTy).Contents (Elt Ideal))⟩] Cert.Reference7Ideal.Gen.concatenates_S16384x1x16_S16384x1x16_S16384x1x32_S16384x1x64_d2 : (⟨Cert.Reference7Ideal.S16384x1x64, .f32⟩ : BufTy).Contents (Elt Ideal)))⟩] Cert.Reference7Ideal.Gen.concatenates_S16384x1x64_S16384x1x64_S16384x1x128_d2))) Cert.Reference7Ideal.Gen.shapeCasts_S16384x4x128_S16384x512) Cert.Reference7Ideal.Gen.bitsLt_bf16_f32

/-- The reference's values, transposed. -/
def refV (X : FVec Ideal Cert.Reference7Ideal.S16384x4096 .f32) (G : FVec Ideal Cert.Reference7Ideal.S1x128 .f32) (W : FVec Ideal Cert.Reference7Ideal.S256x128 .bf16) : FVec Ideal Cert.Reference7Ideal.S256x16384 .bf16 :=
  truncf .bf16 (Host.dotGeneral Cert.Reference7Ideal.dot_S256x128_S128x16384_S256x16384_1_0_0_1_n_n none W (transpose Cert.Reference7Ideal.S128x16384 [1, 0] (rhkv X G) Cert.Reference7Ideal.Gen.transposes_S16384x128_S128x16384_1_0)) Cert.Reference7Ideal.Gen.bitsLt_bf16_f32

theorem res_q (m' : (ℓ : Loc Cert.Reference7Ideal.nD Cert.Reference7Ideal.τ Cert.Reference7Ideal.sig) → Buf (Elt Ideal) ℓ) (c : Dev Cert.Reference7Ideal.nD) :
    Cert.Reference7Ideal.Value.res_main_v92 m' c = refQ (m' ((c.tc : Thread nD τ).loc Cert.Reference7Ideal.main_arg0)) (m' ((c.tc : Thread nD τ).loc Cert.Reference7Ideal.main_arg1))
      (m' ((c.tc : Thread nD τ).loc Cert.Reference7Ideal.main_arg2)) (m' ((c.tc : Thread nD τ).loc Cert.Reference7Ideal.main_arg4)) := by
  unfold Cert.Reference7Ideal.Value.res_main_v92 refQ rQ rhq rcos rsin; rfl

theorem res_k (m' : (ℓ : Loc Cert.Reference7Ideal.nD Cert.Reference7Ideal.τ Cert.Reference7Ideal.sig) → Buf (Elt Ideal) ℓ) (c : Dev Cert.Reference7Ideal.nD) :
    Cert.Reference7Ideal.Value.res_main_v94 m' c = refK (m' ((c.tc : Thread nD τ).loc Cert.Reference7Ideal.main_arg0)) (m' ((c.tc : Thread nD τ).loc Cert.Reference7Ideal.main_arg1))
      (m' ((c.tc : Thread nD τ).loc Cert.Reference7Ideal.main_arg3)) (m' ((c.tc : Thread nD τ).loc Cert.Reference7Ideal.main_arg5)) := by
  unfold Cert.Reference7Ideal.Value.res_main_v94 refK rhkv rcos rsin; rfl

/-- The kernel's table of cosines and sines for one block of rows. -/
abbrev tab (x3 : Vec Ideal S512x32 .f32) (x4 : Vec Ideal S32x384 .f32) (x5 : Vec Ideal S1x384 .f32) : FVec Ideal S512x384 .f32 :=
  k0_pay12 (k0_pay6 x4) (k0_pay9 x3) (k0_pay10 x3) (k0_pay11 x3 x4) x5

/-- A table entry: the one cosine or sine its column selects, and the base row's entry. -/
theorem tab_at (x3 : Vec Ideal S512x32 .f32) (x4 : Vec Ideal S32x384 .f32) (x5 : Vec Ideal S1x384 .f32) (r : Fin 512) (l : Fin 384)
    (n : ℕ) (s b : EReal) (hr : ∀ j, ∃ v : ℝ, x3 (ix2 r j) = (v : EReal)) (h4 : ∀ j : Fin 32, x4 (ix2 j l) = if j.val = n then s else 0)
    (h5 : x5 (ix2 0 l) = b) :
    tab x3 x4 x5 (ix2 r l) = (if h : n < 32 then x3 (ix2 r ⟨n, h⟩) * s else 0) + b := by
  have hz : ∀ j, x3 (ix2 r j) - x3 (ix2 r j) = 0 := fun j => by
    obtain ⟨v, e⟩ := hr j
    rw [e, ← EReal.coe_sub, sub_self, EReal.coe_zero]
  pointwise [tab, k0_pay12, k0_pay11, k0_pay10, k0_pay9, k0_pay8, k0_pay7, k0_pay6, k0_pay5]
  simp only [hz, h4, h5, zero_mul, sub_zero, Finset.sum_const_zero, add_zero]
  congr 1
  split_ifs with h
  · rw [Finset.sum_eq_single ⟨n, h⟩]
    · simp
    · intro j _ hj
      rw [if_neg (fun e => hj (Fin.ext e)), mul_zero]
    · simp
  · refine Finset.sum_eq_zero fun j _ => ?_
    rw [if_neg (fun e => h (by rw [← e]; exact j.isLt)), mul_zero]

/-- The queries' block: each product with its two neighbours sixteen lanes away, weighed by the table. -/
theorem q_at (x0 : Vec Ideal S512x256 .f32) (x1 : Vec Ideal S512x128 .f32) (x2 : Vec Ideal S512x128 .f32) (x3 : Vec Ideal S512x32 .f32) (x4 : Vec Ideal S32x384 .f32) (x5 : Vec Ideal S1x384 .f32) (x6 : Vec Ideal S1x256 .f32) (x7 : Vec Ideal S1x128 .f32) (x8 : Vec Ideal S256x512 .bf16) (x9 : Vec Ideal S128x512 .bf16) (x10 : Vec Ideal S256x128 .bf16) (r c : Fin 512) :
    out0_11 (F := Ideal) x0 x1 x2 x3 x4 x5 x6 x7 x8 x9 x10 (ix2 r c)
      = ((∑ k : Fin 256, k0_pay3 x0 x6 (ix2 r k) * x8 (ix2 k c)) * tab x3 x4 x5 (ix2 r ⟨c.val % 128, by omega⟩)
        + (∑ k : Fin 256, k0_pay3 x0 x6 (ix2 r k) * x8 (ix2 k ⟨(c.val + 512 - 496) % 512, by omega⟩)) * tab x3 x4 x5 (ix2 r ⟨128 + c.val % 128, by omega⟩)
        + (∑ k : Fin 256, k0_pay3 x0 x6 (ix2 r k) * x8 (ix2 k ⟨(c.val + 512 - 16) % 512, by omega⟩)) * tab x3 x4 x5 (ix2 r ⟨256 + c.val % 128, by omega⟩))
        * Ideal.ofBits .f32 0x3E16C740#32 := by
  have key : out0_11 (F := Ideal) x0 x1 x2 x3 x4 x5 x6 x7 x8 x9 x10 = k0_pay16 (k0_pay3 x0 x6) (k0_pay6 x4) (k0_pay9 x3) (k0_pay10 x3) (k0_pay11 x3 x4) x5 x8 := by
    unfold_out out0_11
    simp (decide := true) only [View.ld_unit_lit', View.canon_cons_unit_lit']
  rw [key]
  pointwise [k0_pay16, k0_pay13, k0_pay14, k0_pay15]
  unfold tab
  by_cases h1 : c.val < 128
  · have e : c.val % 128 = c.val := by omega
    simp only [dif_pos h1, e]
  by_cases h2 : c.val - 128 < 128
  · have e : c.val % 128 = c.val - 128 := by omega
    simp only [dif_neg h1, dif_pos h2, e]
  by_cases h3 : c.val - 128 - 128 < 128
  · have e : c.val % 128 = c.val - 128 - 128 := by omega
    simp only [dif_neg h1, dif_neg h2, dif_pos h3, e]
  have e : c.val % 128 = c.val - 128 - 128 - 128 := by omega
  simp only [dif_neg h1, dif_neg h2, dif_neg h3, e]

/-- The keys' block: the product and the rotated slab piece, the same for each head. -/
theorem k_at (x0 : Vec Ideal S512x256 .f32) (x1 : Vec Ideal S512x128 .f32) (x2 : Vec Ideal S512x128 .f32) (x3 : Vec Ideal S512x32 .f32) (x4 : Vec Ideal S32x384 .f32) (x5 : Vec Ideal S1x384 .f32) (x6 : Vec Ideal S1x256 .f32) (x7 : Vec Ideal S1x128 .f32) (x8 : Vec Ideal S256x512 .bf16) (x9 : Vec Ideal S128x512 .bf16) (x10 : Vec Ideal S256x128 .bf16) (r c : Fin 512) :
    out0_12 (F := Ideal) x0 x1 x2 x3 x4 x5 x6 x7 x8 x9 x10 (ix2 r c)
      = (∑ k : Fin 128, k0_pay4 x1 x7 (ix2 r k) * x9 (ix2 k c))
        + (x2 (ix2 r ⟨c.val % 128, by omega⟩) * tab x3 x4 x5 (ix2 r ⟨c.val % 128, by omega⟩)
        + x2 (ix2 r ⟨(c.val % 128 + 128 - 112) % 128, by omega⟩) * tab x3 x4 x5 (ix2 r ⟨128 + c.val % 128, by omega⟩)
        + x2 (ix2 r ⟨(c.val % 128 + 128 - 16) % 128, by omega⟩) * tab x3 x4 x5 (ix2 r ⟨256 + c.val % 128, by omega⟩)) := by
  have key : out0_12 (F := Ideal) x0 x1 x2 x3 x4 x5 x6 x7 x8 x9 x10 = k0_pay1 (k0_pay17 (k0_pay4 x1 x7) (k0_pay6 x4) (k0_pay9 x3) (k0_pay10 x3) (k0_pay11 x3 x4) x5 x2 x9) := by
    unfold_out out0_12
    simp (decide := true) only [View.ld_unit_lit', View.canon_cons_unit_lit']
  rw [key]
  pointwise [k0_pay1, k0_pay17, k0_pay13, k0_pay14, k0_pay15]
  unfold tab
  by_cases h1 : c.val < 128
  · have e : c.val % 128 = c.val := by omega
    simp only [dif_pos h1, e]
  by_cases h2 : c.val - 128 < 128
  · have e : c.val % 128 = c.val - 128 := by omega
    simp only [dif_neg h1, dif_pos h2, e]
  by_cases h3 : c.val - 128 - 128 < 128
  · have e : c.val % 128 = c.val - 128 - 128 := by omega
    simp only [dif_neg h1, dif_neg h2, dif_pos h3, e]
  have e : c.val % 128 = c.val - 128 - 128 - 128 := by omega
  simp only [dif_neg h1, dif_neg h2, dif_neg h3, e]

/-- The values' block: the weights' rows against the normalised rows. -/
theorem v_at (x0 : Vec Ideal S512x256 .f32) (x1 : Vec Ideal S512x128 .f32) (x2 : Vec Ideal S512x128 .f32) (x3 : Vec Ideal S512x32 .f32) (x4 : Vec Ideal S32x384 .f32) (x5 : Vec Ideal S1x384 .f32) (x6 : Vec Ideal S1x256 .f32) (x7 : Vec Ideal S1x128 .f32) (x8 : Vec Ideal S256x512 .bf16) (x9 : Vec Ideal S128x512 .bf16) (x10 : Vec Ideal S256x128 .bf16) (e : Fin 256) (r : Fin 512) :
    out0_13 (F := Ideal) x0 x1 x2 x3 x4 x5 x6 x7 x8 x9 x10 (ix2 e r) = ∑ k : Fin 128, x10 (ix2 e k) * k0_pay4 x1 x7 (ix2 r k) := by
  have key : out0_13 (F := Ideal) x0 x1 x2 x3 x4 x5 x6 x7 x8 x9 x10 = k0_pay2 (k0_pay4 x1 x7) x10 := by
    unfold_out out0_13
    simp (decide := true) only [View.ld_unit_lit', View.canon_cons_unit_lit']
  rw [key]
  pointwise [k0_pay2]

end Cert.Kernel7Ideal.MlaPrep

end
-- ==== Proof.MlaRef.lean ====
module

public import proofs.«01_k».proof.Proof.Gen.Kernel7Ideal.Value
public import proofs.«01_k».proof.Proof.Gen.Reference7Ideal.Run
public import proofs.«01_k».proof.Proof.MlaBlock
public import Idealize.ShloMosaic.Lib.Pipeline.ValueKit

@[expose] public section

/-! The second layer's projection: the reference's queries and keys, a lane at a time. -/

set_option maxRecDepth 16384

noncomputable section

open Idealize.ShloMosaic Idealize.ShloMosaic.TcCoe Idealize.SL.Sem
open Idealize.ShloMosaic.Pipeline (Dat)

namespace Cert.Kernel7Ideal.MlaPrep

open Cert.Kernel7Ideal Cert.Kernel7Ideal.Gen

variable (m : (ℓ : Loc nD τ sig) → Buf (Elt Ideal) ℓ)

/-- One array at one row and equal columns. -/
theorem at_congr {α : Type} {k d : ℕ} (f : (⟨2, ![k, d]⟩ : Shape).Idx → α) (r : Fin k) {n n' : ℕ} (p : n < d) (p' : n' < d) (e : n = n') :
    f (ix2 r ⟨n, p⟩) = f (ix2 r ⟨n', p'⟩) := by
  subst e; rfl

theorem rcos_at (P : Vec Ideal Cert.Reference7Ideal.S4x4096 .i32) (r : Fin 16384) (i : Fin 16) : rcos P (ix2 r i) = Ideal.cos (ang P r i) := by
  pointwise [rcos, ang]

theorem rsin_at (P : Vec Ideal Cert.Reference7Ideal.S4x4096 .i32) (r : Fin 16384) (i : Fin 16) : rsin P (ix2 r i) = Ideal.sin (ang P r i) := by
  pointwise [rsin, ang]

/-- The reference's queries on a lane that is not rotated. -/
theorem refQ_id (X : FVec Ideal Cert.Reference7Ideal.S16384x4096 .f32) (P : Vec Ideal Cert.Reference7Ideal.S4x4096 .i32) (G : FVec Ideal Cert.Reference7Ideal.S1x256 .f32) (W : FVec Ideal Cert.Reference7Ideal.S256x512 .bf16) (R : Fin 16384) (c : Fin 512) (h : c.val % 128 < 64 ∨ 96 ≤ c.val % 128) :
    refQ X P G W (ix2 R c) = rQ X G W (ix2 R c) * Ideal.ofBits .f32 0x3E16C740#32 := by
  pointwise [refQ]
  refine congrArg (· * _) ?_
  rcases h with h | h
  · rw [dif_pos h]
  · rw [dif_neg (by omega), dif_neg (by omega), dif_neg (by omega)]
    exact at_congr _ _ _ _ (by omega)

/-- The reference's queries on a lane of the first rotated half. -/
theorem refQ_lo (X : FVec Ideal Cert.Reference7Ideal.S16384x4096 .f32) (P : Vec Ideal Cert.Reference7Ideal.S4x4096 .i32) (G : FVec Ideal Cert.Reference7Ideal.S1x256 .f32) (W : FVec Ideal Cert.Reference7Ideal.S256x512 .bf16) (R : Fin 16384) (c : Fin 512) (i : Fin 16) (h : c.val % 128 = 64 + i.val) :
    refQ X P G W (ix2 R c) = (rQ X G W (ix2 R c) * Ideal.cos (ang P R i)
      - rQ X G W (ix2 R ⟨(c.val + 512 - 496) % 512, by omega⟩) * Ideal.sin (ang P R i)) * Ideal.ofBits .f32 0x3E16C740#32 := by
  rw [← rcos_at, ← rsin_at]
  pointwise [refQ]
  refine congrArg (· * _) ?_
  rw [dif_neg (by omega), dif_pos (by omega)]
  exact congrArg₂ HSub.hSub (congrArg₂ HMul.hMul (at_congr _ _ _ _ (by omega)) (at_congr _ _ _ _ (by omega)))
    (congrArg₂ HMul.hMul (at_congr _ _ _ _ (by omega)) (at_congr _ _ _ _ (by omega)))

/-- The reference's queries on a lane of the second rotated half. -/
theorem refQ_hi (X : FVec Ideal Cert.Reference7Ideal.S16384x4096 .f32) (P : Vec Ideal Cert.Reference7Ideal.S4x4096 .i32) (G : FVec Ideal Cert.Reference7Ideal.S1x256 .f32) (W : FVec Ideal Cert.Reference7Ideal.S256x512 .bf16) (R : Fin 16384) (c : Fin 512) (i : Fin 16) (h : c.val % 128 = 80 + i.val) :
    refQ X P G W (ix2 R c) = (rQ X G W (ix2 R c) * Ideal.cos (ang P R i)
      + rQ X G W (ix2 R ⟨(c.val + 512 - 16) % 512, by omega⟩) * Ideal.sin (ang P R i)) * Ideal.ofBits .f32 0x3E16C740#32 := by
  rw [← rcos_at, ← rsin_at]
  pointwise [refQ]
  refine congrArg (· * _) ?_
  rw [dif_neg (by omega), dif_neg (by omega), dif_pos (by omega)]
  exact congrArg₂ HAdd.hAdd (congrArg₂ HMul.hMul (at_congr _ _ _ _ (by omega)) (at_congr _ _ _ _ (by omega)))
    (congrArg₂ HMul.hMul (at_congr _ _ _ _ (by omega)) (at_congr _ _ _ _ (by omega)))

/-- The reference's keys on a lane that is not rotated. -/
theorem refK_id (X : FVec Ideal Cert.Reference7Ideal.S16384x4096 .f32) (P : Vec Ideal Cert.Reference7Ideal.S4x4096 .i32) (G : FVec Ideal Cert.Reference7Ideal.S1x128 .f32) (W : FVec Ideal Cert.Reference7Ideal.S128x512 .bf16) (R : Fin 16384) (c : Fin 512) (h : c.val % 128 < 64 ∨ 96 ≤ c.val % 128) :
    refK X P G W (ix2 R c) = (∑ k : Fin 128, rhkv X G (ix2 R k) * W (ix2 k c)) + X (ix2 R ⟨2432 + c.val % 128, by omega⟩) := by
  pointwise [refK]
  refine congrArg₂ HAdd.hAdd (Finset.sum_congr rfl fun k _ => congrArg (_ * ·) (at_congr W _ _ _ (by omega))) ?_
  rcases h with h | h
  · rw [dif_pos h]
  · rw [dif_neg (by omega), dif_neg (by omega), dif_neg (by omega)]
    exact at_congr X _ _ _ (by omega)

/-- The reference's keys on a lane of the first rotated half. -/
theorem refK_lo (X : FVec Ideal Cert.Reference7Ideal.S16384x4096 .f32) (P : Vec Ideal Cert.Reference7Ideal.S4x4096 .i32) (G : FVec Ideal Cert.Reference7Ideal.S1x128 .f32) (W : FVec Ideal Cert.Reference7Ideal.S128x512 .bf16) (R : Fin 16384) (c : Fin 512) (i : Fin 16) (h : c.val % 128 = 64 + i.val) :
    refK X P G W (ix2 R c) = (∑ k : Fin 128, rhkv X G (ix2 R k) * W (ix2 k c))
      + (X (ix2 R ⟨2432 + c.val % 128, by omega⟩) * Ideal.cos (ang P R i)
        - X (ix2 R ⟨2432 + (c.val % 128 + 128 - 112) % 128, by omega⟩) * Ideal.sin (ang P R i)) := by
  rw [← rcos_at, ← rsin_at]
  pointwise [refK]
  refine congrArg₂ HAdd.hAdd (Finset.sum_congr rfl fun k _ => congrArg (_ * ·) (at_congr W _ _ _ (by omega))) ?_
  rw [dif_neg (by omega), dif_pos (by omega)]
  exact congrArg₂ HSub.hSub (congrArg₂ HMul.hMul (at_congr X _ _ _ (by omega)) (at_congr _ _ _ _ (by omega)))
    (congrArg₂ HMul.hMul (at_congr X _ _ _ (by omega)) (at_congr _ _ _ _ (by omega)))

/-- The reference's keys on a lane of the second rotated half. -/
theorem refK_hi (X : FVec Ideal Cert.Reference7Ideal.S16384x4096 .f32) (P : Vec Ideal Cert.Reference7Ideal.S4x4096 .i32) (G : FVec Ideal Cert.Reference7Ideal.S1x128 .f32) (W : FVec Ideal Cert.Reference7Ideal.S128x512 .bf16) (R : Fin 16384) (c : Fin 512) (i : Fin 16) (h : c.val % 128 = 80 + i.val) :
    refK X P G W (ix2 R c) = (∑ k : Fin 128, rhkv X G (ix2 R k) * W (ix2 k c))
      + (X (ix2 R ⟨2432 + c.val % 128, by omega⟩) * Ideal.cos (ang P R i)
        + X (ix2 R ⟨2432 + (c.val % 128 + 128 - 16) % 128, by omega⟩) * Ideal.sin (ang P R i)) := by
  rw [← rcos_at, ← rsin_at]
  pointwise [refK]
  refine congrArg₂ HAdd.hAdd (Finset.sum_congr rfl fun k _ => congrArg (_ * ·) (at_congr W _ _ _ (by omega))) ?_
  rw [dif_neg (by omega), dif_neg (by omega), dif_pos (by omega)]
  exact congrArg₂ HAdd.hAdd (congrArg₂ HMul.hMul (at_congr X _ _ _ (by omega)) (at_congr _ _ _ _ (by omega)))
    (congrArg₂ HMul.hMul (at_congr X _ _ _ (by omega)) (at_congr _ _ _ _ (by omega)))

end Cert.Kernel7Ideal.MlaPrep

end
-- ==== Proof.MlaPrep.lean ====
module

public import proofs.«01_k».proof.Proof.Gen.Kernel7Ideal.Value
public import proofs.«01_k».proof.Proof.Gen.Reference7Ideal.Run
public import proofs.«01_k».proof.Proof.MlaRef
public import Idealize.ShloMosaic.Lib.Pipeline.ValueKit

@[expose] public section

/-! The second layer's projection: each block of the kernel's queries, keys and values is the matching block of the
    reference's. The kernel rotates by one product with a table whose columns select a cosine or a sine at most; the
    reference writes the rotation out. -/

set_option maxRecDepth 16384

noncomputable section

open Idealize.ShloMosaic Idealize.ShloMosaic.TcCoe Idealize.SL.Sem
open Idealize.ShloMosaic.Pipeline (Dat)

namespace Cert.Kernel7Ideal.MlaPrep

open Cert.Kernel7Ideal Cert.Kernel7Ideal.Gen

variable (m : (ℓ : Loc nD τ sig) → Buf (Elt Ideal) ℓ)

/-- The table of one block, entry by entry. -/
theorem tabv (c : Dev nD) (t : Fin cfg0.N) (r : Fin 512) (l : Fin 384) : tab (iblk m c 3 t) (iblk m c 4 t) (iblk m c 5 t) (ix2 r l)
    = (if h : row l.val < 32 then kcs (m ((c : Thread nD τ).loc main_arg1)) (ix2 (R t r) ⟨row l.val, h⟩) * (if 128 ≤ l.val ∧ l.val < 256 then (-1 : EReal) else 1) else 0)
      + (if l.val < 64 ∨ (96 ≤ l.val ∧ l.val < 128) then (1 : EReal) else 0) := by
  rw [tab_at _ _ _ r l (row l.val) (if 128 ≤ l.val ∧ l.val < 256 then (-1 : EReal) else 1)
    (if l.val < 64 ∨ (96 ≤ l.val ∧ l.val < 128) then (1 : EReal) else 0)
    (fun j => by rw [iblk3_at]; exact kcs_real _ _ j) (fun j => iblk4_at m c t j l) (iblk5_at m c t l)]
  simp only [iblk3_at]

theorem tab_one (c : Dev nD) (t : Fin cfg0.N) (r : Fin 512) (l : Fin 384) (h : l.val < 64 ∨ (96 ≤ l.val ∧ l.val < 128)) :
    tab (iblk m c 3 t) (iblk m c 4 t) (iblk m c 5 t) (ix2 r l) = 1 := by
  have e : row l.val = 32 := by unfold row; split_ifs <;> omega
  rw [tabv, dif_neg (by omega), if_pos h, zero_add]

theorem tab_nil (c : Dev nD) (t : Fin cfg0.N) (r : Fin 512) (l : Fin 384) (h : 128 ≤ l.val)
    (h' : l.val < 192 ∨ (208 ≤ l.val ∧ l.val < 336) ∨ 352 ≤ l.val) : tab (iblk m c 3 t) (iblk m c 4 t) (iblk m c 5 t) (ix2 r l) = 0 := by
  have e : row l.val = 32 := by unfold row; split_ifs <;> omega
  rw [tabv, dif_neg (by omega), if_neg (by omega), zero_add]

theorem tab_cos (c : Dev nD) (t : Fin cfg0.N) (r : Fin 512) (l : Fin 384) (i : Fin 16) (h : l.val = 64 + i.val ∨ l.val = 80 + i.val) :
    tab (iblk m c 3 t) (iblk m c 4 t) (iblk m c 5 t) (ix2 r l) = Ideal.cos (ang (m ((c : Thread nD τ).loc main_arg1)) (R t r) i) := by
  have e : row l.val = i.val := by unfold row; split_ifs <;> omega
  rw [tabv, dif_pos (by omega), if_neg (by omega), if_neg (by omega), mul_one, add_zero, ← kcs_lo]
  exact at_congr _ _ _ _ e

theorem tab_sin_neg (c : Dev nD) (t : Fin cfg0.N) (r : Fin 512) (l : Fin 384) (i : Fin 16) (h : l.val = 192 + i.val) :
    tab (iblk m c 3 t) (iblk m c 4 t) (iblk m c 5 t) (ix2 r l) = -Ideal.sin (ang (m ((c : Thread nD τ).loc main_arg1)) (R t r) i) := by
  have e : row l.val = 16 + i.val := by unfold row; split_ifs <;> omega
  rw [tabv, dif_pos (by omega), if_pos (by omega), if_neg (by omega), mul_neg, mul_one, add_zero, ← kcs_hi]
  exact congrArg Neg.neg (at_congr _ _ _ _ e)

theorem tab_sin (c : Dev nD) (t : Fin cfg0.N) (r : Fin 512) (l : Fin 384) (i : Fin 16) (h : l.val = 336 + i.val) :
    tab (iblk m c 3 t) (iblk m c 4 t) (iblk m c 5 t) (ix2 r l) = Ideal.sin (ang (m ((c : Thread nD τ).loc main_arg1)) (R t r) i) := by
  have e : row l.val = 16 + i.val := by unfold row; split_ifs <;> omega
  rw [tabv, dif_pos (by omega), if_neg (by omega), if_neg (by omega), mul_one, add_zero, ← kcs_hi]
  exact at_congr _ _ _ _ e

/-- The kernel's products of the normalised query rows are the reference's. -/
theorem sum_q (c : Dev nD) (t : Fin cfg0.N) (r : Fin 512) (j : Fin 512) :
    (∑ k : Fin 256, k0_pay3 (F := Ideal) (iblk m c 0 t) (iblk m c 6 t) (ix2 r k) * iblk m c 8 t (ix2 k j))
      = rQ (m ((c : Thread nD τ).loc main_arg0)) (m ((c : Thread nD τ).loc main_arg2)) (m ((c : Thread nD τ).loc main_arg4)) (ix2 (R t r) j) := by
  pointwise [k0_pay3, rQ, rhq]
  blk_point [iblk, V, idx t]

/-- The kernel's normalised key and value rows are the reference's. -/
theorem row_kv (c : Dev nD) (t : Fin cfg0.N) (r : Fin 512) (k : Fin 128) :
    k0_pay4 (F := Ideal) (iblk m c 1 t) (iblk m c 7 t) (ix2 r k) = rhkv (m ((c : Thread nD τ).loc main_arg0)) (m ((c : Thread nD τ).loc main_arg3)) (ix2 (R t r) k) := by
  pointwise [k0_pay4, rhkv]
  blk_point [iblk, V, idx t]

theorem iblk2_at (c : Dev nD) (t : Fin cfg0.N) (r : Fin 512) (a : Fin 128) :
    iblk m c 2 t (ix2 r a) = (m ((c : Thread nD τ).loc main_arg0)) (ix2 (R t r) ⟨2432 + a.val, by omega⟩) := by
  blk_point [iblk, V, idx t]

theorem iblk9_at (c : Dev nD) (t : Fin cfg0.N) (k : Fin 128) (j : Fin 512) : iblk m c 9 t (ix2 k j) = (m ((c : Thread nD τ).loc main_arg5)) (ix2 k j) := by
  blk_point [iblk, V, idx t]

theorem iblk10_at (c : Dev nD) (t : Fin cfg0.N) (e : Fin 256) (k : Fin 128) : iblk m c 10 t (ix2 e k) = (m ((c : Thread nD τ).loc main_arg6)) (ix2 e k) := by
  blk_point [iblk, V, idx t]

/-- A block's queries are the reference's. -/
theorem point_q (c : Dev nD) (t : Fin cfg0.N) (r j : Fin 512) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = refQ (m ((c : Thread nD τ).loc main_arg0)) (m ((c : Thread nD τ).loc main_arg1)) (m ((c : Thread nD τ).loc main_arg2)) (m ((c : Thread nD τ).loc main_arg4)) (ix2 (R t r) j) := by
  rw [q_at, sum_q, sum_q, sum_q]
  by_cases h1 : j.val % 128 < 64 ∨ 96 ≤ j.val % 128
  · rw [refQ_id _ _ _ _ _ _ h1, tab_one m c t r _ (by simp only; omega), tab_nil m c t r _ (by simp) (by simp only; omega),
      tab_nil m c t r _ (by simp only; omega) (by simp only; omega), mul_one, mul_zero, mul_zero, add_zero, add_zero]
  by_cases h2 : j.val % 128 < 80
  · have e : j.val % 128 = 64 + (⟨j.val % 128 - 64, by omega⟩ : Fin 16).val := by simp only; omega
    rw [refQ_lo _ _ _ _ _ _ _ e, tab_cos m c t r _ _ (.inl e), tab_sin_neg m c t r _ ⟨j.val % 128 - 64, by omega⟩ (by simp only; omega),
      tab_nil m c t r _ (by simp only; omega) (by simp only; omega), mul_zero, add_zero, mul_neg, sub_eq_add_neg]
  · have e : j.val % 128 = 80 + (⟨j.val % 128 - 80, by omega⟩ : Fin 16).val := by simp only; omega
    rw [refQ_hi _ _ _ _ _ _ _ e, tab_cos m c t r _ _ (.inr e), tab_nil m c t r _ (by simp) (by simp only; omega),
      tab_sin m c t r _ ⟨j.val % 128 - 80, by omega⟩ (by simp only; omega), mul_zero, add_zero]

/-- A block's keys are the reference's. -/
theorem point_k (c : Dev nD) (t : Fin cfg0.N) (r j : Fin 512) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = refK (m ((c : Thread nD τ).loc main_arg0)) (m ((c : Thread nD τ).loc main_arg1)) (m ((c : Thread nD τ).loc main_arg3)) (m ((c : Thread nD τ).loc main_arg5)) (ix2 (R t r) j) := by
  rw [k_at]
  simp only [row_kv, iblk9_at, iblk2_at]
  by_cases h1 : j.val % 128 < 64 ∨ 96 ≤ j.val % 128
  · rw [refK_id _ _ _ _ _ _ h1, tab_one m c t r _ (by simp only; omega), tab_nil m c t r _ (by simp) (by simp only; omega),
      tab_nil m c t r _ (by simp only; omega) (by simp only; omega), mul_one, mul_zero, mul_zero, add_zero, add_zero]
  by_cases h2 : j.val % 128 < 80
  · have e : j.val % 128 = 64 + (⟨j.val % 128 - 64, by omega⟩ : Fin 16).val := by simp only; omega
    rw [refK_lo _ _ _ _ _ _ _ e, tab_cos m c t r _ _ (.inl e), tab_sin_neg m c t r _ ⟨j.val % 128 - 64, by omega⟩ (by simp only; omega),
      tab_nil m c t r _ (by simp only; omega) (by simp only; omega), mul_zero, add_zero, mul_neg, sub_eq_add_neg]
  · have e : j.val % 128 = 80 + (⟨j.val % 128 - 80, by omega⟩ : Fin 16).val := by simp only; omega
    rw [refK_hi _ _ _ _ _ _ _ e, tab_cos m c t r _ _ (.inr e), tab_nil m c t r _ (by simp) (by simp only; omega),
      tab_sin m c t r _ ⟨j.val % 128 - 80, by omega⟩ (by simp only; omega), mul_zero, add_zero]

/-- A block's values are the reference's. -/
theorem point_v (c : Dev nD) (t : Fin cfg0.N) (e : Fin 256) (r : Fin 512) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 e r) = refV (m ((c : Thread nD τ).loc main_arg0)) (m ((c : Thread nD τ).loc main_arg3)) (m ((c : Thread nD τ).loc main_arg6)) (ix2 e (R t r)) := by
  rw [v_at]
  simp only [row_kv, iblk10_at]
  pointwise [refV]

/-- The kernel's queries are the reference's term of the same arguments. -/
theorem final_q (c : Dev nD) : (dats m 0 c).arrAt 11 (cfgs 0).N = refQ (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t _ y => ?_
  blk_simp
  rw [after0_11]
  have e : ((cfg0.win 11).blk t).view.emb y = ix2 (R t (y 0)) (y 1) := by
    blk_ext [idx t]
  exact (congrArg _ (eq_ix2 (n0 := 512) (n1 := 512) y)).trans ((point_q m c t (y 0) (y 1)).trans (congrArg _ e.symm))

/-- The kernel's keys are the reference's term of the same arguments. -/
theorem final_k (c : Dev nD) : (dats m 0 c).arrAt 12 (cfgs 0).N = refK (m ((c : Thread nD τ).loc main_arg0)) (m ((c : Thread nD τ).loc main_arg1)) (m ((c : Thread nD τ).loc main_arg3)) (m ((c : Thread nD τ).loc main_arg5)) := by
  refine (dats m 0 c).arrAt_eq_of_covers 12 _ (by decide +kernel) fun t _ y => ?_
  blk_simp
  rw [after0_12]
  have e : ((cfg0.win 12).blk t).view.emb y = ix2 (R t (y 0)) (y 1) := by
    blk_ext [idx t]
  exact (congrArg _ (eq_ix2 (n0 := 512) (n1 := 512) y)).trans ((point_k m c t (y 0) (y 1)).trans (congrArg _ e.symm))

/-- The kernel's values are the reference's term of the same arguments. -/
theorem final_v (c : Dev nD) : (dats m 0 c).arrAt 13 (cfgs 0).N = refV (m ((c : Thread nD τ).loc main_arg0)) (m ((c : Thread nD τ).loc main_arg3)) (m ((c : Thread nD τ).loc main_arg6)) := by
  refine (dats m 0 c).arrAt_eq_of_covers 13 _ (by decide +kernel) fun t _ y => ?_
  blk_simp
  rw [after0_13]
  have e : ((cfg0.win 13).blk t).view.emb y = ix2 (y 0) (R t (y 1)) := by
    blk_ext [idx t]
  exact (congrArg _ (eq_ix2 (n0 := 256) (n1 := 512) y)).trans ((point_v m c t (y 0) (y 1)).trans (congrArg _ e.symm))

end Cert.Kernel7Ideal.MlaPrep

end
-- ==== Proof.DsaTable.lean ====
module

public import proofs.«01_k».proof.Proof.Gen.Kernel8Ideal.Value
public import proofs.«01_k».proof.Proof.Gen.Reference8Ideal.Run
public import Idealize.ShloMosaic.Lib.Pipeline.ValueKit

@[expose] public section

/-! The tables the sparse branch's preparation is given: one nonzero entry at most in each column, and a base row of
    ones and zeros. -/

set_option maxRecDepth 16384

noncomputable section

open Idealize.ShloMosaic Idealize.ShloMosaic.TcCoe Idealize.SL.Sem
open Idealize.ShloMosaic.Pipeline (Dat)

namespace Cert.Kernel8Ideal.DsaPrep

open Cert.Kernel8Ideal Cert.Kernel8Ideal.Gen

variable (m : (ℓ : Loc nD τ sig) → Buf (Elt Ideal) ℓ)

/-- The row of the table's one nonzero entry in column `l`; 16 where the column is all zeros. -/
def row (l : ℕ) : ℕ :=
  if l % 64 < 8 then (if l < 128 then l % 64 else if l < 256 then 8 + l % 64 else 16)
  else if l % 64 < 16 then (if l < 128 then l % 64 - 8 else if l < 256 then 16 else l % 64) else 16

/-- The table's entries. -/
theorem lit0_eq : ∀ (j : Fin 16) (l : Fin 384), lit0t (j.val * 384 + l.val)
    = if j.val = row l.val then (if 128 ≤ l.val ∧ l.val < 256 then 0xBF800000#32 else 0x3F800000#32) else 0x00000000#32 := by
  decide +kernel

/-- The base row's entries. -/
theorem lit1_eq : ∀ l : Fin 384, lit1 l = if l.val < 128 ∧ 16 ≤ l.val % 64 then 0x3F800000#32 else 0x00000000#32 := by
  decide +kernel

/-- The block each window is at, at grid point `t`. -/
theorem idx : ∀ t : Fin cfg0.N, win0_0.index t = ![(grid0.coords t 0).val, 5] ∧ win0_1.index t = ![(grid0.coords t 0).val, 31]
    ∧ win0_2.index t = ![(grid0.coords t 0).val, 12] ∧ win0_3.index t = ![(grid0.coords t 0).val, 13]
    ∧ win0_4.index t = ![(grid0.coords t 0).val, 14] ∧ win0_5.index t = ![(grid0.coords t 0).val, 0] ∧ win0_6.index t = ![0, 0]
    ∧ win0_7.index t = ![0, 0] ∧ win0_8.index t = ![(grid0.coords t 0).val, 0] ∧ win0_9.index t = ![0, (grid0.coords t 0).val, 0]
    ∧ win0_10.index t = ![(grid0.coords t 0).val, 0, 0] ∧ win0_11.index t = ![0, (grid0.coords t 0).val]
    ∧ win0_12.index t = ![0, (grid0.coords t 0).val] ∧ win0_13.index t = ![0, (grid0.coords t 0).val] :=
  (by decide +kernel : ∀ t : Fin grid0.N, _)

end Cert.Kernel8Ideal.DsaPrep

end
-- ==== Proof.DsaRead.lean ====
module

public import proofs.«01_k».proof.Proof.Gen.Kernel8Ideal.Value
public import proofs.«01_k».proof.Proof.Gen.Reference8Ideal.Run
public import proofs.«01_k».proof.Proof.DsaTable
public import Idealize.ShloMosaic.Lib.Pipeline.ValueKit

@[expose] public section

/-! What the sparse branch's preparation reads: the cosines and sines of the positions, real numbers all, and the tables. -/

set_option maxRecDepth 16384

noncomputable section

open Idealize.ShloMosaic Idealize.ShloMosaic.TcCoe Idealize.SL.Sem
open Idealize.ShloMosaic.Pipeline (Dat)

namespace Cert.Kernel8Ideal.DsaPrep

open Cert.Kernel8Ideal Cert.Kernel8Ideal.Gen

variable (m : (ℓ : Loc nD τ sig) → Buf (Elt Ideal) ℓ)

/-- The angles' multipliers: powers of 500000. -/
abbrev inv : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
      (broadcastInDim S8 ![] bcast_S_S8 (constant S_ .f32 0x41800000#32)))

/-- The kernel's angles. -/
abbrev kang (P : Vec Ideal S4x4096 .i32) : FVec Ideal S4x4096x8 .f32 :=
  mulf (broadcastInDim S4x4096x8 ![0, 1, 2] bcast_S4x4096x1_S4x4096x8_0_1_2
      (broadcastInDim S4x4096x1 ![0, 1] bcast_S4x4096_S4x4096x1_0_1 (sitofp .f32 P : FVec Ideal S4x4096 .f32)))
    (broadcastInDim S4x4096x8 ![0, 1, 2] bcast_S1x1x8_S4x4096x8_0_1_2 (broadcastInDim S1x1x8 ![2] bcast_S8_S1x1x8_2 inv))

/-- The kernel's cosines and sines, side by side. -/
abbrev kcs (P : Vec Ideal S4x4096 .i32) : FVec Ideal S16384x16 .f32 :=
  shapeCast _ (concatenate S4x4096x16 2 [⟨S4x4096x8, Host.cos (kang P)⟩, ⟨S4x4096x8, Host.sin (kang P)⟩]
    concatenates_S4x4096x8_S4x4096x8_S4x4096x16_d2) shapeCasts_S4x4096x16_S16384x16

/-- The array the kernel's sixth window reads. -/
theorem V19 (c : Dev nD) : V m c main_v19 = kcs (m ((c : Thread nD τ).loc main_arg1)) := by
  unfold V
  after_results_simp <;> (try dsimp only [Matrix.cons_val]) <;> (try after_results_simp) <;> rfl

/-- The array the kernel's seventh window reads. -/
theorem V0 (c : Dev nD) : V m c main_cst = (fun i => FloatOps.ofBits (F := Ideal) .f32 (lit0 (S16x384.rowMajor i)) : FVec Ideal S16x384 .f32) := by
  unfold V
  after_results_simp <;> (try dsimp only [Matrix.cons_val]) <;> (try after_results_simp) <;> rfl

/-- The array the kernel's eighth window reads. -/
theorem V1 (c : Dev nD) : V m c main_cst_0 = (fun i => FloatOps.ofBits (F := Ideal) .f32 (lit1 (S1x384.rowMajor i)) : FVec Ideal S1x384 .f32) := by
  unfold V
  after_results_simp <;> (try dsimp only [Matrix.cons_val]) <;> (try after_results_simp) <;> rfl

/-- The array row that row `r` of grid point `t`'s blocks is. -/
abbrev R (t : Fin cfg0.N) (r : Fin 256) : Fin 16384 :=
  ⟨(grid0.coords t 0).val * 256 + r.val, by
    have := (grid0.coords t 0).isLt
    have h : (grid0.coords t 0).val < 64 := this
    omega⟩

/-- The angle of row `r` at lane `i`. -/
def ang (P : Vec Ideal S4x4096 .i32) (r : Fin 16384) (i : Fin 8) : EReal :=
  FloatOps.sitofp (F := Ideal) .f32 (P (ix2 ⟨r.val / 4096, by omega⟩ ⟨r.val % 4096, by omega⟩)) *
    Ideal.pow (Ideal.ofBits .f32 0x48F42400#32)
      (Ideal.div (-(Ideal.ofBits .f32 0x40000000#32 * FloatOps.sitofp (F := Ideal) .f32 (BitVec.ofNat 32 i.val))) (Ideal.ofBits .f32 0x41800000#32))

theorem kcs_lo (P : Vec Ideal S4x4096 .i32) (r : Fin 16384) (i : Fin 8) : kcs P (ix2 r ⟨i.val, by omega⟩) = Ideal.cos (ang P r i) := by
  pointwise [ang]

theorem kcs_hi (P : Vec Ideal S4x4096 .i32) (r : Fin 16384) (i : Fin 8) : kcs P (ix2 r ⟨8 + i.val, by omega⟩) = Ideal.sin (ang P r i) := by
  pointwise [ang]

/-- An angle is a real number. -/
theorem ang_real (P : Vec Ideal S4x4096 .i32) (r : Fin 16384) (i : Fin 8) : ∃ v : ℝ, ang P r i = (v : EReal) := by
  have hs : ∀ b : BitVec 32, FloatOps.sitofp (F := Ideal) .f32 b = ((b.toInt : ℝ) : EReal) := fun b => rfl
  have h1 : Ideal.ofBits .f32 0x48F42400#32 = ((500000 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x41800000#32 = ((16 : ℝ) : EReal) := by
    simp [Ideal.ofBits, Ideal.ieee, -EReal.coe_mul]; norm_num
  have hd : ∀ x : ℝ, ∃ y : ℝ, Ideal.div (x : EReal) ((16 : ℝ) : EReal) = (y : EReal) := fun x => by
    refine ⟨x / 16, ?_⟩
    simp [Ideal.div]
    rw [← EReal.coe_inv, ← EReal.coe_mul, div_eq_mul_inv]
  unfold ang
  rw [h1, h2, h3, hs, hs, ← EReal.coe_mul, ← EReal.coe_neg]
  obtain ⟨y, hy⟩ := hd (-(2 * ((BitVec.ofNat 32 i.val).toInt : ℝ)))
  rw [hy]
  exact ⟨_ , (EReal.coe_mul _ (Real.rpow 500000 y)).symm⟩

/-- A cosine or sine the kernel is given is a real number. -/
theorem kcs_real (P : Vec Ideal S4x4096 .i32) (r : Fin 16384) (j : Fin 16) : ∃ v : ℝ, kcs P (ix2 r j) = (v : EReal) := by
  by_cases h : j.val < 8
  · obtain ⟨v, e⟩ := ang_real P r ⟨j.val, h⟩
    exact ⟨Real.cos v, (kcs_lo P r ⟨j.val, h⟩).trans (by rw [e]; rfl)⟩
  · obtain ⟨v, e⟩ := ang_real P r ⟨j.val - 8, by omega⟩
    have hj : j = ⟨8 + (j.val - 8), by omega⟩ := Fin.ext (by simp; omega)
    exact ⟨Real.sin v, by rw [hj]; exact (kcs_hi P r ⟨j.val - 8, by omega⟩).trans (by rw [e]; rfl)⟩

theorem iblkC (c : Dev nD) (t : Fin cfg0.N) (r : Fin 256) (j : Fin 16) :
    iblk m c 5 t (ix2 r j) = kcs (m ((c : Thread nD τ).loc main_arg1)) (ix2 (R t r) j) := by
  rw [← V19]
  blk_point [iblk, idx t]

theorem iblkT (c : Dev nD) (t : Fin cfg0.N) (j : Fin 16) (l : Fin 384) :
    iblk m c 6 t (ix2 j l) = if j.val = row l.val then (if 128 ≤ l.val ∧ l.val < 256 then (-1 : EReal) else 1) else 0 := by
  have e : iblk m c 6 t (ix2 j l) = V m c main_cst (ix2 j l) := by
    blk_point [iblk, idx t]
  have hp : Ideal.ofBits .f32 0x3F800000#32 = (1 : EReal) := by
    simp [Ideal.ofBits, Ideal.ieee, -EReal.coe_mul]; norm_num
  have hn : Ideal.ofBits .f32 0xBF800000#32 = (-1 : EReal) := by
    simp [Ideal.ofBits, Ideal.ieee, -EReal.coe_mul]; norm_num
  have hz : Ideal.ofBits .f32 0x00000000#32 = (0 : EReal) := by
    simp [Ideal.ofBits, Ideal.ieee, -EReal.coe_mul]
  rw [e, V0]
  have ev : (S16x384.rowMajor (ix2 j l)).val = j.val * 384 + l.val := (Shape.rowMajor_val_two _).trans (by simp)
  have el : lit0 (S16x384.rowMajor (ix2 j l)) = lit0t (j.val * 384 + l.val) := congrArg lit0t ev
  show Ideal.ofBits .f32 (lit0 (S16x384.rowMajor (ix2 j l))) = _
  rw [el, lit0_eq]
  split_ifs
  · exact hn
  · exact hp
  · exact hz

theorem iblkB (c : Dev nD) (t : Fin cfg0.N) (l : Fin 384) :
    iblk m c 7 t (ix2 0 l) = if l.val < 128 ∧ 16 ≤ l.val % 64 then (1 : EReal) else 0 := by
  have e : iblk m c 7 t (ix2 0 l) = V m c main_cst_0 (ix2 0 l) := by
    blk_point [iblk, idx t]
  have hp : Ideal.ofBits .f32 0x3F800000#32 = (1 : EReal) := by
    simp [Ideal.ofBits, Ideal.ieee, -EReal.coe_mul]; norm_num
  have hz : Ideal.ofBits .f32 0x00000000#32 = (0 : EReal) := by
    simp [Ideal.ofBits, Ideal.ieee, -EReal.coe_mul]
  rw [e, V1]
  have el : S1x384.rowMajor (ix2 0 l) = l := Fin.ext ((Shape.rowMajor_val_two _).trans (by simp))
  show Ideal.ofBits .f32 (lit1 (S1x384.rowMajor (ix2 0 l))) = _
  rw [el, lit1_eq]
  split_ifs
  · exact hp
  · exact hz

end Cert.Kernel8Ideal.DsaPrep

end
-- ==== Proof.DsaRef.lean ====
module

public import proofs.«01_k».proof.Proof.Gen.Kernel8Ideal.Value
public import proofs.«01_k».proof.Proof.Gen.Reference8Ideal.Run
public import proofs.«01_k».proof.Proof.DsaRead
public import Idealize.ShloMosaic.Lib.Pipeline.ValueKit

@[expose] public section

/-! The sparse branch's preparation: the reference's six results, an entry at a time. -/

set_option maxRecDepth 16384

noncomputable section

open Idealize.ShloMosaic Idealize.ShloMosaic.TcCoe Idealize.SL.Sem
open Idealize.ShloMosaic.Pipeline (Dat)

namespace Cert.Kernel8Ideal.DsaPrep

open Cert.Kernel8Ideal Cert.Kernel8Ideal.Gen

variable (m : (ℓ : Loc nD τ sig) → Buf (Elt Ideal) ℓ)

/-- The reference's cosines. -/
def rcos (P : Vec Ideal Cert.Reference8Ideal.S4x4096 .i32) : FVec Ideal Cert.Reference8Ideal.S16384x8 .f32 :=
  (Host.cos (mulf (broadcastInDim Cert.Reference8Ideal.S16384x8 ![0, 1] Cert.Reference8Ideal.Gen.bcast_S16384x1_S16384x8_0_1 (broadcastInDim Cert.Reference8Ideal.S16384x1 ![0] Cert.Reference8Ideal.Gen.bcast_S16384_S16384x1_0 (sitofp .f32 (shapeCast _ P Cert.Reference8Ideal.Gen.shapeCasts_S4x4096_S16384)))) (broadcastInDim Cert.Reference8Ideal.S16384x8 ![0, 1] Cert.Reference8Ideal.Gen.bcast_S1x8_S16384x8_0_1 (broadcastInDim Cert.Reference8Ideal.S1x8 ![1] Cert.Reference8Ideal.Gen.bcast_S8_S1x8_1 (Host.powf (broadcastInDim Cert.Reference8Ideal.S8 ![] Cert.Reference8Ideal.Gen.bcast_S_S8 (constant Cert.Reference8Ideal.S_ .f32 0x48F42400#32)) (Host.divf (Host.negf (addf (broadcastInDim Cert.Reference8Ideal.S8 ![] Cert.Reference8Ideal.Gen.bcast_S_S8 (constant Cert.Reference8Ideal.S_ .f32 0x00000000#32)) (mulf (broadcastInDim Cert.Reference8Ideal.S8 ![] Cert.Reference8Ideal.Gen.bcast_S_S8 (constant Cert.Reference8Ideal.S_ .f32 0x40000000#32)) (sitofp .f32 (iotaInDim Cert.Reference8Ideal.S8 32 0))))) (broadcastInDim Cert.Reference8Ideal.S8 ![] Cert.Reference8Ideal.Gen.bcast_S_S8 (constant Cert.Reference8Ideal.S_ .f32 0x41800000#32))))))))

/-- The reference's sines. -/
def rsin (P : Vec Ideal Cert.Reference8Ideal.S4x4096 .i32) : FVec Ideal Cert.Reference8Ideal.S16384x8 .f32 :=
  (Host.sin (mulf (broadcastInDim Cert.Reference8Ideal.S16384x8 ![0, 1] Cert.Reference8Ideal.Gen.bcast_S16384x1_S16384x8_0_1 (broadcastInDim Cert.Reference8Ideal.S16384x1 ![0] Cert.Reference8Ideal.Gen.bcast_S16384_S16384x1_0 (sitofp .f32 (shapeCast _ P Cert.Reference8Ideal.Gen.shapeCasts_S4x4096_S16384)))) (broadcastInDim Cert.Reference8Ideal.S16384x8 ![0, 1] Cert.Reference8Ideal.Gen.bcast_S1x8_S16384x8_0_1 (broadcastInDim Cert.Reference8Ideal.S1x8 ![1] Cert.Reference8Ideal.Gen.bcast_S8_S1x8_1 (Host.powf (broadcastInDim Cert.Reference8Ideal.S8 ![] Cert.Reference8Ideal.Gen.bcast_S_S8 (constant Cert.Reference8Ideal.S_ .f32 0x48F42400#32)) (Host.divf (Host.negf (addf (broadcastInDim Cert.Reference8Ideal.S8 ![] Cert.Reference8Ideal.Gen.bcast_S_S8 (constant Cert.Reference8Ideal.S_ .f32 0x00000000#32)) (mulf (broadcastInDim Cert.Reference8Ideal.S8 ![] Cert.Reference8Ideal.Gen.bcast_S_S8 (constant Cert.Reference8Ideal.S_ .f32 0x40000000#32)) (sitofp .f32 (iotaInDim Cert.Reference8Ideal.S8 32 0))))) (broadcastInDim Cert.Reference8Ideal.S8 ![] Cert.Reference8Ideal.Gen.bcast_S_S8 (constant Cert.Reference8Ideal.S_ .f32 0x41800000#32))))))))

/-- The reference's indexer keys. -/
def refIk (X : FVec Ideal Cert.Reference8Ideal.S16384x4096 .f32) (P : Vec Ideal Cert.Reference8Ideal.S4x4096 .i32) : FVec Ideal Cert.Reference8Ideal.S16384x64 .bf16 :=
  truncf .bf16 (shapeCast _ ((concatenate Cert.Reference8Ideal.S16384x1x64 2 [⟨Cert.Reference8Ideal.S16384x1x8, ((subf (mulf (extractStridedSlice Cert.Reference8Ideal.S16384x1x8 ![0, 0, 0] (shapeCast _ (extractStridedSlice Cert.Reference8Ideal.S16384x64 ![0, 3968] X Cert.Reference8Ideal.Gen.slices_S16384x4096_S16384x64_0_3968) Cert.Reference8Ideal.Gen.shapeCasts_S16384x64_S16384x1x64) Cert.Reference8Ideal.Gen.slices_S16384x1x64_S16384x1x8_0_0_0) (broadcastInDim Cert.Reference8Ideal.S16384x1x8 ![0, 2] Cert.Reference8Ideal.Gen.bcast_S16384x8_S16384x1x8_0_2 (rcos P))) (mulf (extractStridedSlice Cert.Reference8Ideal.S16384x1x8 ![0, 0, 8] (shapeCast _ (extractStridedSlice Cert.Reference8Ideal.S16384x64 ![0, 3968] X Cert.Reference8Ideal.Gen.slices_S16384x4096_S16384x64_0_3968) Cert.Reference8Ideal.Gen.shapeCasts_S16384x64_S16384x1x64) Cert.Reference8Ideal.Gen.slices_S16384x1x64_S16384x1x8_0_0_8) (broadcastInDim Cert.Reference8Ideal.S16384x1x8 ![0, 2] Cert.Reference8Ideal.Gen.bcast_S16384x8_S16384x1x8_0_2 (rsin P)))) : (⟨Cert.Reference8Ideal.S16384x1x8, .f32⟩ : BufTy).Contents (Elt Ideal))⟩, ⟨Cert.Reference8Ideal.S16384x1x8, ((addf (mulf (extractStridedSlice Cert.Reference8Ideal.S16384x1x8 ![0, 0, 8] (shapeCast _ (extractStridedSlice Cert.Reference8Ideal.S16384x64 ![0, 3968] X Cert.Reference8Ideal.Gen.slices_S16384x4096_S16384x64_0_3968) Cert.Reference8Ideal.Gen.shapeCasts_S16384x64_S16384x1x64) Cert.Reference8Ideal.Gen.slices_S16384x1x64_S16384x1x8_0_0_8) (broadcastInDim Cert.Reference8Ideal.S16384x1x8 ![0, 2] Cert.Reference8Ideal.Gen.bcast_S16384x8_S16384x1x8_0_2 (rcos P))) (mulf (extractStridedSlice Cert.Reference8Ideal.S16384x1x8 ![0, 0, 0] (shapeCast _ (extractStridedSlice Cert.Reference8Ideal.S16384x64 ![0, 3968] X Cert.Reference8Ideal.Gen.slices_S16384x4096_S16384x64_0_3968) Cert.Reference8Ideal.Gen.shapeCasts_S16384x64_S16384x1x64) Cert.Reference8Ideal.Gen.slices_S16384x1x64_S16384x1x8_0_0_0) (broadcastInDim Cert.Reference8Ideal.S16384x1x8 ![0, 2] Cert.Reference8Ideal.Gen.bcast_S16384x8_S16384x1x8_0_2 (rsin P)))) : (⟨Cert.Reference8Ideal.S16384x1x8, .f32⟩ : BufTy).Contents (Elt Ideal))⟩, ⟨Cert.Reference8Ideal.S16384x1x48, ((extractStridedSlice Cert.Reference8Ideal.S16384x1x48 ![0, 0, 16] (shapeCast _ (extractStridedSlice Cert.Reference8Ideal.S16384x64 ![0, 3968] X Cert.Reference8Ideal.Gen.slices_S16384x4096_S16384x64_0_3968) Cert.Reference8Ideal.Gen.shapeCasts_S16384x64_S16384x1x64) Cert.Reference8Ideal.Gen.slices_S16384x1x64_S16384x1x48_0_0_16) : (⟨Cert.Reference8Ideal.S16384x1x48, .f32⟩ : BufTy).Contents (Elt Ideal))⟩] Cert.Reference8Ideal.Gen.concatenates_S16384x1x8_S16384x1x8_S16384x1x48_S16384x1x64_d2 : (⟨Cert.Reference8Ideal.S16384x1x64, .f32⟩ : BufTy).Contents (Elt Ideal))) Cert.Reference8Ideal.Gen.shapeCasts_S16384x1x64_S16384x64) Cert.Reference8Ideal.Gen.bitsLt_bf16_f32

/-- The reference's keys. -/
def refK (X : FVec Ideal Cert.Reference8Ideal.S16384x4096 .f32) (P : Vec Ideal Cert.Reference8Ideal.S4x4096 .i32) : FVec Ideal Cert.Reference8Ideal.S4x16384x64 .bf16 :=
  truncf .bf16 (transpose Cert.Reference8Ideal.S4x16384x64 [1, 0, 2] ((concatenate Cert.Reference8Ideal.S16384x4x64 2 [⟨Cert.Reference8Ideal.S16384x4x8, ((subf (mulf (extractStridedSlice Cert.Reference8Ideal.S16384x4x8 ![0, 0, 0] (shapeCast _ (extractStridedSlice Cert.Reference8Ideal.S16384x256 ![0, 3328] X Cert.Reference8Ideal.Gen.slices_S16384x4096_S16384x256_0_3328) Cert.Reference8Ideal.Gen.shapeCasts_S16384x256_S16384x4x64) Cert.Reference8Ideal.Gen.slices_S16384x4x64_S16384x4x8_0_0_0) (broadcastInDim Cert.Reference8Ideal.S16384x4x8 ![0, 1, 2] Cert.Reference8Ideal.Gen.bcast_S16384x1x8_S16384x4x8_0_1_2 (broadcastInDim Cert.Reference8Ideal.S16384x1x8 ![0, 2] Cert.Reference8Ideal.Gen.bcast_S16384x8_S16384x1x8_0_2 (rcos P)))) (mulf (extractStridedSlice Cert.Reference8Ideal.S16384x4x8 ![0, 0, 8] (shapeCast _ (extractStridedSlice Cert.Reference8Ideal.S16384x256 ![0, 3328] X Cert.Reference8Ideal.Gen.slices_S16384x4096_S16384x256_0_3328) Cert.Reference8Ideal.Gen.shapeCasts_S16384x256_S16384x4x64) Cert.Reference8Ideal.Gen.slices_S16384x4x64_S16384x4x8_0_0_8) (broadcastInDim Cert.Reference8Ideal.S16384x4x8 ![0, 1, 2] Cert.Reference8Ideal.Gen.bcast_S16384x1x8_S16384x4x8_0_1_2 (broadcastInDim Cert.Reference8Ideal.S16384x1x8 ![0, 2] Cert.Reference8Ideal.Gen.bcast_S16384x8_S16384x1x8_0_2 (rsin P))))) : (⟨Cert.Reference8Ideal.S16384x4x8, .f32⟩ : BufTy).Contents (Elt Ideal))⟩, ⟨Cert.Reference8Ideal.S16384x4x8, ((addf (mulf (extractStridedSlice Cert.Reference8Ideal.S16384x4x8 ![0, 0, 8] (shapeCast _ (extractStridedSlice Cert.Reference8Ideal.S16384x256 ![0, 3328] X Cert.Reference8Ideal.Gen.slices_S16384x4096_S16384x256_0_3328) Cert.Reference8Ideal.Gen.shapeCasts_S16384x256_S16384x4x64) Cert.Reference8Ideal.Gen.slices_S16384x4x64_S16384x4x8_0_0_8) (broadcastInDim Cert.Reference8Ideal.S16384x4x8 ![0, 1, 2] Cert.Reference8Ideal.Gen.bcast_S16384x1x8_S16384x4x8_0_1_2 (broadcastInDim Cert.Reference8Ideal.S16384x1x8 ![0, 2] Cert.Reference8Ideal.Gen.bcast_S16384x8_S16384x1x8_0_2 (rcos P)))) (mulf (extractStridedSlice Cert.Reference8Ideal.S16384x4x8 ![0, 0, 0] (shapeCast _ (extractStridedSlice Cert.Reference8Ideal.S16384x256 ![0, 3328] X Cert.Reference8Ideal.Gen.slices_S16384x4096_S16384x256_0_3328) Cert.Reference8Ideal.Gen.shapeCasts_S16384x256_S16384x4x64) Cert.Reference8Ideal.Gen.slices_S16384x4x64_S16384x4x8_0_0_0) (broadcastInDim Cert.Reference8Ideal.S16384x4x8 ![0, 1, 2] Cert.Reference8Ideal.Gen.bcast_S16384x1x8_S16384x4x8_0_1_2 (broadcastInDim Cert.Reference8Ideal.S16384x1x8 ![0, 2] Cert.Reference8Ideal.Gen.bcast_S16384x8_S16384x1x8_0_2 (rsin P))))) : (⟨Cert.Reference8Ideal.S16384x4x8, .f32⟩ : BufTy).Contents (Elt Ideal))⟩, ⟨Cert.Reference8Ideal.S16384x4x48, ((extractStridedSlice Cert.Reference8Ideal.S16384x4x48 ![0, 0, 16] (shapeCast _ (extractStridedSlice Cert.Reference8Ideal.S16384x256 ![0, 3328] X Cert.Reference8Ideal.Gen.slices_S16384x4096_S16384x256_0_3328) Cert.Reference8Ideal.Gen.shapeCasts_S16384x256_S16384x4x64) Cert.Reference8Ideal.Gen.slices_S16384x4x64_S16384x4x48_0_0_16) : (⟨Cert.Reference8Ideal.S16384x4x48, .f32⟩ : BufTy).Contents (Elt Ideal))⟩] Cert.Reference8Ideal.Gen.concatenates_S16384x4x8_S16384x4x8_S16384x4x48_S16384x4x64_d2 : (⟨Cert.Reference8Ideal.S16384x4x64, .f32⟩ : BufTy).Contents (Elt Ideal))) Cert.Reference8Ideal.Gen.transposes_S16384x4x64_S4x16384x64_1_0_2) Cert.Reference8Ideal.Gen.bitsLt_bf16_f32

/-- The reference's values. -/
def refV (X : FVec Ideal Cert.Reference8Ideal.S16384x4096 .f32) : FVec Ideal Cert.Reference8Ideal.S64x256x256 .bf16 :=
  truncf .bf16 (transpose Cert.Reference8Ideal.S64x256x256 [0, 2, 1] (shapeCast _ (extractStridedSlice Cert.Reference8Ideal.S16384x256 ![0, 3584] X Cert.Reference8Ideal.Gen.slices_S16384x4096_S16384x256_0_3584) Cert.Reference8Ideal.Gen.shapeCasts_S16384x256_S64x256x256) Cert.Reference8Ideal.Gen.transposes_S64x256x256_S64x256x256_0_2_1) Cert.Reference8Ideal.Gen.bitsLt_bf16_f32

/-- The reference's indexer queries. -/
def refIq (X : FVec Ideal Cert.Reference8Ideal.S16384x4096 .f32) (P : Vec Ideal Cert.Reference8Ideal.S4x4096 .i32) : FVec Ideal Cert.Reference8Ideal.S512x16384 .bf16 :=
  truncf .bf16 (transpose Cert.Reference8Ideal.S512x16384 [1, 0] (shapeCast _ ((concatenate Cert.Reference8Ideal.S16384x8x64 2 [⟨Cert.Reference8Ideal.S16384x8x8, ((subf (mulf (extractStridedSlice Cert.Reference8Ideal.S16384x8x8 ![0, 0, 0] (shapeCast _ (extractStridedSlice Cert.Reference8Ideal.S16384x512 ![0, 2560] X Cert.Reference8Ideal.Gen.slices_S16384x4096_S16384x512_0_2560) Cert.Reference8Ideal.Gen.shapeCasts_S16384x512_S16384x8x64) Cert.Reference8Ideal.Gen.slices_S16384x8x64_S16384x8x8_0_0_0) (broadcastInDim Cert.Reference8Ideal.S16384x8x8 ![0, 1, 2] Cert.Reference8Ideal.Gen.bcast_S16384x1x8_S16384x8x8_0_1_2 (broadcastInDim Cert.Reference8Ideal.S16384x1x8 ![0, 2] Cert.Reference8Ideal.Gen.bcast_S16384x8_S16384x1x8_0_2 (rcos P)))) (mulf (extractStridedSlice Cert.Reference8Ideal.S16384x8x8 ![0, 0, 8] (shapeCast _ (extractStridedSlice Cert.Reference8Ideal.S16384x512 ![0, 2560] X Cert.Reference8Ideal.Gen.slices_S16384x4096_S16384x512_0_2560) Cert.Reference8Ideal.Gen.shapeCasts_S16384x512_S16384x8x64) Cert.Reference8Ideal.Gen.slices_S16384x8x64_S16384x8x8_0_0_8) (broadcastInDim Cert.Reference8Ideal.S16384x8x8 ![0, 1, 2] Cert.Reference8Ideal.Gen.bcast_S16384x1x8_S16384x8x8_0_1_2 (broadcastInDim Cert.Reference8Ideal.S16384x1x8 ![0, 2] Cert.Reference8Ideal.Gen.bcast_S16384x8_S16384x1x8_0_2 (rsin P))))) : (⟨Cert.Reference8Ideal.S16384x8x8, .f32⟩ : BufTy).Contents (Elt Ideal))⟩, ⟨Cert.Reference8Ideal.S16384x8x8, ((addf (mulf (extractStridedSlice Cert.Reference8Ideal.S16384x8x8 ![0, 0, 8] (shapeCast _ (extractStridedSlice Cert.Reference8Ideal.S16384x512 ![0, 2560] X Cert.Reference8Ideal.Gen.slices_S16384x4096_S16384x512_0_2560) Cert.Reference8Ideal.Gen.shapeCasts_S16384x512_S16384x8x64) Cert.Reference8Ideal.Gen.slices_S16384x8x64_S16384x8x8_0_0_8) (broadcastInDim Cert.Reference8Ideal.S16384x8x8 ![0, 1, 2] Cert.Reference8Ideal.Gen.bcast_S16384x1x8_S16384x8x8_0_1_2 (broadcastInDim Cert.Reference8Ideal.S16384x1x8 ![0, 2] Cert.Reference8Ideal.Gen.bcast_S16384x8_S16384x1x8_0_2 (rcos P)))) (mulf (extractStridedSlice Cert.Reference8Ideal.S16384x8x8 ![0, 0, 0] (shapeCast _ (extractStridedSlice Cert.Reference8Ideal.S16384x512 ![0, 2560] X Cert.Reference8Ideal.Gen.slices_S16384x4096_S16384x512_0_2560) Cert.Reference8Ideal.Gen.shapeCasts_S16384x512_S16384x8x64) Cert.Reference8Ideal.Gen.slices_S16384x8x64_S16384x8x8_0_0_0) (broadcastInDim Cert.Reference8Ideal.S16384x8x8 ![0, 1, 2] Cert.Reference8Ideal.Gen.bcast_S16384x1x8_S16384x8x8_0_1_2 (broadcastInDim Cert.Reference8Ideal.S16384x1x8 ![0, 2] Cert.Reference8Ideal.Gen.bcast_S16384x8_S16384x1x8_0_2 (rsin P))))) : (⟨Cert.Reference8Ideal.S16384x8x8, .f32⟩ : BufTy).Contents (Elt Ideal))⟩, ⟨Cert.Reference8Ideal.S16384x8x48, ((extractStridedSlice Cert.Reference8Ideal.S16384x8x48 ![0, 0, 16] (shapeCast _ (extractStridedSlice Cert.Reference8Ideal.S16384x512 ![0, 2560] X Cert.Reference8Ideal.Gen.slices_S16384x4096_S16384x512_0_2560) Cert.Reference8Ideal.Gen.shapeCasts_S16384x512_S16384x8x64) Cert.Reference8Ideal.Gen.slices_S16384x8x64_S16384x8x48_0_0_16) : (⟨Cert.Reference8Ideal.S16384x8x48, .f32⟩ : BufTy).Contents (Elt Ideal))⟩] Cert.Reference8Ideal.Gen.concatenates_S16384x8x8_S16384x8x8_S16384x8x48_S16384x8x64_d2 : (⟨Cert.Reference8Ideal.S16384x8x64, .f32⟩ : BufTy).Contents (Elt Ideal))) Cert.Reference8Ideal.Gen.shapeCasts_S16384x8x64_S16384x512) Cert.Reference8Ideal.Gen.transposes_S16384x512_S512x16384_1_0) Cert.Reference8Ideal.Gen.bitsLt_bf16_f32

/-- The reference's queries. -/
def refQ (X : FVec Ideal Cert.Reference8Ideal.S16384x4096 .f32) (P : Vec Ideal Cert.Reference8Ideal.S4x4096 .i32) : FVec Ideal Cert.Reference8Ideal.S256x16384 .bf16 :=
  truncf .bf16 (transpose Cert.Reference8Ideal.S256x16384 [1, 0] (mulf (shapeCast _ ((concatenate Cert.Reference8Ideal.S16384x4x64 2 [⟨Cert.Reference8Ideal.S16384x4x8, ((subf (mulf (extractStridedSlice Cert.Reference8Ideal.S16384x4x8 ![0, 0, 0] (shapeCast _ (extractStridedSlice Cert.Reference8Ideal.S16384x256 ![0, 3072] X Cert.Reference8Ideal.Gen.slices_S16384x4096_S16384x256_0_3072) Cert.Reference8Ideal.Gen.shapeCasts_S16384x256_S16384x4x64) Cert.Reference8Ideal.Gen.slices_S16384x4x64_S16384x4x8_0_0_0) (broadcastInDim Cert.Reference8Ideal.S16384x4x8 ![0, 1, 2] Cert.Reference8Ideal.Gen.bcast_S16384x1x8_S16384x4x8_0_1_2 (broadcastInDim Cert.Reference8Ideal.S16384x1x8 ![0, 2] Cert.Reference8Ideal.Gen.bcast_S16384x8_S16384x1x8_0_2 (rcos P)))) (mulf (extractStridedSlice Cert.Reference8Ideal.S16384x4x8 ![0, 0, 8] (shapeCast _ (extractStridedSlice Cert.Reference8Ideal.S16384x256 ![0, 3072] X Cert.Reference8Ideal.Gen.slices_S16384x4096_S16384x256_0_3072) Cert.Reference8Ideal.Gen.shapeCasts_S16384x256_S16384x4x64) Cert.Reference8Ideal.Gen.slices_S16384x4x64_S16384x4x8_0_0_8) (broadcastInDim Cert.Reference8Ideal.S16384x4x8 ![0, 1, 2] Cert.Reference8Ideal.Gen.bcast_S16384x1x8_S16384x4x8_0_1_2 (broadcastInDim Cert.Reference8Ideal.S16384x1x8 ![0, 2] Cert.Reference8Ideal.Gen.bcast_S16384x8_S16384x1x8_0_2 (rsin P))))) : (⟨Cert.Reference8Ideal.S16384x4x8, .f32⟩ : BufTy).Contents (Elt Ideal))⟩, ⟨Cert.Reference8Ideal.S16384x4x8, ((addf (mulf (extractStridedSlice Cert.Reference8Ideal.S16384x4x8 ![0, 0, 8] (shapeCast _ (extractStridedSlice Cert.Reference8Ideal.S16384x256 ![0, 3072] X Cert.Reference8Ideal.Gen.slices_S16384x4096_S16384x256_0_3072) Cert.Reference8Ideal.Gen.shapeCasts_S16384x256_S16384x4x64) Cert.Reference8Ideal.Gen.slices_S16384x4x64_S16384x4x8_0_0_8) (broadcastInDim Cert.Reference8Ideal.S16384x4x8 ![0, 1, 2] Cert.Reference8Ideal.Gen.bcast_S16384x1x8_S16384x4x8_0_1_2 (broadcastInDim Cert.Reference8Ideal.S16384x1x8 ![0, 2] Cert.Reference8Ideal.Gen.bcast_S16384x8_S16384x1x8_0_2 (rcos P)))) (mulf (extractStridedSlice Cert.Reference8Ideal.S16384x4x8 ![0, 0, 0] (shapeCast _ (extractStridedSlice Cert.Reference8Ideal.S16384x256 ![0, 3072] X Cert.Reference8Ideal.Gen.slices_S16384x4096_S16384x256_0_3072) Cert.Reference8Ideal.Gen.shapeCasts_S16384x256_S16384x4x64) Cert.Reference8Ideal.Gen.slices_S16384x4x64_S16384x4x8_0_0_0) (broadcastInDim Cert.Reference8Ideal.S16384x4x8 ![0, 1, 2] Cert.Reference8Ideal.Gen.bcast_S16384x1x8_S16384x4x8_0_1_2 (broadcastInDim Cert.Reference8Ideal.S16384x1x8 ![0, 2] Cert.Reference8Ideal.Gen.bcast_S16384x8_S16384x1x8_0_2 (rsin P))))) : (⟨Cert.Reference8Ideal.S16384x4x8, .f32⟩ : BufTy).Contents (Elt Ideal))⟩, ⟨Cert.Reference8Ideal.S16384x4x48, ((extractStridedSlice Cert.Reference8Ideal.S16384x4x48 ![0, 0, 16] (shapeCast _ (extractStridedSlice Cert.Reference8Ideal.S16384x256 ![0, 3072] X Cert.Reference8Ideal.Gen.slices_S16384x4096_S16384x256_0_3072) Cert.Reference8Ideal.Gen.shapeCasts_S16384x256_S16384x4x64) Cert.Reference8Ideal.Gen.slices_S16384x4x64_S16384x4x48_0_0_16) : (⟨Cert.Reference8Ideal.S16384x4x48, .f32⟩ : BufTy).Contents (Elt Ideal))⟩] Cert.Reference8Ideal.Gen.concatenates_S16384x4x8_S16384x4x8_S16384x4x48_S16384x4x64_d2 : (⟨Cert.Reference8Ideal.S16384x4x64, .f32⟩ : BufTy).Contents (Elt Ideal))) Cert.Reference8Ideal.Gen.shapeCasts_S16384x4x64_S16384x256) (broadcastInDim Cert.Reference8Ideal.S16384x256 ![] Cert.Reference8Ideal.Gen.bcast_S_S16384x256 (constant Cert.Reference8Ideal.S_ .f32 0x3E38AA3B#32))) Cert.Reference8Ideal.Gen.transposes_S16384x256_S256x16384_1_0) Cert.Reference8Ideal.Gen.bitsLt_bf16_f32

/-- The reference's indexer weights. -/
def refIw (X : FVec Ideal Cert.Reference8Ideal.S16384x4096 .f32) : FVec Ideal Cert.Reference8Ideal.S8x16384 .f32 :=
  mulf (transpose Cert.Reference8Ideal.S8x16384 [1, 0] (extractStridedSlice Cert.Reference8Ideal.S16384x8 ![0, 4032] X Cert.Reference8Ideal.Gen.slices_S16384x4096_S16384x8_0_4032) Cert.Reference8Ideal.Gen.transposes_S16384x8_S8x16384_1_0) (broadcastInDim Cert.Reference8Ideal.S8x16384 ![] Cert.Reference8Ideal.Gen.bcast_S_S8x16384 (constant Cert.Reference8Ideal.S_ .f32 0x3D3504F3#32))

theorem res_refIk (m' : (ℓ : Loc Cert.Reference8Ideal.nD Cert.Reference8Ideal.τ Cert.Reference8Ideal.sig) → Buf (Elt Ideal) ℓ) (c : Dev Cert.Reference8Ideal.nD) :
    Cert.Reference8Ideal.Value.res_main_v39 m' c = refIk (m' ((c.tc : Thread nD τ).loc Cert.Reference8Ideal.main_arg0)) (m' ((c.tc : Thread nD τ).loc Cert.Reference8Ideal.main_arg1)) := by
  unfold Cert.Reference8Ideal.Value.res_main_v39 refIk rcos rsin; rfl

theorem res_refK (m' : (ℓ : Loc Cert.Reference8Ideal.nD Cert.Reference8Ideal.τ Cert.Reference8Ideal.sig) → Buf (Elt Ideal) ℓ) (c : Dev Cert.Reference8Ideal.nD) :
    Cert.Reference8Ideal.Value.res_main_v58 m' c = refK (m' ((c.tc : Thread nD τ).loc Cert.Reference8Ideal.main_arg0)) (m' ((c.tc : Thread nD τ).loc Cert.Reference8Ideal.main_arg1)) := by
  unfold Cert.Reference8Ideal.Value.res_main_v58 refK rcos rsin; rfl

theorem res_refIq (m' : (ℓ : Loc Cert.Reference8Ideal.nD Cert.Reference8Ideal.τ Cert.Reference8Ideal.sig) → Buf (Elt Ideal) ℓ) (c : Dev Cert.Reference8Ideal.nD) :
    Cert.Reference8Ideal.Value.res_main_v81 m' c = refIq (m' ((c.tc : Thread nD τ).loc Cert.Reference8Ideal.main_arg0)) (m' ((c.tc : Thread nD τ).loc Cert.Reference8Ideal.main_arg1)) := by
  unfold Cert.Reference8Ideal.Value.res_main_v81 refIq rcos rsin; rfl

theorem res_refQ (m' : (ℓ : Loc Cert.Reference8Ideal.nD Cert.Reference8Ideal.τ Cert.Reference8Ideal.sig) → Buf (Elt Ideal) ℓ) (c : Dev Cert.Reference8Ideal.nD) :
    Cert.Reference8Ideal.Value.res_main_v103 m' c = refQ (m' ((c.tc : Thread nD τ).loc Cert.Reference8Ideal.main_arg0)) (m' ((c.tc : Thread nD τ).loc Cert.Reference8Ideal.main_arg1)) := by
  unfold Cert.Reference8Ideal.Value.res_main_v103 refQ rcos rsin; rfl

/-- One array at one row and equal columns. -/
theorem at_congr {α : Type} {k d : ℕ} (f : (⟨2, ![k, d]⟩ : Shape).Idx → α) (r : Fin k) {n n' : ℕ} (p : n < d) (p' : n' < d) (e : n = n') :
    f (ix2 r ⟨n, p⟩) = f (ix2 r ⟨n', p'⟩) := by
  subst e; rfl

theorem rcos_at (P : Vec Ideal Cert.Reference8Ideal.S4x4096 .i32) (r : Fin 16384) (i : Fin 8) : rcos P (ix2 r i) = Ideal.cos (ang P r i) := by
  pointwise [rcos, ang]

theorem rsin_at (P : Vec Ideal Cert.Reference8Ideal.S4x4096 .i32) (r : Fin 16384) (i : Fin 8) : rsin P (ix2 r i) = Ideal.sin (ang P r i) := by
  pointwise [rsin, ang]

/-- The rotation of row `R`'s column `a`, the component `p` of its head: the first eight components turn with the next eight. -/
def rotv (X : FVec Ideal Cert.Reference8Ideal.S16384x4096 .f32) (P : Vec Ideal Cert.Reference8Ideal.S4x4096 .i32) (R : Fin 16384) (a : Fin 4096) (p : ℕ) : EReal :=
  if p < 8 then X (ix2 R a) * rcos P (ix2 R ⟨p % 8, by omega⟩) - X (ix2 R ⟨(a.val + 8) % 4096, by omega⟩) * rsin P (ix2 R ⟨p % 8, by omega⟩)
  else if p < 16 then X (ix2 R a) * rcos P (ix2 R ⟨p % 8, by omega⟩) + X (ix2 R ⟨(a.val + 4088) % 4096, by omega⟩) * rsin P (ix2 R ⟨p % 8, by omega⟩)
  else X (ix2 R a)

set_option maxHeartbeats 2000000 in
theorem refIk_at (X : FVec Ideal Cert.Reference8Ideal.S16384x4096 .f32) (P : Vec Ideal Cert.Reference8Ideal.S4x4096 .i32) (R : Fin 16384) (c : Fin 64) :
    refIk X P (ix2 R c) = rotv X P R ⟨3968 + c.val, by omega⟩ (c.val) := by
  unfold rotv
  pointwise [refIk]
  by_cases h1 : c.val < 8
  · rw [if_pos h1, dif_pos (by omega)]
    exact congrArg₂ HSub.hSub (congrArg₂ HMul.hMul (at_congr X _ _ _ (by omega)) (at_congr _ _ _ _ (by omega)))
      (congrArg₂ HMul.hMul (at_congr X _ _ _ (by omega)) (at_congr _ _ _ _ (by omega)))
  by_cases h2 : c.val < 16
  · rw [if_neg h1, if_pos h2, dif_neg (by omega), dif_pos (by omega)]
    exact congrArg₂ HAdd.hAdd (congrArg₂ HMul.hMul (at_congr X _ _ _ (by omega)) (at_congr _ _ _ _ (by omega)))
      (congrArg₂ HMul.hMul (at_congr X _ _ _ (by omega)) (at_congr _ _ _ _ (by omega)))
  · rw [if_neg h1, if_neg h2, dif_neg (by omega), dif_neg (by omega)]
    exact at_congr X _ _ _ (by omega)

set_option maxHeartbeats 2000000 in
theorem refK_at (X : FVec Ideal Cert.Reference8Ideal.S16384x4096 .f32) (P : Vec Ideal Cert.Reference8Ideal.S4x4096 .i32) (R : Fin 16384) (h : Fin 4) (c : Fin 64) :
    refK X P (ix3 h R c) = rotv X P R ⟨3328 + (h.val * 64 + c.val), by omega⟩ (c.val) := by
  unfold rotv
  pointwise [refK]
  by_cases h1 : c.val < 8
  · rw [if_pos h1, dif_pos (by omega)]
    exact congrArg₂ HSub.hSub (congrArg₂ HMul.hMul (at_congr X _ _ _ (by omega)) (at_congr _ _ _ _ (by omega)))
      (congrArg₂ HMul.hMul (at_congr X _ _ _ (by omega)) (at_congr _ _ _ _ (by omega)))
  by_cases h2 : c.val < 16
  · rw [if_neg h1, if_pos h2, dif_neg (by omega), dif_pos (by omega)]
    exact congrArg₂ HAdd.hAdd (congrArg₂ HMul.hMul (at_congr X _ _ _ (by omega)) (at_congr _ _ _ _ (by omega)))
      (congrArg₂ HMul.hMul (at_congr X _ _ _ (by omega)) (at_congr _ _ _ _ (by omega)))
  · rw [if_neg h1, if_neg h2, dif_neg (by omega), dif_neg (by omega)]
    exact at_congr X _ _ _ (by omega)

set_option maxHeartbeats 2000000 in
theorem refIq_at (X : FVec Ideal Cert.Reference8Ideal.S16384x4096 .f32) (P : Vec Ideal Cert.Reference8Ideal.S4x4096 .i32) (R : Fin 16384) (c : Fin 512) :
    refIq X P (ix2 c R) = rotv X P R ⟨2560 + c.val, by omega⟩ (c.val % 64) := by
  unfold rotv
  pointwise [refIq]
  by_cases h1 : c.val % 64 < 8
  · rw [if_pos h1, dif_pos (by omega)]
    exact congrArg₂ HSub.hSub (congrArg₂ HMul.hMul (at_congr X _ _ _ (by omega)) (at_congr _ _ _ _ (by omega)))
      (congrArg₂ HMul.hMul (at_congr X _ _ _ (by omega)) (at_congr _ _ _ _ (by omega)))
  by_cases h2 : c.val % 64 < 16
  · rw [if_neg h1, if_pos h2, dif_neg (by omega), dif_pos (by omega)]
    exact congrArg₂ HAdd.hAdd (congrArg₂ HMul.hMul (at_congr X _ _ _ (by omega)) (at_congr _ _ _ _ (by omega)))
      (congrArg₂ HMul.hMul (at_congr X _ _ _ (by omega)) (at_congr _ _ _ _ (by omega)))
  · rw [if_neg h1, if_neg h2, dif_neg (by omega), dif_neg (by omega)]
    exact at_congr X _ _ _ (by omega)

set_option maxHeartbeats 2000000 in
theorem refQ_at (X : FVec Ideal Cert.Reference8Ideal.S16384x4096 .f32) (P : Vec Ideal Cert.Reference8Ideal.S4x4096 .i32) (R : Fin 16384) (c : Fin 256) :
    refQ X P (ix2 c R) = rotv X P R ⟨3072 + c.val, by omega⟩ (c.val % 64) * Ideal.ofBits .f32 0x3E38AA3B#32 := by
  unfold rotv
  pointwise [refQ]
  refine congrArg (· * _) ?_
  by_cases h1 : c.val % 64 < 8
  · rw [if_pos h1, dif_pos (by omega)]
    exact congrArg₂ HSub.hSub (congrArg₂ HMul.hMul (at_congr X _ _ _ (by omega)) (at_congr _ _ _ _ (by omega)))
      (congrArg₂ HMul.hMul (at_congr X _ _ _ (by omega)) (at_congr _ _ _ _ (by omega)))
  by_cases h2 : c.val % 64 < 16
  · rw [if_neg h1, if_pos h2, dif_neg (by omega), dif_pos (by omega)]
    exact congrArg₂ HAdd.hAdd (congrArg₂ HMul.hMul (at_congr X _ _ _ (by omega)) (at_congr _ _ _ _ (by omega)))
      (congrArg₂ HMul.hMul (at_congr X _ _ _ (by omega)) (at_congr _ _ _ _ (by omega)))
  · rw [if_neg h1, if_neg h2, dif_neg (by omega), dif_neg (by omega)]
    exact at_congr X _ _ _ (by omega)

end Cert.Kernel8Ideal.DsaPrep

end
-- ==== Proof.DsaBlock.lean ====
module

public import proofs.«01_k».proof.Proof.Gen.Kernel8Ideal.Value
public import proofs.«01_k».proof.Proof.Gen.Reference8Ideal.Run
public import proofs.«01_k».proof.Proof.DsaRef
public import Idealize.ShloMosaic.Lib.Pipeline.ValueKit

@[expose] public section

/-! The sparse branch's preparation, a block at a time: each of its six results, entry by entry. -/

set_option maxRecDepth 16384

noncomputable section

open Idealize.ShloMosaic Idealize.ShloMosaic.TcCoe Idealize.SL.Sem
open Idealize.ShloMosaic.Pipeline (Dat)

namespace Cert.Kernel8Ideal.DsaPrep

open Cert.Kernel8Ideal Cert.Kernel8Ideal.Gen

variable (m : (ℓ : Loc nD τ sig) → Buf (Elt Ideal) ℓ)

/-- A table entry: the one cosine or sine its column selects, and the base row's entry. -/
theorem tab_at (x5 : Vec Ideal S256x16 .f32) (x6 : Vec Ideal S16x384 .f32) (x7 : Vec Ideal S1x384 .f32) (r : Fin 256) (l : Fin 384)
    (n : ℕ) (s b : EReal) (hr : ∀ j, ∃ v : ℝ, x5 (ix2 r j) = (v : EReal)) (h6 : ∀ j : Fin 16, x6 (ix2 j l) = if j.val = n then s else 0)
    (h7 : x7 (ix2 0 l) = b) :
    k0_pay4 x5 x6 x7 (ix2 r l) = (if h : n < 16 then x5 (ix2 r ⟨n, h⟩) * s else 0) + b := by
  have hz : ∀ j, x5 (ix2 r j) - x5 (ix2 r j) = 0 := fun j => by
    obtain ⟨v, e⟩ := hr j
    rw [e, ← EReal.coe_sub, sub_self, EReal.coe_zero]
  pointwise [k0_pay4]
  simp only [hz, h6, h7, zero_mul, sub_zero, Finset.sum_const_zero, add_zero]
  congr 1
  split_ifs with h
  · rw [Finset.sum_eq_single ⟨n, h⟩]
    · simp
    · intro j _ hj
      rw [if_neg (fun e => hj (Fin.ext e)), mul_zero]
    · simp
  · refine Finset.sum_eq_zero fun j _ => ?_
    rw [if_neg (fun e => h (by rw [← e]; exact j.isLt)), mul_zero]

/-- A block's rotation by the table: column `c` of `W` columns, with its two neighbours eight columns away. -/
def krot {W : ℕ} [NeZero W] (x : (⟨2, ![256, W]⟩ : Shape).Idx → EReal) (T : FVec Ideal S256x384 .f32) (r : Fin 256) (c : Fin W) : EReal :=
  x (ix2 r c) * T (ix2 r ⟨c.val % 128, by omega⟩)
    + x (ix2 r ⟨(c.val + W - (W - 8)) % W, Nat.mod_lt _ (NeZero.pos W)⟩) * T (ix2 r ⟨128 + c.val % 128, by omega⟩)
    + x (ix2 r ⟨(c.val + W - 8) % W, Nat.mod_lt _ (NeZero.pos W)⟩) * T (ix2 r ⟨256 + c.val % 128, by omega⟩)

/-- The indexer keys' block. -/
theorem ik_at (x0 : Vec Ideal S256x512 .f32) (x1 : Vec Ideal S256x128 .f32) (x2 : Vec Ideal S256x256 .f32) (x3 : Vec Ideal S256x256 .f32) (x4 : Vec Ideal S256x256 .f32) (x5 : Vec Ideal S256x16 .f32) (x6 : Vec Ideal S16x384 .f32) (x7 : Vec Ideal S1x384 .f32) (r : Fin 256) (c : Fin 64) :
    out0_8 (F := Ideal) x0 x1 x2 x3 x4 x5 x6 x7 (ix2 r c) = krot (W := 128) x1 (k0_pay4 x5 x6 x7) r ⟨c.val, by omega⟩ := by
  have key : out0_8 (F := Ideal) x0 x1 x2 x3 x4 x5 x6 x7 = k0_pay8 x5 x6 x7 x1 := by
    unfold_out out0_8
    simp (decide := true) only [View.ld_unit_lit', View.canon_cons_unit_lit']
  rw [key]
  unfold krot
  have e : c.val % 128 = c.val := by omega
  pointwise [k0_pay8, k0_pay5, k0_pay6, k0_pay7]
  simp only [e]

/-- The indexer queries' block. -/
theorem iq_at (x0 : Vec Ideal S256x512 .f32) (x1 : Vec Ideal S256x128 .f32) (x2 : Vec Ideal S256x256 .f32) (x3 : Vec Ideal S256x256 .f32) (x4 : Vec Ideal S256x256 .f32) (x5 : Vec Ideal S256x16 .f32) (x6 : Vec Ideal S16x384 .f32) (x7 : Vec Ideal S1x384 .f32) (c : Fin 512) (r : Fin 256) :
    out0_11 (F := Ideal) x0 x1 x2 x3 x4 x5 x6 x7 (ix2 c r) = krot (W := 512) x0 (k0_pay4 x5 x6 x7) r c := by
  have key : out0_11 (F := Ideal) x0 x1 x2 x3 x4 x5 x6 x7 = k0_pay1 x0 (k0_pay18 (k0_pay6 x5 x6 x7)) (k0_pay19 (k0_pay7 x5 x6 x7)) (k0_pay20 (k0_pay5 x5 x6 x7) x0) := by
    unfold_out out0_11
    simp (decide := true) only [View.ld_unit_lit', View.canon_cons_unit_lit']
  rw [key]
  unfold krot
  pointwise [k0_pay1, k0_pay18, k0_pay19, k0_pay20, k0_pay5, k0_pay6, k0_pay7]
  by_cases h1 : c.val < 128
  · have e : c.val % 128 = c.val := by omega
    simp only [dif_pos h1, e]
  by_cases h2 : c.val - 128 < 128
  · have e : c.val % 128 = c.val - 128 := by omega
    simp only [dif_neg h1, dif_pos h2, e]
  by_cases h3 : c.val - 128 - 128 < 128
  · have e : c.val % 128 = c.val - 128 - 128 := by omega
    simp only [dif_neg h1, dif_neg h2, dif_pos h3, e]
  have e : c.val % 128 = c.val - 128 - 128 - 128 := by omega
  simp only [dif_neg h1, dif_neg h2, dif_neg h3, e]

/-- The queries' block. -/
theorem q_at (x0 : Vec Ideal S256x512 .f32) (x1 : Vec Ideal S256x128 .f32) (x2 : Vec Ideal S256x256 .f32) (x3 : Vec Ideal S256x256 .f32) (x4 : Vec Ideal S256x256 .f32) (x5 : Vec Ideal S256x16 .f32) (x6 : Vec Ideal S16x384 .f32) (x7 : Vec Ideal S1x384 .f32) (c : Fin 256) (r : Fin 256) :
    out0_12 (F := Ideal) x0 x1 x2 x3 x4 x5 x6 x7 (ix2 c r) = krot (W := 256) x2 (k0_pay4 x5 x6 x7) r c * Ideal.ofBits .f32 0x3E38AA3B#32 := by
  have key : out0_12 (F := Ideal) x0 x1 x2 x3 x4 x5 x6 x7 = k0_pay2 (k0_pay5 x5 x6 x7) (k0_pay6 x5 x6 x7) (k0_pay7 x5 x6 x7) x2 := by
    unfold_out out0_12
    simp (decide := true) only [View.ld_unit_lit', View.canon_cons_unit_lit']
  rw [key]
  unfold krot
  pointwise [k0_pay2, k0_pay5, k0_pay6, k0_pay7]
  by_cases h1 : c.val < 128
  · have e : c.val % 128 = c.val := by omega
    simp only [dif_pos h1, e]
  have e : c.val % 128 = c.val - 128 := by omega
  simp only [dif_neg h1, e]

/-- The rotated keys, before they are cut into heads. -/
theorem k_rot (x3 : Vec Ideal S256x256 .f32) (x5 : Vec Ideal S256x16 .f32) (x6 : Vec Ideal S16x384 .f32) (x7 : Vec Ideal S1x384 .f32) (r : Fin 256) (c : Fin 256) :
    k0_pay12 x3 (k0_pay9 x5 x6 x7) (k0_pay10 x5 x6 x7 x3) (k0_pay11 x5 x6 x7 x3) (ix2 r c) = krot (W := 256) x3 (k0_pay4 x5 x6 x7) r c := by
  unfold krot
  pointwise [k0_pay12, k0_pay9, k0_pay10, k0_pay11, k0_pay5, k0_pay6, k0_pay7]
  by_cases h1 : c.val < 128
  · have e : c.val % 128 = c.val := by omega
    simp only [dif_pos h1, e]
  have e : c.val % 128 = c.val - 128 := by omega
  simp only [dif_neg h1, e]

theorem krot_congr {W : ℕ} [NeZero W] (x : (⟨2, ![256, W]⟩ : Shape).Idx → EReal) (T : FVec Ideal S256x384 .f32) {r r' : Fin 256} {c c' : Fin W} (h : r = r') (e : c.val = c'.val) :
    krot x T r c = krot x T r' c' := by
  have e' : c = c' := Fin.ext e
  subst h e'; rfl

/-- Head 0 of the rotated keys. -/
theorem k_cut6 (x3 : Vec Ideal S256x256 .f32) (x5 : Vec Ideal S256x16 .f32) (x6 : Vec Ideal S16x384 .f32) (x7 : Vec Ideal S1x384 .f32) (z : Fin 1) (r : Fin 256) (c : Fin 64) :
    k0_pay13 x3 (k0_pay9 x5 x6 x7) (k0_pay10 x5 x6 x7 x3) (k0_pay11 x5 x6 x7 x3) (ix3 z r c) = krot (W := 256) x3 (k0_pay4 x5 x6 x7) r ⟨0 + c.val, by omega⟩ := by
  rw [← k_rot]
  pointwise [k0_pay13]

/-- Head 1 of the rotated keys. -/
theorem k_cut7 (x3 : Vec Ideal S256x256 .f32) (x5 : Vec Ideal S256x16 .f32) (x6 : Vec Ideal S16x384 .f32) (x7 : Vec Ideal S1x384 .f32) (z : Fin 1) (r : Fin 256) (c : Fin 64) :
    k0_pay14 x3 (k0_pay9 x5 x6 x7) (k0_pay10 x5 x6 x7 x3) (k0_pay11 x5 x6 x7 x3) (ix3 z r c) = krot (W := 256) x3 (k0_pay4 x5 x6 x7) r ⟨64 + c.val, by omega⟩ := by
  rw [← k_rot]
  pointwise [k0_pay14]

/-- Head 2 of the rotated keys. -/
theorem k_cut8 (x3 : Vec Ideal S256x256 .f32) (x5 : Vec Ideal S256x16 .f32) (x6 : Vec Ideal S16x384 .f32) (x7 : Vec Ideal S1x384 .f32) (z : Fin 1) (r : Fin 256) (c : Fin 64) :
    k0_pay15 x3 (k0_pay9 x5 x6 x7) (k0_pay10 x5 x6 x7 x3) (k0_pay11 x5 x6 x7 x3) (ix3 z r c) = krot (W := 256) x3 (k0_pay4 x5 x6 x7) r ⟨128 + c.val, by omega⟩ := by
  rw [← k_rot]
  pointwise [k0_pay15]

/-- Head 3 of the rotated keys. -/
theorem k_cut9 (x3 : Vec Ideal S256x256 .f32) (x5 : Vec Ideal S256x16 .f32) (x6 : Vec Ideal S16x384 .f32) (x7 : Vec Ideal S1x384 .f32) (z : Fin 1) (r : Fin 256) (c : Fin 64) :
    k0_pay16 x3 (k0_pay9 x5 x6 x7) (k0_pay10 x5 x6 x7 x3) (k0_pay11 x5 x6 x7 x3) (ix3 z r c) = krot (W := 256) x3 (k0_pay4 x5 x6 x7) r ⟨192 + c.val, by omega⟩ := by
  rw [← k_rot]
  pointwise [k0_pay16]

/-- The keys' block: a head is sixty-four columns. -/
theorem k_at (x0 : Vec Ideal S256x512 .f32) (x1 : Vec Ideal S256x128 .f32) (x2 : Vec Ideal S256x256 .f32) (x3 : Vec Ideal S256x256 .f32) (x4 : Vec Ideal S256x256 .f32) (x5 : Vec Ideal S256x16 .f32) (x6 : Vec Ideal S16x384 .f32) (x7 : Vec Ideal S1x384 .f32) (h : Fin 4) (r : Fin 256) (c : Fin 64) :
    out0_9 (F := Ideal) x0 x1 x2 x3 x4 x5 x6 x7 (ix3 h r c) = krot (W := 256) x3 (k0_pay4 x5 x6 x7) r ⟨h.val * 64 + c.val, by omega⟩ := by
  have key : out0_9 (F := Ideal) x0 x1 x2 x3 x4 x5 x6 x7 = View.canon
      [⟨r0_9, k0_pay16 x3 (k0_pay9 x5 x6 x7) (k0_pay10 x5 x6 x7 x3) (k0_pay11 x5 x6 x7 x3)⟩,
       ⟨r0_8, k0_pay15 x3 (k0_pay9 x5 x6 x7) (k0_pay10 x5 x6 x7 x3) (k0_pay11 x5 x6 x7 x3)⟩,
       ⟨r0_7, k0_pay14 x3 (k0_pay9 x5 x6 x7) (k0_pay10 x5 x6 x7 x3) (k0_pay11 x5 x6 x7 x3)⟩,
       ⟨r0_6, k0_pay13 x3 (k0_pay9 x5 x6 x7) (k0_pay10 x5 x6 x7 x3) (k0_pay11 x5 x6 x7 x3)⟩] := by
    unfold_out out0_9
    simp (decide := true) only [View.ld_unit_lit']
  rw [key]
  refine View.canon_apply_of_pieces (Val := Elt Ideal) (e := .bf16) (fun y : S4x256x64.Idx => krot (W := 256) x3 (k0_pay4 x5 x6 x7) (y 1) ⟨(y 0).val * 64 + (y 2).val, by
    have h0 : (y 0).val < 4 := (y 0).isLt
    have h2 : (y 2).val < 64 := (y 2).isLt
    omega⟩) _ ?_ (ix3 h r c) (cover0_9 _ _ _ _ _)
  simp only [List.forall_mem_cons, List.not_mem_nil, false_imp_iff, implies_true, and_true]
  refine ⟨fun x => ?_, fun x => ?_, fun x => ?_, fun x => ?_⟩
  · exact (congrArg _ (eq_ix3 (n0 := 1) (n1 := 256) (n2 := 64) x)).trans ((k_cut9 x3 x5 x6 x7 (x 0) (x 1) (x 2)).trans
      (krot_congr _ _ (Fin.ext (by simp [Rect.emb_apply])) (by simp [Rect.emb_apply])))
  · exact (congrArg _ (eq_ix3 (n0 := 1) (n1 := 256) (n2 := 64) x)).trans ((k_cut8 x3 x5 x6 x7 (x 0) (x 1) (x 2)).trans
      (krot_congr _ _ (Fin.ext (by simp [Rect.emb_apply])) (by simp [Rect.emb_apply])))
  · exact (congrArg _ (eq_ix3 (n0 := 1) (n1 := 256) (n2 := 64) x)).trans ((k_cut7 x3 x5 x6 x7 (x 0) (x 1) (x 2)).trans
      (krot_congr _ _ (Fin.ext (by simp [Rect.emb_apply])) (by simp [Rect.emb_apply])))
  · exact (congrArg _ (eq_ix3 (n0 := 1) (n1 := 256) (n2 := 64) x)).trans ((k_cut6 x3 x5 x6 x7 (x 0) (x 1) (x 2)).trans
      (krot_congr _ _ (Fin.ext (by simp [Rect.emb_apply])) (by simp [Rect.emb_apply])))

/-- The values' block. -/
theorem v_at (x0 : Vec Ideal S256x512 .f32) (x1 : Vec Ideal S256x128 .f32) (x2 : Vec Ideal S256x256 .f32) (x3 : Vec Ideal S256x256 .f32) (x4 : Vec Ideal S256x256 .f32) (x5 : Vec Ideal S256x16 .f32) (x6 : Vec Ideal S16x384 .f32) (x7 : Vec Ideal S1x384 .f32) (z : Fin 1) (e r : Fin 256) :
    out0_10 (F := Ideal) x0 x1 x2 x3 x4 x5 x6 x7 (ix3 z e r) = x4 (ix2 r e) := by
  have key : out0_10 (F := Ideal) x0 x1 x2 x3 x4 x5 x6 x7 = k0_pay17 x4 := by
    unfold_out out0_10
    simp (decide := true) only [View.ld_unit_lit', View.canon_cons_unit_lit']
  rw [key]
  pointwise [k0_pay17]

/-- The indexer weights' block. -/
theorem iw_at (x0 : Vec Ideal S256x512 .f32) (x1 : Vec Ideal S256x128 .f32) (x2 : Vec Ideal S256x256 .f32) (x3 : Vec Ideal S256x256 .f32) (x4 : Vec Ideal S256x256 .f32) (x5 : Vec Ideal S256x16 .f32) (x6 : Vec Ideal S16x384 .f32) (x7 : Vec Ideal S1x384 .f32) (c : Fin 8) (r : Fin 256) :
    out0_13 (F := Ideal) x0 x1 x2 x3 x4 x5 x6 x7 (ix2 c r) = x1 (ix2 r ⟨64 + c.val, by omega⟩) * Ideal.ofBits .f32 0x3D3504F3#32 := by
  have key : out0_13 (F := Ideal) x0 x1 x2 x3 x4 x5 x6 x7 = k0_pay3 x1 := by
    unfold_out out0_13
    simp (decide := true) only [View.ld_unit_lit', View.canon_cons_unit_lit']
  rw [key]
  pointwise [k0_pay3]

end Cert.Kernel8Ideal.DsaPrep

end
-- ==== Proof.DsaPrep.lean ====
module

public import proofs.«01_k».proof.Proof.Gen.Kernel8Ideal.Value
public import proofs.«01_k».proof.Proof.Gen.Reference8Ideal.Run
public import proofs.«01_k».proof.Proof.DsaBlock
public import Idealize.ShloMosaic.Lib.Pipeline.ValueKit

@[expose] public section

/-! The sparse branch's preparation: each block of the kernel's six results is the matching block of the
    reference's. The kernel rotates by one product with a table whose columns select a cosine or a sine at most; the
    reference writes the rotation out. -/

set_option maxRecDepth 16384

noncomputable section

open Idealize.ShloMosaic Idealize.ShloMosaic.TcCoe Idealize.SL.Sem
open Idealize.ShloMosaic.Pipeline (Dat)

namespace Cert.Kernel8Ideal.DsaPrep

open Cert.Kernel8Ideal Cert.Kernel8Ideal.Gen

variable (m : (ℓ : Loc nD τ sig) → Buf (Elt Ideal) ℓ)

/-- The table of one block, entry by entry. -/
theorem tabv (c : Dev nD) (t : Fin cfg0.N) (r : Fin 256) (l : Fin 384) : k0_pay4 (F := Ideal) (iblk m c 5 t) (iblk m c 6 t) (iblk m c 7 t) (ix2 r l)
    = (if h : row l.val < 16 then kcs (m ((c : Thread nD τ).loc main_arg1)) (ix2 (R t r) ⟨row l.val, h⟩) * (if 128 ≤ l.val ∧ l.val < 256 then (-1 : EReal) else 1) else 0)
      + (if l.val < 128 ∧ 16 ≤ l.val % 64 then (1 : EReal) else 0) := by
  rw [tab_at _ _ _ r l (row l.val) (if 128 ≤ l.val ∧ l.val < 256 then (-1 : EReal) else 1)
    (if l.val < 128 ∧ 16 ≤ l.val % 64 then (1 : EReal) else 0)
    (fun j => by rw [iblkC]; exact kcs_real _ _ j) (fun j => iblkT m c t j l) (iblkB m c t l)]
  simp only [iblkC]

theorem tab_one (c : Dev nD) (t : Fin cfg0.N) (r : Fin 256) (l : Fin 384) (h : l.val < 128 ∧ 16 ≤ l.val % 64) :
    k0_pay4 (F := Ideal) (iblk m c 5 t) (iblk m c 6 t) (iblk m c 7 t) (ix2 r l) = 1 := by
  have e : row l.val = 16 := by unfold row; split_ifs <;> omega
  rw [tabv, dif_neg (by omega), if_pos h, zero_add]

theorem tab_nil (c : Dev nD) (t : Fin cfg0.N) (r : Fin 256) (l : Fin 384) (h : 128 ≤ l.val)
    (h' : 16 ≤ l.val % 64 ∨ (l.val < 256 ∧ 8 ≤ l.val % 64) ∨ (256 ≤ l.val ∧ l.val % 64 < 8)) : k0_pay4 (F := Ideal) (iblk m c 5 t) (iblk m c 6 t) (iblk m c 7 t) (ix2 r l) = 0 := by
  have e : row l.val = 16 := by unfold row; split_ifs <;> omega
  rw [tabv, dif_neg (by omega), if_neg (by omega), zero_add]

theorem tab_cos (c : Dev nD) (t : Fin cfg0.N) (r : Fin 256) (l : Fin 384) (i : Fin 8) (h : l.val < 128) (hi : l.val % 64 = i.val ∨ l.val % 64 = 8 + i.val) :
    k0_pay4 (F := Ideal) (iblk m c 5 t) (iblk m c 6 t) (iblk m c 7 t) (ix2 r l) = rcos (m ((c : Thread nD τ).loc main_arg1)) (ix2 (R t r) i) := by
  have e : row l.val = i.val := by unfold row; split_ifs <;> omega
  rw [tabv, dif_pos (by omega), if_neg (by omega), if_neg (by omega), mul_one, add_zero, rcos_at, ← kcs_lo]
  exact at_congr _ _ _ _ e

theorem tab_sin_neg (c : Dev nD) (t : Fin cfg0.N) (r : Fin 256) (l : Fin 384) (i : Fin 8) (h : 128 ≤ l.val ∧ l.val < 256) (hi : l.val % 64 = i.val) :
    k0_pay4 (F := Ideal) (iblk m c 5 t) (iblk m c 6 t) (iblk m c 7 t) (ix2 r l) = -rsin (m ((c : Thread nD τ).loc main_arg1)) (ix2 (R t r) i) := by
  have e : row l.val = 8 + i.val := by unfold row; split_ifs <;> omega
  rw [tabv, dif_pos (by omega), if_pos (by omega), if_neg (by omega), mul_neg, mul_one, add_zero, rsin_at, ← kcs_hi]
  exact congrArg Neg.neg (at_congr _ _ _ _ e)

theorem tab_sin (c : Dev nD) (t : Fin cfg0.N) (r : Fin 256) (l : Fin 384) (i : Fin 8) (h : 256 ≤ l.val) (hi : l.val % 64 = 8 + i.val) :
    k0_pay4 (F := Ideal) (iblk m c 5 t) (iblk m c 6 t) (iblk m c 7 t) (ix2 r l) = rsin (m ((c : Thread nD τ).loc main_arg1)) (ix2 (R t r) i) := by
  have e : row l.val = 8 + i.val := by unfold row; split_ifs <;> omega
  rw [tabv, dif_pos (by omega), if_neg (by omega), if_neg (by omega), mul_one, add_zero, rsin_at, ← kcs_hi]
  exact at_congr _ _ _ _ e

/-- The rotation by the table is the rotation written out. -/
theorem krot_eq {W : ℕ} [NeZero W] (hW : W % 64 = 0) (o : ℕ) (ho : o + W ≤ 4096) (c : Dev nD) (t : Fin cfg0.N)
    (x : (⟨2, ![256, W]⟩ : Shape).Idx → EReal) (r : Fin 256) (j : Fin W)
    (hx : ∀ j' : Fin W, x (ix2 r j') = (m ((c : Thread nD τ).loc main_arg0)) (ix2 (R t r) ⟨o + j'.val, by omega⟩)) :
    krot x (k0_pay4 (F := Ideal) (iblk m c 5 t) (iblk m c 6 t) (iblk m c 7 t)) r j = rotv (m ((c : Thread nD τ).loc main_arg0)) (m ((c : Thread nD τ).loc main_arg1)) (R t r) ⟨o + j.val, by omega⟩ (j.val % 64) := by
  have hj := j.isLt
  unfold krot rotv
  rw [hx, hx, hx]
  by_cases h1 : j.val % 64 < 8
  · have e : (j.val + W - (W - 8)) % W = j.val + 8 := by
      rw [show j.val + W - (W - 8) = j.val + 8 by omega]; exact Nat.mod_eq_of_lt (by omega)
    rw [if_pos h1, tab_cos m c t r _ ⟨j.val % 64 % 8, by omega⟩ (by simp only; omega) (by simp only; omega),
      tab_sin_neg m c t r _ ⟨j.val % 64 % 8, by omega⟩ (by simp only; omega) (by simp only; omega),
      tab_nil m c t r _ (by simp only; omega) (by simp only; omega), mul_zero, add_zero, mul_neg, sub_eq_add_neg]
    refine congrArg (_ + ·) (congrArg Neg.neg (congrArg (· * _) ?_))
    exact at_congr (m ((c : Thread nD τ).loc main_arg0)) _ _ _ (by simp only [e]; omega)
  by_cases h2 : j.val % 64 < 16
  · have e : (j.val + W - 8) % W = j.val - 8 := by
      rw [show j.val + W - 8 = (j.val - 8) + W by omega, Nat.add_mod_right]; exact Nat.mod_eq_of_lt (by omega)
    rw [if_neg h1, if_pos h2, tab_cos m c t r _ ⟨j.val % 64 % 8, by omega⟩ (by simp only; omega) (by simp only; omega),
      tab_nil m c t r _ (by simp) (by simp only; omega),
      tab_sin m c t r _ ⟨j.val % 64 % 8, by omega⟩ (by simp only; omega) (by simp only; omega), mul_zero, add_zero]
    refine congrArg (_ + ·) (congrArg (· * _) ?_)
    exact at_congr (m ((c : Thread nD τ).loc main_arg0)) _ _ _ (by simp only [e]; omega)
  · rw [if_neg h1, if_neg h2, tab_one m c t r _ (by simp only; omega), tab_nil m c t r _ (by simp) (by simp only; omega),
      tab_nil m c t r _ (by simp only; omega) (by simp only; omega), mul_one, mul_zero, mul_zero, add_zero, add_zero]

theorem iblk0_at (c : Dev nD) (t : Fin cfg0.N) (r : Fin 256) (a : Fin 512) :
    iblk m c 0 t (ix2 r a) = (m ((c : Thread nD τ).loc main_arg0)) (ix2 (R t r) ⟨2560 + a.val, by omega⟩) := by
  blk_point [iblk, V, idx t]

theorem iblk1_at (c : Dev nD) (t : Fin cfg0.N) (r : Fin 256) (a : Fin 128) :
    iblk m c 1 t (ix2 r a) = (m ((c : Thread nD τ).loc main_arg0)) (ix2 (R t r) ⟨3968 + a.val, by omega⟩) := by
  blk_point [iblk, V, idx t]

theorem iblk2_at (c : Dev nD) (t : Fin cfg0.N) (r : Fin 256) (a : Fin 256) :
    iblk m c 2 t (ix2 r a) = (m ((c : Thread nD τ).loc main_arg0)) (ix2 (R t r) ⟨3072 + a.val, by omega⟩) := by
  blk_point [iblk, V, idx t]

theorem iblk3_at (c : Dev nD) (t : Fin cfg0.N) (r : Fin 256) (a : Fin 256) :
    iblk m c 3 t (ix2 r a) = (m ((c : Thread nD τ).loc main_arg0)) (ix2 (R t r) ⟨3328 + a.val, by omega⟩) := by
  blk_point [iblk, V, idx t]

theorem iblk4_at (c : Dev nD) (t : Fin cfg0.N) (r : Fin 256) (a : Fin 256) :
    iblk m c 4 t (ix2 r a) = (m ((c : Thread nD τ).loc main_arg0)) (ix2 (R t r) ⟨3584 + a.val, by omega⟩) := by
  blk_point [iblk, V, idx t]

theorem refV_at (X : FVec Ideal Cert.Reference8Ideal.S16384x4096 .f32) (b : Fin 64) (e r : Fin 256) : refV X (ix3 b e r) = X (ix2 ⟨b.val * 256 + r.val, by omega⟩ ⟨3584 + e.val, by omega⟩) := by
  pointwise [refV]

theorem refIw_at (X : FVec Ideal Cert.Reference8Ideal.S16384x4096 .f32) (i : Fin 8) (r : Fin 16384) : refIw X (ix2 i r) = X (ix2 r ⟨4032 + i.val, by omega⟩) * Ideal.ofBits .f32 0x3D3504F3#32 := by
  pointwise [refIw]

/-- The array block that grid point `t` is. -/
abbrev B (t : Fin cfg0.N) : Fin 64 := ⟨(grid0.coords t 0).val, (grid0.coords t 0).isLt⟩

/-- A block's indexer keys are the reference's. -/
theorem point_ik (c : Dev nD) (t : Fin cfg0.N) (r : Fin 256) (j : Fin 64) : out0_8 (iblk m c 0 t) (iblk m c 1 t) (iblk m c 2 t) (iblk m c 3 t) (iblk m c 4 t) (iblk m c 5 t) (iblk m c 6 t) (iblk m c 7 t) (ix2 r j) = refIk (m ((c : Thread nD τ).loc main_arg0)) (m ((c : Thread nD τ).loc main_arg1)) (ix2 (R t r) j) := by
  have e : j.val % 64 = j.val := by omega
  rw [ik_at, krot_eq m (by decide) 3968 (by decide) c t _ r _ (fun j' => iblk1_at m c t r j'), refIk_at]
  simp only [e]

/-- A block's keys are the reference's. -/
theorem point_k (c : Dev nD) (t : Fin cfg0.N) (h : Fin 4) (r : Fin 256) (j : Fin 64) : out0_9 (iblk m c 0 t) (iblk m c 1 t) (iblk m c 2 t) (iblk m c 3 t) (iblk m c 4 t) (iblk m c 5 t) (iblk m c 6 t) (iblk m c 7 t) (ix3 h r j) = refK (m ((c : Thread nD τ).loc main_arg0)) (m ((c : Thread nD τ).loc main_arg1)) (ix3 h (R t r) j) := by
  have e : (h.val * 64 + j.val) % 64 = j.val := by omega
  rw [k_at, krot_eq m (by decide) 3328 (by decide) c t _ r _ (fun j' => iblk3_at m c t r j'), refK_at]
  simp only [e]

/-- A block's values are the reference's. -/
theorem point_v (c : Dev nD) (t : Fin cfg0.N) (z : Fin 1) (e r : Fin 256) : out0_10 (iblk m c 0 t) (iblk m c 1 t) (iblk m c 2 t) (iblk m c 3 t) (iblk m c 4 t) (iblk m c 5 t) (iblk m c 6 t) (iblk m c 7 t) (ix3 z e r) = refV (m ((c : Thread nD τ).loc main_arg0)) (ix3 (B t) e r) := by
  rw [v_at, iblk4_at, refV_at]

/-- A block's indexer queries are the reference's. -/
theorem point_iq (c : Dev nD) (t : Fin cfg0.N) (j : Fin 512) (r : Fin 256) : out0_11 (iblk m c 0 t) (iblk m c 1 t) (iblk m c 2 t) (iblk m c 3 t) (iblk m c 4 t) (iblk m c 5 t) (iblk m c 6 t) (iblk m c 7 t) (ix2 j r) = refIq (m ((c : Thread nD τ).loc main_arg0)) (m ((c : Thread nD τ).loc main_arg1)) (ix2 j (R t r)) := by
  rw [iq_at, krot_eq m (by decide) 2560 (by decide) c t _ r _ (fun j' => iblk0_at m c t r j'), refIq_at]

/-- A block's queries are the reference's. -/
theorem point_q (c : Dev nD) (t : Fin cfg0.N) (j : Fin 256) (r : Fin 256) : out0_12 (iblk m c 0 t) (iblk m c 1 t) (iblk m c 2 t) (iblk m c 3 t) (iblk m c 4 t) (iblk m c 5 t) (iblk m c 6 t) (iblk m c 7 t) (ix2 j r) = refQ (m ((c : Thread nD τ).loc main_arg0)) (m ((c : Thread nD τ).loc main_arg1)) (ix2 j (R t r)) := by
  rw [q_at, krot_eq m (by decide) 3072 (by decide) c t _ r _ (fun j' => iblk2_at m c t r j'), refQ_at]

/-- A block's indexer weights are the reference's. -/
theorem point_iw (c : Dev nD) (t : Fin cfg0.N) (j : Fin 8) (r : Fin 256) : out0_13 (iblk m c 0 t) (iblk m c 1 t) (iblk m c 2 t) (iblk m c 3 t) (iblk m c 4 t) (iblk m c 5 t) (iblk m c 6 t) (iblk m c 7 t) (ix2 j r) = refIw (m ((c : Thread nD τ).loc main_arg0)) (ix2 j (R t r)) := by
  rw [iw_at, iblk1_at, refIw_at]
  exact congrArg (· * _) (at_congr (m ((c : Thread nD τ).loc main_arg0)) _ _ _ (by simp only; omega))

/-- The kernel's indexer keys are the reference's term of the same arguments. -/
theorem final_ik (c : Dev nD) : (dats m 0 c).arrAt 8 (cfgs 0).N = refIk (m ((c : Thread nD τ).loc main_arg0)) (m ((c : Thread nD τ).loc main_arg1)) := by
  refine (dats m 0 c).arrAt_eq_of_covers 8 _ (by decide +kernel) fun t _ y => ?_
  blk_simp
  rw [after0_8]
  have e : ((cfg0.win 8).blk t).view.emb y = ix2 (R t (y 0)) (y 1) := by
    blk_ext [idx t]
  exact (congrArg _ (eq_ix2 (n0 := 256) (n1 := 64) y)).trans ((point_ik m c t (y 0) (y 1)).trans (congrArg _ e.symm))

/-- The kernel's keys are the reference's term of the same arguments. -/
theorem final_k (c : Dev nD) : (dats m 0 c).arrAt 9 (cfgs 0).N = refK (m ((c : Thread nD τ).loc main_arg0)) (m ((c : Thread nD τ).loc main_arg1)) := by
  refine (dats m 0 c).arrAt_eq_of_covers 9 _ (by decide +kernel) fun t _ y => ?_
  blk_simp
  rw [after0_9]
  have e : ((cfg0.win 9).blk t).view.emb y = ix3 (y 0) (R t (y 1)) (y 2) := by
    blk_ext [idx t]
  exact (congrArg _ (eq_ix3 (n0 := 4) (n1 := 256) (n2 := 64) y)).trans ((point_k m c t (y 0) (y 1) (y 2)).trans (congrArg _ e.symm))

/-- The kernel's values are the reference's term of the same arguments. -/
theorem final_v (c : Dev nD) : (dats m 0 c).arrAt 10 (cfgs 0).N = refV (m ((c : Thread nD τ).loc main_arg0)) := by
  refine (dats m 0 c).arrAt_eq_of_covers 10 _ (by decide +kernel) fun t _ y => ?_
  blk_simp
  rw [after0_10]
  have e : ((cfg0.win 10).blk t).view.emb y = ix3 (B t) (y 1) (y 2) := by
    blk_ext [idx t]
  exact (congrArg _ (eq_ix3 (n0 := 1) (n1 := 256) (n2 := 256) y)).trans ((point_v m c t (y 0) (y 1) (y 2)).trans (congrArg _ e.symm))

/-- The kernel's indexer queries are the reference's term of the same arguments. -/
theorem final_iq (c : Dev nD) : (dats m 0 c).arrAt 11 (cfgs 0).N = refIq (m ((c : Thread nD τ).loc main_arg0)) (m ((c : Thread nD τ).loc main_arg1)) := by
  refine (dats m 0 c).arrAt_eq_of_covers 11 _ (by decide +kernel) fun t _ y => ?_
  blk_simp
  rw [after0_11]
  have e : ((cfg0.win 11).blk t).view.emb y = ix2 (y 0) (R t (y 1)) := by
    blk_ext [idx t]
  exact (congrArg _ (eq_ix2 (n0 := 512) (n1 := 256) y)).trans ((point_iq m c t (y 0) (y 1)).trans (congrArg _ e.symm))

/-- The kernel's queries are the reference's term of the same arguments. -/
theorem final_q (c : Dev nD) : (dats m 0 c).arrAt 12 (cfgs 0).N = refQ (m ((c : Thread nD τ).loc main_arg0)) (m ((c : Thread nD τ).loc main_arg1)) := by
  refine (dats m 0 c).arrAt_eq_of_covers 12 _ (by decide +kernel) fun t _ y => ?_
  blk_simp
  rw [after0_12]
  have e : ((cfg0.win 12).blk t).view.emb y = ix2 (y 0) (R t (y 1)) := by
    blk_ext [idx t]
  exact (congrArg _ (eq_ix2 (n0 := 256) (n1 := 256) y)).trans ((point_q m c t (y 0) (y 1)).trans (congrArg _ e.symm))

/-- The kernel's indexer weights are the reference's term of the same arguments. -/
theorem final_iw (c : Dev nD) : (dats m 0 c).arrAt 13 (cfgs 0).N = refIw (m ((c : Thread nD τ).loc main_arg0)) := by
  refine (dats m 0 c).arrAt_eq_of_covers 13 _ (by decide +kernel) fun t _ y => ?_
  blk_simp
  rw [after0_13]
  have e : ((cfg0.win 13).blk t).view.emb y = ix2 (y 0) (R t (y 1)) := by
    blk_ext [idx t]
  exact (congrArg _ (eq_ix2 (n0 := 8) (n1 := 256) y)).trans ((point_iw m c t (y 0) (y 1)).trans (congrArg _ e.symm))

end Cert.Kernel8Ideal.DsaPrep

end
-- ==== Proof.FlashStep.lean ====
module

public import proofs.«01_k».proof.Proof.AttIdeal.Runs
public import Idealize.ShloMosaic.Lib.Pipeline.ValueKit
public import Idealize.ShloMosaic.Lib.Pipeline.ReadBack
public import Idealize.ShloMosaic.Lib.VecWindow

@[expose] public section

/-! What one grid point of the attention kernel does to its running maximum, running sum and running accumulator,
    head by head, as plain functions of the block's scores and values. -/

set_option maxRecDepth 16384

noncomputable section

open Idealize.ShloMosaic Idealize.ShloMosaic.TcCoe Idealize.SL.Sem

namespace Cert.KernelIdeal.Flash

open Cert.KernelIdeal Cert.KernelIdeal.Gen Cert.KernelIdeal.Att

/-- The running maximum of one head after a block: payload of the block's scores `s` and the old maximum. -/
def mRow (s : FVec Ideal S512x512 .f32) (mo : Vec Ideal S1x1x512 .f32) : FVec Ideal S1x512 .f32 :=
  maximumf (shapeCast S1x512 mo shapeCasts_S1x1x512_S1x512)
    (shapeCast S1x512 (multiReduction .maximumf [0] S512 s 0xFF800000#32 reduces_S512x512_S512 (.inl rfl) rfl) shapeCasts_S512_S1x512)

/-- The factor that rescales the old sums. -/
def aRow (s : FVec Ideal S512x512 .f32) (mo : Vec Ideal S1x1x512 .f32) : FVec Ideal S1x512 .f32 :=
  exp2 (subf (shapeCast S1x512 mo shapeCasts_S1x1x512_S1x512) (mRow s mo))

/-- The values of one head with a block of ones below. -/
def vOnes0 (v : Vec Ideal S256x512 .bf16) : FVec Ideal S80x512 .bf16 :=
  concatenate S80x512 0 [⟨S64x512, extractStridedSlice S64x512 ![0, 0] v slices_S256x512_o0_0_S64x512⟩, ⟨S16x512, broadcast S16x512 (Scalar.ofBits (F := Ideal) .bf16 0x3F80#16)⟩] concatenates_S64x512_S16x512_S80x512_d0
def vOnes1 (v : Vec Ideal S256x512 .bf16) : FVec Ideal S80x512 .bf16 :=
  concatenate S80x512 0 [⟨S64x512, extractStridedSlice S64x512 ![64, 0] v slices_S256x512_o64_0_S64x512⟩, ⟨S16x512, broadcast S16x512 (Scalar.ofBits (F := Ideal) .bf16 0x3F80#16)⟩] concatenates_S64x512_S16x512_S80x512_d0
def vOnes2 (v : Vec Ideal S256x512 .bf16) : FVec Ideal S80x512 .bf16 :=
  concatenate S80x512 0 [⟨S64x512, extractStridedSlice S64x512 ![128, 0] v slices_S256x512_o128_0_S64x512⟩, ⟨S16x512, broadcast S16x512 (Scalar.ofBits (F := Ideal) .bf16 0x3F80#16)⟩] concatenates_S64x512_S16x512_S80x512_d0
def vOnes3 (v : Vec Ideal S256x512 .bf16) : FVec Ideal S80x512 .bf16 :=
  concatenate S80x512 0 [⟨S64x512, extractStridedSlice S64x512 ![192, 0] v slices_S256x512_o192_0_S64x512⟩, ⟨S16x512, broadcast S16x512 (Scalar.ofBits (F := Ideal) .bf16 0x3F80#16)⟩] concatenates_S64x512_S16x512_S80x512_d0

/-- Values and ones times the block's weights. -/
def pRow (u : FVec Ideal S80x512 .bf16) (s : FVec Ideal S512x512 .f32) (mo : Vec Ideal S1x1x512 .f32) : FVec Ideal S80x512 .f32 :=
  matmul dot_S80x512_S512x512_S80x512_1_0_0_1_n_n none u
    (truncf .bf16 (exp2 (subf s (broadcastTo S512x512 (mRow s mo) broadcasts_S1x512_S512x512))) bitsLt_bf16_f32) (constant S80x512 .f32 0x00000000#32)

/-- The three stores of one head. -/
def mPay (s : FVec Ideal S512x512 .f32) (mo : Vec Ideal S1x1x512 .f32) : FVec Ideal S1x1x512 .f32 :=
  shapeCast S1x1x512 (mRow s mo) shapeCasts_S1x512_S1x1x512
def lPay (u : FVec Ideal S80x512 .bf16) (s : FVec Ideal S512x512 .f32) (mo lo : Vec Ideal S1x1x512 .f32) : FVec Ideal S1x1x512 .f32 :=
  shapeCast S1x1x512 (addf (mulf (aRow s mo) (shapeCast S1x512 lo shapeCasts_S1x1x512_S1x512))
    (extractStridedSlice S1x512 ![64, 0] (pRow u s mo) slices_S80x512_o64_0_S1x512)) shapeCasts_S1x512_S1x1x512
def aPay (u : FVec Ideal S80x512 .bf16) (s : FVec Ideal S512x512 .f32) (mo : Vec Ideal S1x1x512 .f32) (ao : Vec Ideal S64x512 .f32) : FVec Ideal S64x512 .f32 :=
  shapeCast S64x512 (addf (mulf (broadcastTo S64x512 (aRow s mo) broadcasts_S1x512_S64x512) ao)
    (extractStridedSlice S64x512 ![0, 0] (pRow u s mo) slices_S80x512_o0_0_S64x512)) shapeCasts_S64x512_S64x512

/-- A block's scores (key row, query column) of one head, and the same with the later keys masked. -/
def sRow (k q : FVec Ideal S512x128 .bf16) : FVec Ideal S512x512 .f32 :=
  matmul dot_S512x128_S512x128_S512x512_1_1_0_0_n_n none k q (constant S512x512 .f32 0x00000000#32)
def sMask (k q : Vec Ideal S512x128 .bf16) : FVec Ideal S512x512 .f32 :=
  select (k0_pay40) (sRow k q) (broadcast S512x512 (Named.named (F := Ideal) κ "mask" 0xF149F2CA#32))

/-- The running maximum after a block with scores `s`, the old one `M`. -/
def nM (s : Fin 512 → EReal) (M : EReal) : EReal := max M (Finset.univ.sup s)
/-- The running sum after a block. -/
def nL (s : Fin 512 → EReal) (M L : EReal) : EReal := Ideal.exp2 (M - nM s M) * L + ∑ r, 1 * Ideal.exp2 (s r - nM s M)
/-- One entry of the running accumulator after a block with values `v`. -/
def nA (s v : Fin 512 → EReal) (M A : EReal) : EReal := Ideal.exp2 (M - nM s M) * A + ∑ r, v r * Ideal.exp2 (s r - nM s M)

theorem neg_inf : Ideal.ofBits FTy.f32 4286578688#32 = ⊥ := by
  simp [Ideal.ofBits, Ideal.ieee, -EReal.coe_mul]

theorem mask_bot : (Named.named (F := Ideal) (φ := .f32) κ "mask" 0xF149F2CA#32 : EReal) = ⊥ := by
  rfl

theorem mRow_at (s : FVec Ideal S512x512 .f32) (mo : Vec Ideal S1x1x512 .f32) (c : Fin 512) :
    mRow s mo (ix2 0 c) = nM (fun r => s (ix2 r c)) (mo (ix3 0 0 c)) := by
  pointwise [mRow, nM]
  rw [neg_inf]
  rfl

theorem sRow_at (k q : Vec Ideal S512x128 .bf16) (r c : Fin 512) :
    sRow k q (ix2 r c) = ∑ j : Fin 128, (k (ix2 r j) : EReal) * q (ix2 c j) := by
  pointwise [sRow]

theorem toInt_small (n : ℕ) (h : n < 512) : (BitVec.ofNat 32 n).toInt = (n : ℤ) := by
  rw [BitVec.toInt_eq_toNat_of_lt] <;> simp only [BitVec.toNat_ofNat] <;> omega

theorem sMask_at (k q : Vec Ideal S512x128 .bf16) (r c : Fin 512) :
    sMask k q (ix2 r c) = if r ≤ c then sRow k q (ix2 r c) else ⊥ := by
  pointwise [sMask, k0_pay40]
  rw [mask_bot]
  have hr := r.isLt
  have hc := c.isLt
  by_cases h : r ≤ c
  · have : IntOp.cmpi CmpIPredicate.sle (BitVec.ofNat 32 r.val) (BitVec.ofNat 32 c.val) = 1#1 := by
      have h' : (r.val : ℤ) ≤ (c.val : ℤ) := by exact_mod_cast h
      simp only [IntOp.cmpi, BitVec.sle_eq_decide, toInt_small _ hr, toInt_small _ hc, h', decide_true]
      rfl
    rw [this, if_pos h]; rfl
  · have : IntOp.cmpi CmpIPredicate.sle (BitVec.ofNat 32 r.val) (BitVec.ofNat 32 c.val) = 0#1 := by
      have h' : ¬ (r.val : ℤ) ≤ (c.val : ℤ) := by exact_mod_cast h
      simp only [IntOp.cmpi, BitVec.sle_eq_decide, toInt_small _ hr, toInt_small _ hc, h', decide_false]
      rfl
    rw [this, if_neg h]; rfl

theorem vOnes_at (v : Vec Ideal S256x512 .bf16) (d : Fin 64) (r : Fin 512) :
    vOnes0 v (ix2 ⟨d.val, by omega⟩ r) = v (ix2 ⟨d.val, by omega⟩ r) ∧ vOnes1 v (ix2 ⟨d.val, by omega⟩ r) = v (ix2 ⟨64 + d.val, by omega⟩ r)
    ∧ vOnes2 v (ix2 ⟨d.val, by omega⟩ r) = v (ix2 ⟨128 + d.val, by omega⟩ r) ∧ vOnes3 v (ix2 ⟨d.val, by omega⟩ r) = v (ix2 ⟨192 + d.val, by omega⟩ r) := by
  refine ⟨?_, ?_, ?_, ?_⟩
  · pointwise [vOnes0]
  · pointwise [vOnes1]
  · pointwise [vOnes2]
  · pointwise [vOnes3]

theorem vOnes_one (v : Vec Ideal S256x512 .bf16) (r : Fin 512) :
    (vOnes0 v (ix2 64 r) : EReal) = 1 ∧ (vOnes1 v (ix2 64 r) : EReal) = 1 ∧ (vOnes2 v (ix2 64 r) : EReal) = 1 ∧ (vOnes3 v (ix2 64 r) : EReal) = 1 := by
  refine ⟨?_, ?_, ?_, ?_⟩
  · pointwise [vOnes0]
  · pointwise [vOnes1]
  · pointwise [vOnes2]
  · pointwise [vOnes3]

theorem pRow_at (u : FVec Ideal S80x512 .bf16) (s : FVec Ideal S512x512 .f32) (mo : Vec Ideal S1x1x512 .f32) (d : Fin 80) (c : Fin 512) :
    pRow u s mo (ix2 d c) = ∑ r : Fin 512, (u (ix2 d r) : EReal) * Ideal.exp2 (s (ix2 r c) - nM (fun r => s (ix2 r c)) (mo (ix3 0 0 c))) := by
  rw [← mRow_at]
  pointwise [pRow]
  rfl

theorem mPay_at (s : FVec Ideal S512x512 .f32) (mo : Vec Ideal S1x1x512 .f32) (c : Fin 512) :
    mPay s mo (ix3 0 0 c) = nM (fun r => s (ix2 r c)) (mo (ix3 0 0 c)) := by
  rw [← mRow_at]
  pointwise [mPay]

theorem lPay_at (u : FVec Ideal S80x512 .bf16) (s : FVec Ideal S512x512 .f32) (mo lo : Vec Ideal S1x1x512 .f32) (c : Fin 512)
    (hu : ∀ r, (u (ix2 64 r) : EReal) = 1) :
    lPay u s mo lo (ix3 0 0 c) = nL (fun r => s (ix2 r c)) (mo (ix3 0 0 c)) (lo (ix3 0 0 c)) := by
  have h1 := mRow_at s mo c
  have h2 := pRow_at u s mo 64 c
  simp only [hu] at h2
  unfold nL
  rw [← h2, ← h1]
  pointwise [lPay, aRow]
  rfl

theorem aPay_at (u : FVec Ideal S80x512 .bf16) (s : FVec Ideal S512x512 .f32) (mo : Vec Ideal S1x1x512 .f32) (ao : Vec Ideal S64x512 .f32) (d : Fin 64) (c : Fin 512) :
    aPay u s mo ao (ix2 d c) = nA (fun r => s (ix2 r c)) (fun r => u (ix2 ⟨d.val, by omega⟩ r)) (mo (ix3 0 0 c)) (ao (ix2 d c)) := by
  have h1 := mRow_at s mo c
  have h2 := pRow_at u s mo ⟨d.val, by omega⟩ c
  unfold nA
  rw [← h2, ← h1]
  pointwise [aPay, aRow]
  rfl

end Cert.KernelIdeal.Flash
end
-- ==== Proof.FlashPaths.lean ====
module

public import proofs.«01_k».proof.Proof.FlashStep

@[expose] public section

/-! The attention kernel's four control paths, each read as the same step of the running maximum, sum and accumulator:
    from the reset values or from what the scratches held, with or without the mask. -/

set_option maxRecDepth 16384

noncomputable section

open Idealize.ShloMosaic Idealize.ShloMosaic.TcCoe Idealize.SL.Sem

namespace Cert.KernelIdeal.Flash

open Cert.KernelIdeal Cert.KernelIdeal.Gen Cert.KernelIdeal.Att

/-- Where head `h` lies: in the maxima and the sums, in the accumulator, in the queries and keys. -/
abbrev rM (h : Fin 4) : Rect S4x1x512 := Rect.unit ![h.val, 0, 0] S1x1x512.size (by revert h; decide)
abbrev rA (h : Fin 4) : Rect S256x512 := Rect.unit ![64 * h.val, 0] S64x512.size (by revert h; decide)
abbrev rK (h : Fin 4) : Rect S512x512 := Rect.unit ![0, 128 * h.val] S512x128.size (by revert h; decide)

abbrev M3 : Type := S1x1x512.Idx → EReal
abbrev A2 : Type := S64x512.Idx → EReal
abbrev KQ : Type := S512x512.Idx → EReal
abbrev VT : Type := S256x512.Idx → EReal

/-- The scores of a block, masked on the diagonal. -/
def sB : Bool → (k q : S512x128.Idx → EReal) → FVec Ideal S512x512 .f32
  | false, k, q => sRow k q
  | true, k, q => sMask k q

/-- One head's values with ones below. -/
def vO (v : VT) : Fin 4 → FVec Ideal S80x512 .bf16
  | 0 => vOnes0 v
  | 1 => vOnes1 v
  | 2 => vOnes2 v
  | 3 => vOnes3 v

/-- The head's part of the queries or keys. -/
def kq (x : KQ) (h : Fin 4) : S512x128.Idx → EReal := View.ld (Val := Elt Ideal) (e' := .bf16) x (rK h)

/-- The values' block, as the load of the whole of it. -/
def vl (x : VT) : VT := View.ld (Val := Elt Ideal) (e' := .bf16) x (Rect.unit ![0, 0] S256x512.size inb_S256x512_S256x512_0_0)

theorem vl_eq (x : VT) : vl x = x := View.ld_unit_lit (Val := Elt Ideal) (S := S256x512) (e := .bf16) inb_S256x512_S256x512_0_0 x (by decide)

/-- The stores of head `h`. -/
def mP (b : Bool) (k q : KQ) (Mo : Fin 4 → M3) (h : Fin 4) : M3 := mPay (sB b (kq k h) (kq q h)) (Mo h)
def lP (b : Bool) (k q : KQ) (v : VT) (Mo Lo : Fin 4 → M3) (h : Fin 4) : M3 := lPay (vO v h) (sB b (kq k h) (kq q h)) (Mo h) (Lo h)
def aP (b : Bool) (k q : KQ) (v : VT) (Mo : Fin 4 → M3) (Ao : Fin 4 → A2) (h : Fin 4) : A2 := aPay (vO v h) (sB b (kq k h) (kq q h)) (Mo h) (Ao h)

/-- The four heads' pieces, last first, over earlier ones. -/
def pM (P : Fin 4 → M3) (L : List (View.Piece (Elt Ideal) S4x1x512 .f32)) : List (View.Piece (Elt Ideal) S4x1x512 .f32) :=
  ⟨rM 3, P 3⟩ :: ⟨rM 2, P 2⟩ :: ⟨rM 1, P 1⟩ :: ⟨rM 0, P 0⟩ :: L
def pA (P : Fin 4 → A2) (L : List (View.Piece (Elt Ideal) S256x512 .f32)) : List (View.Piece (Elt Ideal) S256x512 .f32) :=
  ⟨rA 3, P 3⟩ :: ⟨rA 2, P 2⟩ :: ⟨rA 1, P 1⟩ :: ⟨rA 0, P 0⟩ :: L

theorem emb_M (h : Fin 4) (c : Fin 512) : (rM h).emb (ix3 0 0 c) = ix3 h 0 c := by
  funext a; apply Fin.ext
  fin_cases a <;> simp [ix3]

theorem emb_A (h : Fin 4) (d : Fin 64) (c : Fin 512) : (rA h).emb (ix2 d c) = ix2 ⟨64 * h.val + d.val, by omega⟩ c := by
  funext a; apply Fin.ext
  fin_cases a <;> simp [ix2]

theorem emb_K (h : Fin 4) (r : Fin 512) (j : Fin 128) : (rK h).emb (ix2 r j) = ix2 r ⟨128 * h.val + j.val, by omega⟩ := by
  funext a; apply Fin.ext
  fin_cases a <;> simp [ix2]

theorem not_mem_M {h h' : Fin 4} (hh : h ≠ h') (x : S1x1x512.Idx) : (rM h').emb x ∉ (rM h).set := by
  rw [Rect.mem_set_unit]
  intro H
  have h0 := H 0
  have hx : (x 0).val < 1 := (x 0).isLt
  simp at h0
  exact hh (Fin.ext (by omega))

theorem not_mem_A {h h' : Fin 4} (hh : h ≠ h') (x : S64x512.Idx) : (rA h').emb x ∉ (rA h).set := by
  rw [Rect.mem_set_unit]
  intro H
  have h0 := H 0
  have hx : (x 0).val < 64 := (x 0).isLt
  simp at h0
  exact hh (Fin.ext (by omega))

theorem canon_M (P : Fin 4 → M3) (L) (h : Fin 4) (x : S1x1x512.Idx) : View.canon (pM P L) ((rM h).emb x) = P h x :=
  match h with
  | 3 => View.canon_cons_emb (Val := Elt Ideal) (e := .f32) (rM 3) (P 3) _ x
  | 2 => (View.canon_cons_of_not_mem (Val := Elt Ideal) (e := .f32) ⟨rM 3, P 3⟩ _ (not_mem_M (h := 3) (h' := 2) (by decide) x)).trans (View.canon_cons_emb (Val := Elt Ideal) (e := .f32) (rM 2) (P 2) _ x)
  | 1 => (View.canon_cons_of_not_mem (Val := Elt Ideal) (e := .f32) ⟨rM 3, P 3⟩ _ (not_mem_M (h := 3) (h' := 1) (by decide) x)).trans
      ((View.canon_cons_of_not_mem (Val := Elt Ideal) (e := .f32) ⟨rM 2, P 2⟩ _ (not_mem_M (h := 2) (h' := 1) (by decide) x)).trans (View.canon_cons_emb (Val := Elt Ideal) (e := .f32) (rM 1) (P 1) _ x))
  | 0 => (View.canon_cons_of_not_mem (Val := Elt Ideal) (e := .f32) ⟨rM 3, P 3⟩ _ (not_mem_M (h := 3) (h' := 0) (by decide) x)).trans
      ((View.canon_cons_of_not_mem (Val := Elt Ideal) (e := .f32) ⟨rM 2, P 2⟩ _ (not_mem_M (h := 2) (h' := 0) (by decide) x)).trans
      ((View.canon_cons_of_not_mem (Val := Elt Ideal) (e := .f32) ⟨rM 1, P 1⟩ _ (not_mem_M (h := 1) (h' := 0) (by decide) x)).trans (View.canon_cons_emb (Val := Elt Ideal) (e := .f32) (rM 0) (P 0) _ x)))

theorem canon_A (P : Fin 4 → A2) (L) (h : Fin 4) (x : S64x512.Idx) : View.canon (pA P L) ((rA h).emb x) = P h x :=
  match h with
  | 3 => View.canon_cons_emb (Val := Elt Ideal) (e := .f32) (rA 3) (P 3) _ x
  | 2 => (View.canon_cons_of_not_mem (Val := Elt Ideal) (e := .f32) ⟨rA 3, P 3⟩ _ (not_mem_A (h := 3) (h' := 2) (by decide) x)).trans (View.canon_cons_emb (Val := Elt Ideal) (e := .f32) (rA 2) (P 2) _ x)
  | 1 => (View.canon_cons_of_not_mem (Val := Elt Ideal) (e := .f32) ⟨rA 3, P 3⟩ _ (not_mem_A (h := 3) (h' := 1) (by decide) x)).trans
      ((View.canon_cons_of_not_mem (Val := Elt Ideal) (e := .f32) ⟨rA 2, P 2⟩ _ (not_mem_A (h := 2) (h' := 1) (by decide) x)).trans (View.canon_cons_emb (Val := Elt Ideal) (e := .f32) (rA 1) (P 1) _ x))
  | 0 => (View.canon_cons_of_not_mem (Val := Elt Ideal) (e := .f32) ⟨rA 3, P 3⟩ _ (not_mem_A (h := 3) (h' := 0) (by decide) x)).trans
      ((View.canon_cons_of_not_mem (Val := Elt Ideal) (e := .f32) ⟨rA 2, P 2⟩ _ (not_mem_A (h := 2) (h' := 0) (by decide) x)).trans
      ((View.canon_cons_of_not_mem (Val := Elt Ideal) (e := .f32) ⟨rA 1, P 1⟩ _ (not_mem_A (h := 1) (h' := 0) (by decide) x)).trans (View.canon_cons_emb (Val := Elt Ideal) (e := .f32) (rA 0) (P 0) _ x)))

theorem readCov_M (P : Fin 4 → M3) (L) (h : Fin 4) : scM0_1.view.readCov (pM P L) (rM h).toLoadRect = P h := by
  rw [View.readCov_eq_canon']
  funext x
  exact canon_M P L h x

theorem readCov_A (P : Fin 4 → A2) (L) (h : Fin 4) : scM0_2.view.readCov (pA P L) (rA h).toLoadRect = P h := by
  rw [View.readCov_eq_canon']
  funext x
  exact canon_A P L h x

/-- The output block from the sums and the accumulator. -/
def oV (Lf : Fin 4 → M3) (Af : Fin 4 → A2) : FVec Ideal S512x256 .bf16 :=
  k0_pay6 (F := Ideal)
    (divf (φ := .f32) (Af 0) (broadcastTo S64x512 (shapeCast (α := EReal) S1x512 (Lf 0) shapeCasts_S1x1x512_S1x512) broadcasts_S1x512_S64x512))
    (divf (φ := .f32) (Af 1) (broadcastTo S64x512 (shapeCast (α := EReal) S1x512 (Lf 1) shapeCasts_S1x1x512_S1x512) broadcasts_S1x512_S64x512))
    (divf (φ := .f32) (Af 2) (broadcastTo S64x512 (shapeCast (α := EReal) S1x512 (Lf 2) shapeCasts_S1x1x512_S1x512) broadcasts_S1x512_S64x512))
    (Af 3) (Lf 3)

variable (c : Dev nD) (arg4 arg5 : Memref sig .tc .vmem S512x512 .bf16) (arg6 : Memref sig .tc .vmem S256x512 .bf16)
variable (x0 x1 : S512x512.Idx → Elt Ideal .bf16) (x2 : S256x512.Idx → Elt Ideal .bf16)
variable (xa0 : Buf (Elt Ideal) ((c : Thread nD τ).loc cc0_scratch0)) (xa1 : Buf (Elt Ideal) ((c : Thread nD τ).loc cc0_scratch1))
variable (xa2 : Buf (Elt Ideal) ((c : Thread nD τ).loc cc0_scratch2))

/-- What the scratches held before, head by head. -/
def oM (h : Fin 4) : M3 := View.ld (Val := Elt Ideal) (e' := .f32) (scM0_0.view.read (Elt Ideal) xa0) (rM h)
def oL (h : Fin 4) : M3 := View.ld (Val := Elt Ideal) (e' := .f32) (scM0_1.view.read (Elt Ideal) xa1) (rM h)
def oA (h : Fin 4) : A2 := View.ld (Val := Elt Ideal) (e' := .f32) (scM0_2.view.read (Elt Ideal) xa2) (rA h)
/-- The reset values, head by head. -/
def iM (h : Fin 4) : M3 := View.ld (Val := Elt Ideal) (e' := .f32) (k0_pay1 (F := Ideal)) (rM h)
def iL (h : Fin 4) : M3 := View.ld (Val := Elt Ideal) (e' := .f32) (k0_pay2 (F := Ideal)) (rM h)
def iA (h : Fin 4) : A2 := View.ld (Val := Elt Ideal) (e' := .f32) (k0_pay3 (F := Ideal)) (rA h)

theorem read4 (a : Memref sig .tc .vmem S512x512 .bf16) (x : S512x512.Idx → Elt Ideal .bf16) : a.view.read (Elt Ideal) (a.view.rep x) = x := View.read_rep _ _
theorem read6 (a : Memref sig .tc .vmem S256x512 .bf16) (x : S256x512.Idx → Elt Ideal .bf16) : a.view.read (Elt Ideal) (a.view.rep x) = x := View.read_rep _ _

theorem A_M0 : (kernelRun0_A.sl.v32  : M3) = iM 0 := by
  unfold kernelRun0_A.sl.v32 kernelRun0_A.sl.HS0_1
  simp (disch := decide) only [↓ View.readCov_skip, ↓ View.readCov_fill]
  rfl

theorem A_M1 : (kernelRun0_A.sl.v67 arg4 arg5 x0 x1 : M3) = iM 1 := by
  unfold kernelRun0_A.sl.v67 kernelRun0_A.sl.HS0_2 kernelRun0_A.sl.HS0_1
  simp (disch := decide) only [↓ View.readCov_skip, ↓ View.readCov_fill]
  rfl

theorem A_M2 : (kernelRun0_A.sl.v102 arg4 arg5 x0 x1 : M3) = iM 2 := by
  unfold kernelRun0_A.sl.v102 kernelRun0_A.sl.HS0_3 kernelRun0_A.sl.HS0_2 kernelRun0_A.sl.HS0_1
  simp (disch := decide) only [↓ View.readCov_skip, ↓ View.readCov_fill]
  rfl

theorem A_M3 : (kernelRun0_A.sl.v137 arg4 arg5 x0 x1 : M3) = iM 3 := by
  unfold kernelRun0_A.sl.v137 kernelRun0_A.sl.HS0_4 kernelRun0_A.sl.HS0_3 kernelRun0_A.sl.HS0_2 kernelRun0_A.sl.HS0_1
  simp (disch := decide) only [↓ View.readCov_skip, ↓ View.readCov_fill]
  rfl

theorem A_M : (fun h : Fin 4 => match h with | 0 => kernelRun0_A.sl.v32  | 1 => kernelRun0_A.sl.v67 arg4 arg5 x0 x1 | 2 => kernelRun0_A.sl.v102 arg4 arg5 x0 x1 | 3 => kernelRun0_A.sl.v137 arg4 arg5 x0 x1 : Fin 4 → M3) = iM := by
  funext h
  fin_cases h
  · exact A_M0
  · exact A_M1 arg4 arg5 x0 x1
  · exact A_M2 arg4 arg5 x0 x1
  · exact A_M3 arg4 arg5 x0 x1

theorem A_L0 : (kernelRun0_A.sl.v46  : M3) = iL 0 := by
  unfold kernelRun0_A.sl.v46 kernelRun0_A.sl.HS1_1
  simp (disch := decide) only [↓ View.readCov_skip, ↓ View.readCov_fill]
  rfl

theorem A_L1 : (kernelRun0_A.sl.v81 arg4 arg5 arg6 x0 x1 x2 : M3) = iL 1 := by
  unfold kernelRun0_A.sl.v81 kernelRun0_A.sl.HS1_2 kernelRun0_A.sl.HS1_1
  simp (disch := decide) only [↓ View.readCov_skip, ↓ View.readCov_fill]
  rfl

theorem A_L2 : (kernelRun0_A.sl.v116 arg4 arg5 arg6 x0 x1 x2 : M3) = iL 2 := by
  unfold kernelRun0_A.sl.v116 kernelRun0_A.sl.HS1_3 kernelRun0_A.sl.HS1_2 kernelRun0_A.sl.HS1_1
  simp (disch := decide) only [↓ View.readCov_skip, ↓ View.readCov_fill]
  rfl

theorem A_L3 : (kernelRun0_A.sl.v151 arg4 arg5 arg6 x0 x1 x2 : M3) = iL 3 := by
  unfold kernelRun0_A.sl.v151 kernelRun0_A.sl.HS1_4 kernelRun0_A.sl.HS1_3 kernelRun0_A.sl.HS1_2 kernelRun0_A.sl.HS1_1
  simp (disch := decide) only [↓ View.readCov_skip, ↓ View.readCov_fill]
  rfl

theorem A_L : (fun h : Fin 4 => match h with | 0 => kernelRun0_A.sl.v46  | 1 => kernelRun0_A.sl.v81 arg4 arg5 arg6 x0 x1 x2 | 2 => kernelRun0_A.sl.v116 arg4 arg5 arg6 x0 x1 x2 | 3 => kernelRun0_A.sl.v151 arg4 arg5 arg6 x0 x1 x2 : Fin 4 → M3) = iL := by
  funext h
  fin_cases h
  · exact A_L0
  · exact A_L1 arg4 arg5 arg6 x0 x1 x2
  · exact A_L2 arg4 arg5 arg6 x0 x1 x2
  · exact A_L3 arg4 arg5 arg6 x0 x1 x2

theorem A_A0 : (kernelRun0_A.sl.v54  : A2) = iA 0 := by
  unfold kernelRun0_A.sl.v54 kernelRun0_A.sl.HS2_1
  simp (disch := decide) only [↓ View.readCov_skip, ↓ View.readCov_fill]
  rfl

theorem A_A1 : (kernelRun0_A.sl.v89 arg4 arg5 arg6 x0 x1 x2 : A2) = iA 1 := by
  unfold kernelRun0_A.sl.v89 kernelRun0_A.sl.HS2_2 kernelRun0_A.sl.HS2_1
  simp (disch := decide) only [↓ View.readCov_skip, ↓ View.readCov_fill]
  rfl

theorem A_A2 : (kernelRun0_A.sl.v124 arg4 arg5 arg6 x0 x1 x2 : A2) = iA 2 := by
  unfold kernelRun0_A.sl.v124 kernelRun0_A.sl.HS2_3 kernelRun0_A.sl.HS2_2 kernelRun0_A.sl.HS2_1
  simp (disch := decide) only [↓ View.readCov_skip, ↓ View.readCov_fill]
  rfl

theorem A_A3 : (kernelRun0_A.sl.v159 arg4 arg5 arg6 x0 x1 x2 : A2) = iA 3 := by
  unfold kernelRun0_A.sl.v159 kernelRun0_A.sl.HS2_4 kernelRun0_A.sl.HS2_3 kernelRun0_A.sl.HS2_2 kernelRun0_A.sl.HS2_1
  simp (disch := decide) only [↓ View.readCov_skip, ↓ View.readCov_fill]
  rfl

theorem A_A : (fun h : Fin 4 => match h with | 0 => kernelRun0_A.sl.v54  | 1 => kernelRun0_A.sl.v89 arg4 arg5 arg6 x0 x1 x2 | 2 => kernelRun0_A.sl.v124 arg4 arg5 arg6 x0 x1 x2 | 3 => kernelRun0_A.sl.v159 arg4 arg5 arg6 x0 x1 x2 : Fin 4 → A2) = iA := by
  funext h
  fin_cases h
  · exact A_A0
  · exact A_A1 arg4 arg5 arg6 x0 x1 x2
  · exact A_A2 arg4 arg5 arg6 x0 x1 x2
  · exact A_A3 arg4 arg5 arg6 x0 x1 x2

theorem A_HS0 : kernelRun0_A.sl.HS0_5 arg4 arg5 x0 x1 = pM (mP true x1 x0 iM) kernelRun0_A.sl.HS0_1 := by
  have e : kernelRun0_A.sl.HS0_5 arg4 arg5 x0 x1 = pM (mP true (arg5.view.read (Elt Ideal) (arg5.view.rep x1)) (arg4.view.read (Elt Ideal) (arg4.view.rep x0)) (fun h : Fin 4 => match h with | 0 => kernelRun0_A.sl.v32  | 1 => kernelRun0_A.sl.v67 arg4 arg5 x0 x1 | 2 => kernelRun0_A.sl.v102 arg4 arg5 x0 x1 | 3 => kernelRun0_A.sl.v137 arg4 arg5 x0 x1 : Fin 4 → M3)) kernelRun0_A.sl.HS0_1 := rfl
  rw [e]; rw [read4 arg5 x1, read4 arg4 x0]; rw [A_M]

theorem A_HS1 : kernelRun0_A.sl.HS1_5 arg4 arg5 arg6 x0 x1 x2 = pM (lP true x1 x0 x2 iM iL) kernelRun0_A.sl.HS1_1 := by
  have e : kernelRun0_A.sl.HS1_5 arg4 arg5 arg6 x0 x1 x2 = pM (lP true (arg5.view.read (Elt Ideal) (arg5.view.rep x1)) (arg4.view.read (Elt Ideal) (arg4.view.rep x0)) (vl (arg6.view.read (Elt Ideal) (arg6.view.rep x2))) (fun h : Fin 4 => match h with | 0 => kernelRun0_A.sl.v32  | 1 => kernelRun0_A.sl.v67 arg4 arg5 x0 x1 | 2 => kernelRun0_A.sl.v102 arg4 arg5 x0 x1 | 3 => kernelRun0_A.sl.v137 arg4 arg5 x0 x1 : Fin 4 → M3) (fun h : Fin 4 => match h with | 0 => kernelRun0_A.sl.v46  | 1 => kernelRun0_A.sl.v81 arg4 arg5 arg6 x0 x1 x2 | 2 => kernelRun0_A.sl.v116 arg4 arg5 arg6 x0 x1 x2 | 3 => kernelRun0_A.sl.v151 arg4 arg5 arg6 x0 x1 x2 : Fin 4 → M3)) kernelRun0_A.sl.HS1_1 := rfl
  rw [e]; rw [read4 arg5 x1, read4 arg4 x0, read6 arg6 x2, vl_eq]; rw [A_M, A_L]

theorem A_HS2 : kernelRun0_A.sl.HS2_5 arg4 arg5 arg6 x0 x1 x2 = pA (aP true x1 x0 x2 iM iA) kernelRun0_A.sl.HS2_1 := by
  have e : kernelRun0_A.sl.HS2_5 arg4 arg5 arg6 x0 x1 x2 = pA (aP true (arg5.view.read (Elt Ideal) (arg5.view.rep x1)) (arg4.view.read (Elt Ideal) (arg4.view.rep x0)) (vl (arg6.view.read (Elt Ideal) (arg6.view.rep x2))) (fun h : Fin 4 => match h with | 0 => kernelRun0_A.sl.v32  | 1 => kernelRun0_A.sl.v67 arg4 arg5 x0 x1 | 2 => kernelRun0_A.sl.v102 arg4 arg5 x0 x1 | 3 => kernelRun0_A.sl.v137 arg4 arg5 x0 x1 : Fin 4 → M3) (fun h : Fin 4 => match h with | 0 => kernelRun0_A.sl.v54  | 1 => kernelRun0_A.sl.v89 arg4 arg5 arg6 x0 x1 x2 | 2 => kernelRun0_A.sl.v124 arg4 arg5 arg6 x0 x1 x2 | 3 => kernelRun0_A.sl.v159 arg4 arg5 arg6 x0 x1 x2 : Fin 4 → A2)) kernelRun0_A.sl.HS2_1 := rfl
  rw [e]; rw [read4 arg5 x1, read4 arg4 x0, read6 arg6 x2, vl_eq]; rw [A_M, A_A]

theorem A_HO : kernelRun0_A.sl.HO3_1 arg4 arg5 arg6 x0 x1 x2 = [⟨Rect.unit ![0, 0] S512x256.size inb_S512x256_S512x256_0_0, oV (lP true x1 x0 x2 iM iL) (aP true x1 x0 x2 iM iA)⟩] := by
  have e : kernelRun0_A.sl.HO3_1 arg4 arg5 arg6 x0 x1 x2 = [⟨Rect.unit ![0, 0] S512x256.size inb_S512x256_S512x256_0_0,
      oV (fun h => scM0_1.view.readCov (kernelRun0_A.sl.HS1_5 arg4 arg5 arg6 x0 x1 x2) (rM h).toLoadRect) (fun h => scM0_2.view.readCov (kernelRun0_A.sl.HS2_5 arg4 arg5 arg6 x0 x1 x2) (rA h).toLoadRect)⟩] := rfl
  rw [e, A_HS1, A_HS2]
  have e1 : (fun h => scM0_1.view.readCov (pM (lP true x1 x0 x2 iM iL) kernelRun0_A.sl.HS1_1) (rM h).toLoadRect) = lP true x1 x0 x2 iM iL := funext fun h => readCov_M _ _ h
  have e2 : (fun h => scM0_2.view.readCov (pA (aP true x1 x0 x2 iM iA) kernelRun0_A.sl.HS2_1) (rA h).toLoadRect) = aP true x1 x0 x2 iM iA := funext fun h => readCov_A _ _ h
  rw [e1, e2]

theorem B_M0 : (kernelRun0_B.sl.v27  : M3) = iM 0 := by
  unfold kernelRun0_B.sl.v27 kernelRun0_B.sl.HS0_1
  simp (disch := decide) only [↓ View.readCov_skip, ↓ View.readCov_fill]
  rfl

theorem B_M1 : (kernelRun0_B.sl.v60 arg4 arg5 x0 x1 : M3) = iM 1 := by
  unfold kernelRun0_B.sl.v60 kernelRun0_B.sl.HS0_2 kernelRun0_B.sl.HS0_1
  simp (disch := decide) only [↓ View.readCov_skip, ↓ View.readCov_fill]
  rfl

theorem B_M2 : (kernelRun0_B.sl.v93 arg4 arg5 x0 x1 : M3) = iM 2 := by
  unfold kernelRun0_B.sl.v93 kernelRun0_B.sl.HS0_3 kernelRun0_B.sl.HS0_2 kernelRun0_B.sl.HS0_1
  simp (disch := decide) only [↓ View.readCov_skip, ↓ View.readCov_fill]
  rfl

theorem B_M3 : (kernelRun0_B.sl.v126 arg4 arg5 x0 x1 : M3) = iM 3 := by
  unfold kernelRun0_B.sl.v126 kernelRun0_B.sl.HS0_4 kernelRun0_B.sl.HS0_3 kernelRun0_B.sl.HS0_2 kernelRun0_B.sl.HS0_1
  simp (disch := decide) only [↓ View.readCov_skip, ↓ View.readCov_fill]
  rfl

theorem B_M : (fun h : Fin 4 => match h with | 0 => kernelRun0_B.sl.v27  | 1 => kernelRun0_B.sl.v60 arg4 arg5 x0 x1 | 2 => kernelRun0_B.sl.v93 arg4 arg5 x0 x1 | 3 => kernelRun0_B.sl.v126 arg4 arg5 x0 x1 : Fin 4 → M3) = iM := by
  funext h
  fin_cases h
  · exact B_M0
  · exact B_M1 arg4 arg5 x0 x1
  · exact B_M2 arg4 arg5 x0 x1
  · exact B_M3 arg4 arg5 x0 x1

theorem B_L0 : (kernelRun0_B.sl.v41  : M3) = iL 0 := by
  unfold kernelRun0_B.sl.v41 kernelRun0_B.sl.HS1_1
  simp (disch := decide) only [↓ View.readCov_skip, ↓ View.readCov_fill]
  rfl

theorem B_L1 : (kernelRun0_B.sl.v74 arg4 arg5 arg6 x0 x1 x2 : M3) = iL 1 := by
  unfold kernelRun0_B.sl.v74 kernelRun0_B.sl.HS1_2 kernelRun0_B.sl.HS1_1
  simp (disch := decide) only [↓ View.readCov_skip, ↓ View.readCov_fill]
  rfl

theorem B_L2 : (kernelRun0_B.sl.v107 arg4 arg5 arg6 x0 x1 x2 : M3) = iL 2 := by
  unfold kernelRun0_B.sl.v107 kernelRun0_B.sl.HS1_3 kernelRun0_B.sl.HS1_2 kernelRun0_B.sl.HS1_1
  simp (disch := decide) only [↓ View.readCov_skip, ↓ View.readCov_fill]
  rfl

theorem B_L3 : (kernelRun0_B.sl.v140 arg4 arg5 arg6 x0 x1 x2 : M3) = iL 3 := by
  unfold kernelRun0_B.sl.v140 kernelRun0_B.sl.HS1_4 kernelRun0_B.sl.HS1_3 kernelRun0_B.sl.HS1_2 kernelRun0_B.sl.HS1_1
  simp (disch := decide) only [↓ View.readCov_skip, ↓ View.readCov_fill]
  rfl

theorem B_L : (fun h : Fin 4 => match h with | 0 => kernelRun0_B.sl.v41  | 1 => kernelRun0_B.sl.v74 arg4 arg5 arg6 x0 x1 x2 | 2 => kernelRun0_B.sl.v107 arg4 arg5 arg6 x0 x1 x2 | 3 => kernelRun0_B.sl.v140 arg4 arg5 arg6 x0 x1 x2 : Fin 4 → M3) = iL := by
  funext h
  fin_cases h
  · exact B_L0
  · exact B_L1 arg4 arg5 arg6 x0 x1 x2
  · exact B_L2 arg4 arg5 arg6 x0 x1 x2
  · exact B_L3 arg4 arg5 arg6 x0 x1 x2

theorem B_A0 : (kernelRun0_B.sl.v49  : A2) = iA 0 := by
  unfold kernelRun0_B.sl.v49 kernelRun0_B.sl.HS2_1
  simp (disch := decide) only [↓ View.readCov_skip, ↓ View.readCov_fill]
  rfl

theorem B_A1 : (kernelRun0_B.sl.v82 arg4 arg5 arg6 x0 x1 x2 : A2) = iA 1 := by
  unfold kernelRun0_B.sl.v82 kernelRun0_B.sl.HS2_2 kernelRun0_B.sl.HS2_1
  simp (disch := decide) only [↓ View.readCov_skip, ↓ View.readCov_fill]
  rfl

theorem B_A2 : (kernelRun0_B.sl.v115 arg4 arg5 arg6 x0 x1 x2 : A2) = iA 2 := by
  unfold kernelRun0_B.sl.v115 kernelRun0_B.sl.HS2_3 kernelRun0_B.sl.HS2_2 kernelRun0_B.sl.HS2_1
  simp (disch := decide) only [↓ View.readCov_skip, ↓ View.readCov_fill]
  rfl

theorem B_A3 : (kernelRun0_B.sl.v148 arg4 arg5 arg6 x0 x1 x2 : A2) = iA 3 := by
  unfold kernelRun0_B.sl.v148 kernelRun0_B.sl.HS2_4 kernelRun0_B.sl.HS2_3 kernelRun0_B.sl.HS2_2 kernelRun0_B.sl.HS2_1
  simp (disch := decide) only [↓ View.readCov_skip, ↓ View.readCov_fill]
  rfl

theorem B_A : (fun h : Fin 4 => match h with | 0 => kernelRun0_B.sl.v49  | 1 => kernelRun0_B.sl.v82 arg4 arg5 arg6 x0 x1 x2 | 2 => kernelRun0_B.sl.v115 arg4 arg5 arg6 x0 x1 x2 | 3 => kernelRun0_B.sl.v148 arg4 arg5 arg6 x0 x1 x2 : Fin 4 → A2) = iA := by
  funext h
  fin_cases h
  · exact B_A0
  · exact B_A1 arg4 arg5 arg6 x0 x1 x2
  · exact B_A2 arg4 arg5 arg6 x0 x1 x2
  · exact B_A3 arg4 arg5 arg6 x0 x1 x2

theorem B_HS0 : kernelRun0_B.sl.HS0_5 arg4 arg5 x0 x1 = pM (mP false x1 x0 iM) kernelRun0_B.sl.HS0_1 := by
  have e : kernelRun0_B.sl.HS0_5 arg4 arg5 x0 x1 = pM (mP false (arg5.view.read (Elt Ideal) (arg5.view.rep x1)) (arg4.view.read (Elt Ideal) (arg4.view.rep x0)) (fun h : Fin 4 => match h with | 0 => kernelRun0_B.sl.v27  | 1 => kernelRun0_B.sl.v60 arg4 arg5 x0 x1 | 2 => kernelRun0_B.sl.v93 arg4 arg5 x0 x1 | 3 => kernelRun0_B.sl.v126 arg4 arg5 x0 x1 : Fin 4 → M3)) kernelRun0_B.sl.HS0_1 := rfl
  rw [e]; rw [read4 arg5 x1, read4 arg4 x0]; rw [B_M]

theorem B_HS1 : kernelRun0_B.sl.HS1_5 arg4 arg5 arg6 x0 x1 x2 = pM (lP false x1 x0 x2 iM iL) kernelRun0_B.sl.HS1_1 := by
  have e : kernelRun0_B.sl.HS1_5 arg4 arg5 arg6 x0 x1 x2 = pM (lP false (arg5.view.read (Elt Ideal) (arg5.view.rep x1)) (arg4.view.read (Elt Ideal) (arg4.view.rep x0)) (vl (arg6.view.read (Elt Ideal) (arg6.view.rep x2))) (fun h : Fin 4 => match h with | 0 => kernelRun0_B.sl.v27  | 1 => kernelRun0_B.sl.v60 arg4 arg5 x0 x1 | 2 => kernelRun0_B.sl.v93 arg4 arg5 x0 x1 | 3 => kernelRun0_B.sl.v126 arg4 arg5 x0 x1 : Fin 4 → M3) (fun h : Fin 4 => match h with | 0 => kernelRun0_B.sl.v41  | 1 => kernelRun0_B.sl.v74 arg4 arg5 arg6 x0 x1 x2 | 2 => kernelRun0_B.sl.v107 arg4 arg5 arg6 x0 x1 x2 | 3 => kernelRun0_B.sl.v140 arg4 arg5 arg6 x0 x1 x2 : Fin 4 → M3)) kernelRun0_B.sl.HS1_1 := rfl
  rw [e]; rw [read4 arg5 x1, read4 arg4 x0, read6 arg6 x2, vl_eq]; rw [B_M, B_L]

theorem B_HS2 : kernelRun0_B.sl.HS2_5 arg4 arg5 arg6 x0 x1 x2 = pA (aP false x1 x0 x2 iM iA) kernelRun0_B.sl.HS2_1 := by
  have e : kernelRun0_B.sl.HS2_5 arg4 arg5 arg6 x0 x1 x2 = pA (aP false (arg5.view.read (Elt Ideal) (arg5.view.rep x1)) (arg4.view.read (Elt Ideal) (arg4.view.rep x0)) (vl (arg6.view.read (Elt Ideal) (arg6.view.rep x2))) (fun h : Fin 4 => match h with | 0 => kernelRun0_B.sl.v27  | 1 => kernelRun0_B.sl.v60 arg4 arg5 x0 x1 | 2 => kernelRun0_B.sl.v93 arg4 arg5 x0 x1 | 3 => kernelRun0_B.sl.v126 arg4 arg5 x0 x1 : Fin 4 → M3) (fun h : Fin 4 => match h with | 0 => kernelRun0_B.sl.v49  | 1 => kernelRun0_B.sl.v82 arg4 arg5 arg6 x0 x1 x2 | 2 => kernelRun0_B.sl.v115 arg4 arg5 arg6 x0 x1 x2 | 3 => kernelRun0_B.sl.v148 arg4 arg5 arg6 x0 x1 x2 : Fin 4 → A2)) kernelRun0_B.sl.HS2_1 := rfl
  rw [e]; rw [read4 arg5 x1, read4 arg4 x0, read6 arg6 x2, vl_eq]; rw [B_M, B_A]

theorem C_HS0 : kernelRun0_C.sl.HS0_4 c arg4 arg5 x0 x1 xa0 = pM (mP true x1 x0 (oM c xa0)) [] := by
  have e : kernelRun0_C.sl.HS0_4 c arg4 arg5 x0 x1 xa0 = pM (mP true (arg5.view.read (Elt Ideal) (arg5.view.rep x1)) (arg4.view.read (Elt Ideal) (arg4.view.rep x0)) (oM c xa0)) [] := rfl
  rw [e]; rw [read4 arg5 x1, read4 arg4 x0]

theorem C_HS1 : kernelRun0_C.sl.HS1_4 c arg4 arg5 arg6 x0 x1 x2 xa0 xa1 = pM (lP true x1 x0 x2 (oM c xa0) (oL c xa1)) [] := by
  have e : kernelRun0_C.sl.HS1_4 c arg4 arg5 arg6 x0 x1 x2 xa0 xa1 = pM (lP true (arg5.view.read (Elt Ideal) (arg5.view.rep x1)) (arg4.view.read (Elt Ideal) (arg4.view.rep x0)) (vl (arg6.view.read (Elt Ideal) (arg6.view.rep x2))) (oM c xa0) (oL c xa1)) [] := rfl
  rw [e]; rw [read4 arg5 x1, read4 arg4 x0, read6 arg6 x2, vl_eq]

theorem C_HS2 : kernelRun0_C.sl.HS2_4 c arg4 arg5 arg6 x0 x1 x2 xa0 xa2 = pA (aP true x1 x0 x2 (oM c xa0) (oA c xa2)) [] := by
  have e : kernelRun0_C.sl.HS2_4 c arg4 arg5 arg6 x0 x1 x2 xa0 xa2 = pA (aP true (arg5.view.read (Elt Ideal) (arg5.view.rep x1)) (arg4.view.read (Elt Ideal) (arg4.view.rep x0)) (vl (arg6.view.read (Elt Ideal) (arg6.view.rep x2))) (oM c xa0) (oA c xa2)) [] := rfl
  rw [e]; rw [read4 arg5 x1, read4 arg4 x0, read6 arg6 x2, vl_eq]

theorem C_HO : kernelRun0_C.sl.HO3_1 c arg4 arg5 arg6 x0 x1 x2 xa0 xa1 xa2 = [⟨Rect.unit ![0, 0] S512x256.size inb_S512x256_S512x256_0_0, oV (lP true x1 x0 x2 (oM c xa0) (oL c xa1)) (aP true x1 x0 x2 (oM c xa0) (oA c xa2))⟩] := by
  have e : kernelRun0_C.sl.HO3_1 c arg4 arg5 arg6 x0 x1 x2 xa0 xa1 xa2 = [⟨Rect.unit ![0, 0] S512x256.size inb_S512x256_S512x256_0_0,
      oV (fun h => scM0_1.view.readCov (kernelRun0_C.sl.HS1_4 c arg4 arg5 arg6 x0 x1 x2 xa0 xa1) (rM h).toLoadRect) (fun h => scM0_2.view.readCov (kernelRun0_C.sl.HS2_4 c arg4 arg5 arg6 x0 x1 x2 xa0 xa2) (rA h).toLoadRect)⟩] := rfl
  rw [e, C_HS1, C_HS2]
  have e1 : (fun h => scM0_1.view.readCov (pM (lP true x1 x0 x2 (oM c xa0) (oL c xa1)) []) (rM h).toLoadRect) = lP true x1 x0 x2 (oM c xa0) (oL c xa1) := funext fun h => readCov_M _ _ h
  have e2 : (fun h => scM0_2.view.readCov (pA (aP true x1 x0 x2 (oM c xa0) (oA c xa2)) []) (rA h).toLoadRect) = aP true x1 x0 x2 (oM c xa0) (oA c xa2) := funext fun h => readCov_A _ _ h
  rw [e1, e2]

theorem D_HS0 : kernelRun0_D.sl.HS0_4 c arg4 arg5 x0 x1 xa0 = pM (mP false x1 x0 (oM c xa0)) [] := by
  have e : kernelRun0_D.sl.HS0_4 c arg4 arg5 x0 x1 xa0 = pM (mP false (arg5.view.read (Elt Ideal) (arg5.view.rep x1)) (arg4.view.read (Elt Ideal) (arg4.view.rep x0)) (oM c xa0)) [] := rfl
  rw [e]; rw [read4 arg5 x1, read4 arg4 x0]

theorem D_HS1 : kernelRun0_D.sl.HS1_4 c arg4 arg5 arg6 x0 x1 x2 xa0 xa1 = pM (lP false x1 x0 x2 (oM c xa0) (oL c xa1)) [] := by
  have e : kernelRun0_D.sl.HS1_4 c arg4 arg5 arg6 x0 x1 x2 xa0 xa1 = pM (lP false (arg5.view.read (Elt Ideal) (arg5.view.rep x1)) (arg4.view.read (Elt Ideal) (arg4.view.rep x0)) (vl (arg6.view.read (Elt Ideal) (arg6.view.rep x2))) (oM c xa0) (oL c xa1)) [] := rfl
  rw [e]; rw [read4 arg5 x1, read4 arg4 x0, read6 arg6 x2, vl_eq]

theorem D_HS2 : kernelRun0_D.sl.HS2_4 c arg4 arg5 arg6 x0 x1 x2 xa0 xa2 = pA (aP false x1 x0 x2 (oM c xa0) (oA c xa2)) [] := by
  have e : kernelRun0_D.sl.HS2_4 c arg4 arg5 arg6 x0 x1 x2 xa0 xa2 = pA (aP false (arg5.view.read (Elt Ideal) (arg5.view.rep x1)) (arg4.view.read (Elt Ideal) (arg4.view.rep x0)) (vl (arg6.view.read (Elt Ideal) (arg6.view.rep x2))) (oM c xa0) (oA c xa2)) [] := rfl
  rw [e]; rw [read4 arg5 x1, read4 arg4 x0, read6 arg6 x2, vl_eq]

end Cert.KernelIdeal.Flash
end
-- ==== Proof.FlashState.lean ====
module

public import proofs.«01_k».proof.Proof.FlashPaths

@[expose] public section

/-! One grid point of the attention kernel, entry by entry: what the scratches and the output block hold after it. -/

set_option maxRecDepth 16384

noncomputable section

open Idealize.ShloMosaic Idealize.ShloMosaic.TcCoe Idealize.SL.Sem

namespace Cert.KernelIdeal.Flash

open Cert.KernelIdeal Cert.KernelIdeal.Gen Cert.KernelIdeal.Att

/-- One entry of a block's scores: key row `r`, query row `c`, head `h`. -/
def sS (b : Bool) (k q : KQ) (h : Fin 4) (r c : Fin 512) : EReal :=
  if b = true ∧ c < r then ⊥ else ∑ j : Fin 128, k (ix2 r ⟨128 * h.val + j.val, by omega⟩) * q (ix2 c ⟨128 * h.val + j.val, by omega⟩)

theorem kq_at (x : KQ) (h : Fin 4) (r : Fin 512) (j : Fin 128) : kq x h (ix2 r j) = x (ix2 r ⟨128 * h.val + j.val, by omega⟩) := by
  rw [← emb_K]; rfl

theorem sS_eq (b : Bool) (k q : KQ) (h : Fin 4) (r c : Fin 512) : sB b (kq k h) (kq q h) (ix2 r c) = sS b k q h r c := by
  have e : sRow (kq k h) (kq q h) (ix2 r c) = ∑ j : Fin 128, k (ix2 r ⟨128 * h.val + j.val, by omega⟩) * q (ix2 c ⟨128 * h.val + j.val, by omega⟩) := by
    rw [sRow_at]; simp only [kq_at]
  cases b with
  | false => unfold sS; rw [if_neg (by simp)]; exact e
  | true =>
    show sMask (kq k h) (kq q h) (ix2 r c) = _
    rw [sMask_at, e]
    unfold sS
    by_cases hh : r ≤ c
    · rw [if_pos hh, if_neg (by simp [hh])]
    · rw [if_neg hh, if_pos ⟨rfl, not_le.1 hh⟩]

theorem vO_one (v : VT) (h : Fin 4) (r : Fin 512) : (vO v h (ix2 64 r) : EReal) = 1 :=
  match h with
  | 0 => (vOnes_one v r).1
  | 1 => (vOnes_one v r).2.1
  | 2 => (vOnes_one v r).2.2.1
  | 3 => (vOnes_one v r).2.2.2

theorem vO_at (v : VT) (h : Fin 4) (d : Fin 64) (r : Fin 512) : (vO v h (ix2 ⟨d.val, by omega⟩ r) : EReal) = v (ix2 ⟨64 * h.val + d.val, by omega⟩ r) :=
  match h with
  | 0 => (vOnes_at v d r).1.trans (congrArg (fun a => v (ix2 a r)) (Fin.ext (by simp)))
  | 1 => (vOnes_at v d r).2.1.trans (congrArg (fun a => v (ix2 a r)) (Fin.ext (by simp)))
  | 2 => (vOnes_at v d r).2.2.1.trans (congrArg (fun a => v (ix2 a r)) (Fin.ext (by simp)))
  | 3 => (vOnes_at v d r).2.2.2.trans (congrArg (fun a => v (ix2 a r)) (Fin.ext (by simp)))

theorem mP_at (b : Bool) (k q : KQ) (Mo : Fin 4 → M3) (h : Fin 4) (c : Fin 512) :
    mP b k q Mo h (ix3 0 0 c) = nM (fun r => sS b k q h r c) (Mo h (ix3 0 0 c)) := by
  unfold mP; rw [mPay_at]; simp only [sS_eq]

theorem lP_at (b : Bool) (k q : KQ) (v : VT) (Mo Lo : Fin 4 → M3) (h : Fin 4) (c : Fin 512) :
    lP b k q v Mo Lo h (ix3 0 0 c) = nL (fun r => sS b k q h r c) (Mo h (ix3 0 0 c)) (Lo h (ix3 0 0 c)) := by
  unfold lP; rw [lPay_at _ _ _ _ _ (vO_one v h)]; simp only [sS_eq]

theorem aP_at (b : Bool) (k q : KQ) (v : VT) (Mo : Fin 4 → M3) (Ao : Fin 4 → A2) (h : Fin 4) (d : Fin 64) (c : Fin 512) :
    aP b k q v Mo Ao h (ix2 d c)
      = nA (fun r => sS b k q h r c) (fun r => v (ix2 ⟨64 * h.val + d.val, by omega⟩ r)) (Mo h (ix3 0 0 c)) (Ao h (ix2 d c)) := by
  unfold aP; rw [aPay_at]; simp only [sS_eq, vO_at]

/-- The output block: row `c`, column `64 h + d`. -/
theorem oV_at (Lf : Fin 4 → M3) (Af : Fin 4 → A2) (h : Fin 4) (d : Fin 64) (c : Fin 512) :
    (oV Lf Af (ix2 c ⟨64 * h.val + d.val, by omega⟩) : EReal) = Ideal.div (Af h (ix2 d c)) (Lf h (ix3 0 0 c)) := by
  match h with
  | 0 => pointwise [oV, k0_pay6]
  | 1 => pointwise [oV, k0_pay6]
  | 2 => pointwise [oV, k0_pay6]
         have e : (⟨128 + d.val - 64 - 64, by omega⟩ : Fin 64) = d := Fin.ext (by show 128 + d.val - 64 - 64 = d.val; omega)
         rw [dif_neg (by omega), dif_neg (by omega), dif_pos (by omega), e]
  | 3 => pointwise [oV, k0_pay6]
         have e : (⟨192 + d.val - 64 - 64 - 64, by omega⟩ : Fin 64) = d := Fin.ext (by show 192 + d.val - 64 - 64 - 64 = d.val; omega)
         rw [dif_neg (by omega), dif_neg (by omega), dif_neg (by omega), e]

/-- The reset values. -/
theorem iM_at (h : Fin 4) (c : Fin 512) : iM h (ix3 0 0 c) = ⊥ := by
  show (k0_pay1 (F := Ideal) ((rM h).emb (ix3 0 0 c)) : EReal) = ⊥
  rw [emb_M]
  pointwise [k0_pay1]
  exact mask_bot
theorem iL_at (h : Fin 4) (c : Fin 512) : iL h (ix3 0 0 c) = 0 := by
  show (k0_pay2 (F := Ideal) ((rM h).emb (ix3 0 0 c)) : EReal) = 0
  rw [emb_M]
  pointwise [k0_pay2]
theorem iA_at (h : Fin 4) (d : Fin 64) (c : Fin 512) : iA h (ix2 d c) = 0 := by
  show (k0_pay3 (F := Ideal) ((rA h).emb (ix2 d c)) : EReal) = 0
  rw [emb_A]
  pointwise [k0_pay3]

section
variable {c : Dev nD}
/-- What a scratch holds, entry by entry. -/
def stM (g : Buf (Elt Ideal) ((c : Thread nD τ).loc cc0_scratch0)) (h : Fin 4) (cc : Fin 512) : EReal := scM0_0.view.read (Elt Ideal) g (ix3 h 0 cc)
def stL (g : Buf (Elt Ideal) ((c : Thread nD τ).loc cc0_scratch1)) (h : Fin 4) (cc : Fin 512) : EReal := scM0_1.view.read (Elt Ideal) g (ix3 h 0 cc)
def stA (g : Buf (Elt Ideal) ((c : Thread nD τ).loc cc0_scratch2)) (h : Fin 4) (d : Fin 64) (cc : Fin 512) : EReal :=
  scM0_2.view.read (Elt Ideal) g (ix2 ⟨64 * h.val + d.val, by omega⟩ cc)

theorem oM_at (g) (h : Fin 4) (cc : Fin 512) : oM c g h (ix3 0 0 cc) = stM g h cc := by
  unfold stM; rw [← emb_M]; rfl
theorem oL_at (g) (h : Fin 4) (cc : Fin 512) : oL c g h (ix3 0 0 cc) = stL g h cc := by
  unfold stL; rw [← emb_M]; rfl
theorem oA_at (g) (h : Fin 4) (d : Fin 64) (cc : Fin 512) : oA c g h (ix2 d cc) = stA g h d cc := by
  unfold stA; rw [← emb_A]; rfl

/-- A scratch written in the four heads' pieces holds the pieces. -/
theorem stM_w (P : Fin 4 → M3) (L) (h : Fin 4) (cc : Fin 512) :
    stM (c := c) ((View.whole cc0_scratch0).writes (Elt Ideal) (View.whole cc0_scratch0).junk (pM P L)) h cc = P h (ix3 0 0 cc) := by
  unfold stM
  rw [← emb_M, ← canon_M P L h]
  exact congrFun (View.read_writes_junk_eq_canon (Val := Elt Ideal) (View.whole cc0_scratch0) (pM P L)) _
theorem stL_w (P : Fin 4 → M3) (L) (h : Fin 4) (cc : Fin 512) :
    stL (c := c) ((View.whole cc0_scratch1).writes (Elt Ideal) (View.whole cc0_scratch1).junk (pM P L)) h cc = P h (ix3 0 0 cc) := by
  unfold stL
  rw [← emb_M, ← canon_M P L h]
  exact congrFun (View.read_writes_junk_eq_canon (Val := Elt Ideal) (View.whole cc0_scratch1) (pM P L)) _
theorem stA_w (P : Fin 4 → A2) (L) (h : Fin 4) (d : Fin 64) (cc : Fin 512) :
    stA (c := c) ((View.whole cc0_scratch2).writes (Elt Ideal) (View.whole cc0_scratch2).junk (pA P L)) h d cc = P h (ix2 d cc) := by
  unfold stA
  rw [← emb_A, ← canon_A P L h]
  exact congrFun (View.read_writes_junk_eq_canon (Val := Elt Ideal) (View.whole cc0_scratch2) (pA P L)) _

/-- The output block, written whole. -/
theorem out_w (w : FVec Ideal S512x256 .bf16) :
    VO0_3.read (Elt Ideal) (VO0_3.writes (Elt Ideal) VO0_3.junk [⟨Rect.unit ![0, 0] S512x256.size inb_S512x256_S512x256_0_0, w⟩]) = w := by
  rw [View.read_writes_junk_eq_canon]
  exact View.canon_cons_unit_lit (Val := Elt Ideal) (e := .bf16) inb_S512x256_S512x256_0_0 w [] (by decide)
end

theorem A_stM (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (h : Fin 4) (cc : Fin 512) :
    stM (kernelRun0_A c i arg4 harg4 arg5 harg5 arg6 harg6 arg7 harg7 T0 T1 x0 x1 x2 hc0 hc1 k0_h3).2.1 h cc = nM (fun r => sS true x1 x0 h r cc) ⊥ := by
  have e : (kernelRun0_A c i arg4 harg4 arg5 harg5 arg6 harg6 arg7 harg7 T0 T1 x0 x1 x2 hc0 hc1 k0_h3).2.1 = (View.whole cc0_scratch0).writes (Elt Ideal) (View.whole cc0_scratch0).junk (kernelRun0_A.sl.HS0_5 arg4 arg5 x0 x1) := by
    unfold kernelRun0_A; dsimp only
  rw [e, A_HS0, stM_w, mP_at, iM_at]

theorem A_stL (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (h : Fin 4) (cc : Fin 512) :
    stL (kernelRun0_A c i arg4 harg4 arg5 harg5 arg6 harg6 arg7 harg7 T0 T1 x0 x1 x2 hc0 hc1 k0_h3).2.2.1 h cc = nL (fun r => sS true x1 x0 h r cc) ⊥ 0 := by
  have e : (kernelRun0_A c i arg4 harg4 arg5 harg5 arg6 harg6 arg7 harg7 T0 T1 x0 x1 x2 hc0 hc1 k0_h3).2.2.1 = (View.whole cc0_scratch1).writes (Elt Ideal) (View.whole cc0_scratch1).junk (kernelRun0_A.sl.HS1_5 arg4 arg5 arg6 x0 x1 x2) := by
    unfold kernelRun0_A; dsimp only
  rw [e, A_HS1, stL_w, lP_at, iM_at, iL_at]

theorem A_stA (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (h : Fin 4) (d : Fin 64) (cc : Fin 512) :
    stA (kernelRun0_A c i arg4 harg4 arg5 harg5 arg6 harg6 arg7 harg7 T0 T1 x0 x1 x2 hc0 hc1 k0_h3).2.2.2.1 h d cc = nA (fun r => sS true x1 x0 h r cc) (fun r => x2 (ix2 ⟨64 * h.val + d.val, by omega⟩ r)) ⊥ 0 := by
  have e : (kernelRun0_A c i arg4 harg4 arg5 harg5 arg6 harg6 arg7 harg7 T0 T1 x0 x1 x2 hc0 hc1 k0_h3).2.2.2.1 = (View.whole cc0_scratch2).writes (Elt Ideal) (View.whole cc0_scratch2).junk (kernelRun0_A.sl.HS2_5 arg4 arg5 arg6 x0 x1 x2) := by
    unfold kernelRun0_A; dsimp only
  rw [e, A_HS2, stA_w, aP_at, iM_at, iA_at]

theorem A_out (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (h : Fin 4) (d : Fin 64) (cc : Fin 512) :
    (out0_A_3 c i arg4 harg4 arg5 harg5 arg6 harg6 arg7 harg7 T0 T1 x0 x1 x2 hc0 hc1 k0_h3 (ix2 cc ⟨64 * h.val + d.val, by omega⟩) : EReal) = Ideal.div (stA (kernelRun0_A c i arg4 harg4 arg5 harg5 arg6 harg6 arg7 harg7 T0 T1 x0 x1 x2 hc0 hc1 k0_h3).2.2.2.1 h d cc) (stL (kernelRun0_A c i arg4 harg4 arg5 harg5 arg6 harg6 arg7 harg7 T0 T1 x0 x1 x2 hc0 hc1 k0_h3).2.2.1 h cc) := by
  have e : (kernelRun0_A c i arg4 harg4 arg5 harg5 arg6 harg6 arg7 harg7 T0 T1 x0 x1 x2 hc0 hc1 k0_h3).1 = kernelRun0_A.sl.HO3_1 arg4 arg5 arg6 x0 x1 x2 := by
    unfold kernelRun0_A; dsimp only
  rw [A_stA, A_stL]
  unfold out0_A_3
  rw [e, A_HO, out_w, oV_at, lP_at, aP_at, iM_at, iL_at, iA_at]

theorem B_stM (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) (h : Fin 4) (cc : Fin 512) :
    stM (kernelRun0_B c i arg4 harg4 arg5 harg5 arg6 harg6 arg7 harg7 T0 T1 x0 x1 x2 hc0 hc1 k0_h3).1 h cc = nM (fun r => sS false x1 x0 h r cc) ⊥ := by
  have e : (kernelRun0_B c i arg4 harg4 arg5 harg5 arg6 harg6 arg7 harg7 T0 T1 x0 x1 x2 hc0 hc1 k0_h3).1 = (View.whole cc0_scratch0).writes (Elt Ideal) (View.whole cc0_scratch0).junk (kernelRun0_B.sl.HS0_5 arg4 arg5 x0 x1) := by
    unfold kernelRun0_B; dsimp only
  rw [e, B_HS0, stM_w, mP_at, iM_at]

theorem B_stL (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) (h : Fin 4) (cc : Fin 512) :
    stL (kernelRun0_B c i arg4 harg4 arg5 harg5 arg6 harg6 arg7 harg7 T0 T1 x0 x1 x2 hc0 hc1 k0_h3).2.1 h cc = nL (fun r => sS false x1 x0 h r cc) ⊥ 0 := by
  have e : (kernelRun0_B c i arg4 harg4 arg5 harg5 arg6 harg6 arg7 harg7 T0 T1 x0 x1 x2 hc0 hc1 k0_h3).2.1 = (View.whole cc0_scratch1).writes (Elt Ideal) (View.whole cc0_scratch1).junk (kernelRun0_B.sl.HS1_5 arg4 arg5 arg6 x0 x1 x2) := by
    unfold kernelRun0_B; dsimp only
  rw [e, B_HS1, stL_w, lP_at, iM_at, iL_at]

theorem B_stA (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) (h : Fin 4) (d : Fin 64) (cc : Fin 512) :
    stA (kernelRun0_B c i arg4 harg4 arg5 harg5 arg6 harg6 arg7 harg7 T0 T1 x0 x1 x2 hc0 hc1 k0_h3).2.2.1 h d cc = nA (fun r => sS false x1 x0 h r cc) (fun r => x2 (ix2 ⟨64 * h.val + d.val, by omega⟩ r)) ⊥ 0 := by
  have e : (kernelRun0_B c i arg4 harg4 arg5 harg5 arg6 harg6 arg7 harg7 T0 T1 x0 x1 x2 hc0 hc1 k0_h3).2.2.1 = (View.whole cc0_scratch2).writes (Elt Ideal) (View.whole cc0_scratch2).junk (kernelRun0_B.sl.HS2_5 arg4 arg5 arg6 x0 x1 x2) := by
    unfold kernelRun0_B; dsimp only
  rw [e, B_HS2, stA_w, aP_at, iM_at, iA_at]

theorem C_stM (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (h : Fin 4) (cc : Fin 512) :
    stM (kernelRun0_C c i arg4 harg4 arg5 harg5 arg6 harg6 arg7 harg7 T0 T1 x0 x1 x2 xa0 xa1 xa2 hc0 hc1 k0_h3).2.1 h cc = nM (fun r => sS true x1 x0 h r cc) (stM xa0 h cc) := by
  have e : (kernelRun0_C c i arg4 harg4 arg5 harg5 arg6 harg6 arg7 harg7 T0 T1 x0 x1 x2 xa0 xa1 xa2 hc0 hc1 k0_h3).2.1 = (View.whole cc0_scratch0).writes (Elt Ideal) (View.whole cc0_scratch0).junk (kernelRun0_C.sl.HS0_4 c arg4 arg5 x0 x1 xa0) := by
    unfold kernelRun0_C; dsimp only
  rw [e, C_HS0, stM_w, mP_at, oM_at]

theorem C_stL (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (h : Fin 4) (cc : Fin 512) :
    stL (kernelRun0_C c i arg4 harg4 arg5 harg5 arg6 harg6 arg7 harg7 T0 T1 x0 x1 x2 xa0 xa1 xa2 hc0 hc1 k0_h3).2.2.1 h cc = nL (fun r => sS true x1 x0 h r cc) (stM xa0 h cc) (stL xa1 h cc) := by
  have e : (kernelRun0_C c i arg4 harg4 arg5 harg5 arg6 harg6 arg7 harg7 T0 T1 x0 x1 x2 xa0 xa1 xa2 hc0 hc1 k0_h3).2.2.1 = (View.whole cc0_scratch1).writes (Elt Ideal) (View.whole cc0_scratch1).junk (kernelRun0_C.sl.HS1_4 c arg4 arg5 arg6 x0 x1 x2 xa0 xa1) := by
    unfold kernelRun0_C; dsimp only
  rw [e, C_HS1, stL_w, lP_at, oM_at, oL_at]

theorem C_stA (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (h : Fin 4) (d : Fin 64) (cc : Fin 512) :
    stA (kernelRun0_C c i arg4 harg4 arg5 harg5 arg6 harg6 arg7 harg7 T0 T1 x0 x1 x2 xa0 xa1 xa2 hc0 hc1 k0_h3).2.2.2.1 h d cc = nA (fun r => sS true x1 x0 h r cc) (fun r => x2 (ix2 ⟨64 * h.val + d.val, by omega⟩ r)) (stM xa0 h cc) (stA xa2 h d cc) := by
  have e : (kernelRun0_C c i arg4 harg4 arg5 harg5 arg6 harg6 arg7 harg7 T0 T1 x0 x1 x2 xa0 xa1 xa2 hc0 hc1 k0_h3).2.2.2.1 = (View.whole cc0_scratch2).writes (Elt Ideal) (View.whole cc0_scratch2).junk (kernelRun0_C.sl.HS2_4 c arg4 arg5 arg6 x0 x1 x2 xa0 xa2) := by
    unfold kernelRun0_C; dsimp only
  rw [e, C_HS2, stA_w, aP_at, oM_at, oA_at]

theorem C_out (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (h : Fin 4) (d : Fin 64) (cc : Fin 512) :
    (out0_C_3 c i arg4 harg4 arg5 harg5 arg6 harg6 arg7 harg7 T0 T1 x0 x1 x2 xa0 xa1 xa2 hc0 hc1 k0_h3 (ix2 cc ⟨64 * h.val + d.val, by omega⟩) : EReal) = Ideal.div (stA (kernelRun0_C c i arg4 harg4 arg5 harg5 arg6 harg6 arg7 harg7 T0 T1 x0 x1 x2 xa0 xa1 xa2 hc0 hc1 k0_h3).2.2.2.1 h d cc) (stL (kernelRun0_C c i arg4 harg4 arg5 harg5 arg6 harg6 arg7 harg7 T0 T1 x0 x1 x2 xa0 xa1 xa2 hc0 hc1 k0_h3).2.2.1 h cc) := by
  have e : (kernelRun0_C c i arg4 harg4 arg5 harg5 arg6 harg6 arg7 harg7 T0 T1 x0 x1 x2 xa0 xa1 xa2 hc0 hc1 k0_h3).1 = kernelRun0_C.sl.HO3_1 c arg4 arg5 arg6 x0 x1 x2 xa0 xa1 xa2 := by
    unfold kernelRun0_C; dsimp only
  rw [C_stA, C_stL]
  unfold out0_C_3
  rw [e, C_HO, out_w, oV_at, lP_at, aP_at, oM_at, oL_at, oA_at]

theorem D_stM (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) (h : Fin 4) (cc : Fin 512) :
    stM (kernelRun0_D c i arg4 harg4 arg5 harg5 arg6 harg6 arg7 harg7 T0 T1 x0 x1 x2 xa0 xa1 xa2 hc0 hc1 k0_h3).1 h cc = nM (fun r => sS false x1 x0 h r cc) (stM xa0 h cc) := by
  have e : (kernelRun0_D c i arg4 harg4 arg5 harg5 arg6 harg6 arg7 harg7 T0 T1 x0 x1 x2 xa0 xa1 xa2 hc0 hc1 k0_h3).1 = (View.whole cc0_scratch0).writes (Elt Ideal) (View.whole cc0_scratch0).junk (kernelRun0_D.sl.HS0_4 c arg4 arg5 x0 x1 xa0) := by
    unfold kernelRun0_D; dsimp only
  rw [e, D_HS0, stM_w, mP_at, oM_at]

theorem D_stL (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) (h : Fin 4) (cc : Fin 512) :
    stL (kernelRun0_D c i arg4 harg4 arg5 harg5 arg6 harg6 arg7 harg7 T0 T1 x0 x1 x2 xa0 xa1 xa2 hc0 hc1 k0_h3).2.1 h cc = nL (fun r => sS false x1 x0 h r cc) (stM xa0 h cc) (stL xa1 h cc) := by
  have e : (kernelRun0_D c i arg4 harg4 arg5 harg5 arg6 harg6 arg7 harg7 T0 T1 x0 x1 x2 xa0 xa1 xa2 hc0 hc1 k0_h3).2.1 = (View.whole cc0_scratch1).writes (Elt Ideal) (View.whole cc0_scratch1).junk (kernelRun0_D.sl.HS1_4 c arg4 arg5 arg6 x0 x1 x2 xa0 xa1) := by
    unfold kernelRun0_D; dsimp only
  rw [e, D_HS1, stL_w, lP_at, oM_at, oL_at]

theorem D_stA (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S512x256 .bf16) (harg7 : arg7.IsWhole) (T0 : (S36.Idx → Elt Ideal .i32)) (T1 : (S36.Idx → Elt Ideal .i32))
     (x0 : (S512x512.Idx → Elt Ideal .bf16)) (x1 : (S512x512.Idx → Elt Ideal .bf16)) (x2 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (View.readAt (Elt Ideal) (tbM0_0).view (Rect.unit (s := S36) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) (h : Fin 4) (d : Fin 64) (cc : Fin 512) :
    stA (kernelRun0_D c i arg4 harg4 arg5 harg5 arg6 harg6 arg7 harg7 T0 T1 x0 x1 x2 xa0 xa1 xa2 hc0 hc1 k0_h3).2.2.1 h d cc = nA (fun r => sS false x1 x0 h r cc) (fun r => x2 (ix2 ⟨64 * h.val + d.val, by omega⟩ r)) (stM xa0 h cc) (stA xa2 h d cc) := by
  have e : (kernelRun0_D c i arg4 harg4 arg5 harg5 arg6 harg6 arg7 harg7 T0 T1 x0 x1 x2 xa0 xa1 xa2 hc0 hc1 k0_h3).2.2.1 = (View.whole cc0_scratch2).writes (Elt Ideal) (View.whole cc0_scratch2).junk (kernelRun0_D.sl.HS2_4 c arg4 arg5 arg6 x0 x1 x2 xa0 xa2) := by
    unfold kernelRun0_D; dsimp only
  rw [e, D_HS2, stA_w, aP_at, oM_at, oA_at]

end Cert.KernelIdeal.Flash
end
-- ==== Proof.FlashMath.lean ====
module

public import proofs.«01_k».proof.Proof.FlashStep

@[expose] public section

/-! The running maximum, sum and accumulator over blocks of 512 scores are the maximum, the sum of weights and the weighted
    sum over all scores seen so far; and the quotient of the last two is the softmax average. -/

noncomputable section

open Idealize.ShloMosaic

namespace Cert.KernelIdeal.Flash

/-- The maximum, the sum of the weights and the weighted sum of the first `n` scores. -/
def mx (S : ℕ → EReal) (n : ℕ) : EReal := (Finset.range n).sup S
def sumW (S : ℕ → EReal) (n : ℕ) : EReal := ∑ i ∈ Finset.range n, Ideal.exp2 (S i - mx S n)
def sumV (S V : ℕ → EReal) (n : ℕ) : EReal := ∑ i ∈ Finset.range n, V i * Ideal.exp2 (S i - mx S n)

theorem exp2_real (r : ℝ) : Ideal.exp2 (r : EReal) = ((Real.rpow 2 r : ℝ) : EReal) := rfl
theorem exp2_bot : Ideal.exp2 ⊥ = 0 := rfl

theorem exp2_nonneg (x : EReal) : 0 ≤ Ideal.exp2 x := by
  induction x with
  | bot => exact le_refl _
  | top => exact le_top
  | coe r => rw [exp2_real]; exact EReal.coe_nonneg.2 (Real.rpow_nonneg (by norm_num) r)

theorem exp2_mul (x : EReal) (hx : x ≠ ⊤) (a b : ℝ) :
    Ideal.exp2 ((a : EReal) - b) * Ideal.exp2 (x - a) = Ideal.exp2 (x - b) := by
  induction x with
  | bot => simp [exp2_bot]
  | top => exact absurd rfl hx
  | coe r =>
    rw [← EReal.coe_sub, ← EReal.coe_sub, ← EReal.coe_sub, exp2_real, exp2_real, exp2_real, ← EReal.coe_mul]
    congr 1
    have := Real.rpow_add (show (0 : ℝ) < 2 by norm_num) (a - b) (r - a)
    rw [show a - b + (r - a) = r - b by ring] at this
    exact this.symm

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A nonnegative number goes into a sum. -/
theorem mul_sum_real {ι : Type*} (s : Finset ι) (f : ι → EReal) (a : EReal) (ha : 0 ≤ a) (ha' : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top ha ha', ih]

theorem mx_ne_top (S : ℕ → EReal) (hS : ∀ i, S i ≠ ⊤) (n : ℕ) : mx S n ≠ ⊤ := by
  unfold mx
  rw [← lt_top_iff_ne_top, Finset.sup_lt_iff (by exact bot_lt_top)]
  exact fun i _ => lt_top_iff_ne_top.2 (hS i)

theorem mx_real (S : ℕ → EReal) (hS : ∀ i, S i ≠ ⊤) (h0 : S 0 ≠ ⊥) (n : ℕ) (hn : 0 < n) : ∃ a : ℝ, mx S n = a := by
  have h1 := mx_ne_top S hS n
  have h2 : mx S n ≠ ⊥ := by
    have : S 0 ≤ mx S n := Finset.le_sup (f := S) (Finset.mem_range.2 hn)
    intro h
    rw [h] at this
    exact h0 (le_bot_iff.1 this)
  exact ⟨(mx S n).toReal, (EReal.coe_toReal h1 h2).symm⟩

theorem sum_block (f : ℕ → EReal) (n : ℕ) :
    ∑ i ∈ Finset.range (512 * (n + 1)), f i = ∑ i ∈ Finset.range (512 * n), f i + ∑ r : Fin 512, f (512 * n + r.val) := by
  rw [show 512 * (n + 1) = 512 * n + 512 by ring, Finset.sum_range_add, Finset.sum_range (fun x => f (512 * n + x))]

theorem mx_block (S : ℕ → EReal) (n : ℕ) :
    mx S (512 * (n + 1)) = max (mx S (512 * n)) (Finset.univ.sup fun r : Fin 512 => S (512 * n + r.val)) := by
  unfold mx
  apply le_antisymm
  · refine Finset.sup_le fun i hi => ?_
    rw [Finset.mem_range] at hi
    by_cases h : i < 512 * n
    · exact le_max_of_le_left (Finset.le_sup (f := S) (Finset.mem_range.2 h))
    · refine le_max_of_le_right ?_
      have : S i = (fun r : Fin 512 => S (512 * n + r.val)) ⟨i - 512 * n, by omega⟩ := by
        show S i = S (512 * n + (i - 512 * n))
        congr 1; omega
      rw [this]
      exact Finset.le_sup (f := fun r : Fin 512 => S (512 * n + r.val)) (Finset.mem_univ _)
  · refine max_le (Finset.sup_mono fun i hi => ?_) (Finset.sup_le fun r _ => Finset.le_sup (f := S) ?_)
    · rw [Finset.mem_range] at hi ⊢; omega
    · rw [Finset.mem_range]; have := r.isLt; omega

theorem nM_block (S : ℕ → EReal) (n : ℕ) :
    nM (fun r => S (512 * n + r.val)) (mx S (512 * n)) = mx S (512 * (n + 1)) := (mx_block S n).symm

theorem nA_block (S V : ℕ → EReal) (hS : ∀ i, S i ≠ ⊤) (h0 : S 0 ≠ ⊥) (n : ℕ) :
    nA (fun r => S (512 * n + r.val)) (fun r => V (512 * n + r.val)) (mx S (512 * n)) (sumV S V (512 * n)) = sumV S V (512 * (n + 1)) := by
  unfold nA
  rw [nM_block]
  unfold sumV
  rw [sum_block]
  congr 1
  rcases Nat.eq_zero_or_pos n with rfl | hn
  · simp
  · obtain ⟨a, ha⟩ := mx_real S hS h0 (512 * n) (by omega)
    obtain ⟨b, hb⟩ := mx_real S hS h0 (512 * (n + 1)) (by omega)
    rw [ha, hb, mul_sum_real _ _ _ (exp2_nonneg _) (by rw [← EReal.coe_sub, exp2_real]; exact EReal.coe_ne_top _)]
    refine Finset.sum_congr rfl fun i _ => ?_
    rw [← exp2_mul (S i) (hS i) a b, mul_left_comm]

theorem sumW_eq (S : ℕ → EReal) (n : ℕ) : sumW S n = sumV S (fun _ => 1) n := by
  unfold sumW sumV; simp

theorem nL_block (S : ℕ → EReal) (hS : ∀ i, S i ≠ ⊤) (h0 : S 0 ≠ ⊥) (n : ℕ) :
    nL (fun r => S (512 * n + r.val)) (mx S (512 * n)) (sumW S (512 * n)) = sumW S (512 * (n + 1)) := by
  rw [sumW_eq, sumW_eq]
  exact nA_block S (fun _ => 1) hS h0 n

theorem zero_state (S V : ℕ → EReal) : mx S 0 = ⊥ ∧ sumW S 0 = 0 ∧ sumV S V 0 = 0 := by
  simp [mx, sumW, sumV]

/-- Scores past the last one seen are masked, so nothing changes. -/
theorem tail_mx (S : ℕ → EReal) (n N : ℕ) (h : n ≤ N) (hm : ∀ i, n ≤ i → S i = ⊥) : mx S N = mx S n := by
  unfold mx
  apply le_antisymm
  · refine Finset.sup_le fun i hi => ?_
    by_cases hi' : i < n
    · exact Finset.le_sup (f := S) (Finset.mem_range.2 hi')
    · rw [hm i (by omega)]; exact bot_le
  · exact Finset.sup_mono (Finset.range_mono h)

theorem tail_sumV (S V : ℕ → EReal) (n N : ℕ) (h : n ≤ N) (hm : ∀ i, n ≤ i → S i = ⊥) : sumV S V N = sumV S V n := by
  unfold sumV
  rw [tail_mx S n N h hm]
  symm
  refine Finset.sum_subset (Finset.range_mono h) fun i _ hi => ?_
  rw [Finset.mem_range, not_lt] at hi
  rw [hm i hi]
  simp [exp2_bot]

/-- The sum of the weights is a positive number. -/
theorem sumW_pos (S : ℕ → EReal) (hS : ∀ i, S i ≠ ⊤) (h0 : S 0 ≠ ⊥) (n : ℕ) (hn : 0 < n) : ∃ l : ℝ, 0 < l ∧ sumW S n = l := by
  obtain ⟨a, ha⟩ := mx_real S hS h0 n hn
  have hr : ∀ i, ∃ e : ℝ, 0 ≤ e ∧ (S i ≠ ⊥ → 0 < e) ∧ Ideal.exp2 (S i - a) = e := by
    intro i
    induction hx : S i with
    | bot => exact ⟨0, le_refl _, fun h => absurd rfl h, by simp [exp2_bot]⟩
    | top => exact absurd hx (hS i)
    | coe r =>
      refine ⟨Real.rpow 2 (r - a), Real.rpow_nonneg (by norm_num) _, fun _ => Real.rpow_pos_of_pos (by norm_num) _, ?_⟩
      rw [← EReal.coe_sub, exp2_real]
  choose e he hp hq using hr
  refine ⟨∑ i ∈ Finset.range n, e i, ?_, ?_⟩
  · exact Finset.sum_pos' (fun i _ => he i) ⟨0, Finset.mem_range.2 hn, hp 0 h0⟩
  · unfold sumW
    rw [ha]
    simp only [hq]
    exact (coe_sum (Finset.range n) e).symm

/-- The quotient of the sums is the average with the normalised weights. -/
theorem quotient (S V : ℕ → EReal) (hS : ∀ i, S i ≠ ⊤) (h0 : S 0 ≠ ⊥) (n : ℕ) (hn : 0 < n) :
    Ideal.div (sumV S V n) (sumW S n) = ∑ i ∈ Finset.range n, V i * Ideal.div (Ideal.exp2 (S i - mx S n)) (sumW S n) := by
  obtain ⟨l, hl, hw⟩ := sumW_pos S hS h0 n hn
  have hl0 : (l : EReal) ≠ 0 := by exact_mod_cast hl.ne'
  have hd : ∀ x : EReal, Ideal.div x l = ((l⁻¹ : ℝ) : EReal) * x := by
    intro x
    unfold Ideal.div
    rw [if_neg hl0, EReal.coe_inv, mul_comm]
  rw [hw, hd]
  unfold sumV
  rw [mul_sum_real _ _ _ (EReal.coe_nonneg.2 (inv_nonneg.2 hl.le)) (EReal.coe_ne_top _)]
  refine Finset.sum_congr rfl fun i _ => ?_
  rw [hd, mul_left_comm]

/-- With the logarithm of two inside the exponential. -/
theorem exp_log (x : EReal) (a : ℝ) (hx : x ≠ ⊤) :
    Ideal.exp (x * ((Real.log 2 : ℝ) : EReal) - ((a : EReal) * ((Real.log 2 : ℝ) : EReal))) = Ideal.exp2 (x - a) := by
  have hlog : 0 < Real.log 2 := Real.log_pos (by norm_num)
  induction x with
  | bot =>
    rw [EReal.bot_mul_coe_of_pos hlog, ← EReal.coe_mul]
    simp [exp2_bot]
    all_goals rfl
  | top => exact absurd rfl hx
  | coe r =>
    rw [← EReal.coe_mul, ← EReal.coe_mul, ← EReal.coe_sub, ← EReal.coe_sub, exp2_real]
    show ((Real.exp _ : ℝ) : EReal) = _
    congr 1
    show _ = (2 : ℝ) ^ (r - a)
    rw [Real.rpow_def_of_pos (by norm_num)]
    congr 1
    ring

/-- The maximum of the scaled scores is the scaled maximum. -/
theorem mx_log (S : ℕ → EReal) (n : ℕ) :
    (Finset.range n).sup (fun i => S i * ((Real.log 2 : ℝ) : EReal)) = mx S n * ((Real.log 2 : ℝ) : EReal) := by
  have hlog : 0 < Real.log 2 := Real.log_pos (by norm_num)
  have hmono : Monotone fun x : EReal => x * ((Real.log 2 : ℝ) : EReal) := fun x y h => by
    exact mul_le_mul_of_nonneg_right h (EReal.coe_nonneg.2 hlog.le)
  unfold mx
  symm
  exact Finset.comp_sup_eq_sup_comp (fun x : EReal => x * ((Real.log 2 : ℝ) : EReal)) (fun x y => hmono.map_sup x y) (EReal.bot_mul_coe_of_pos hlog)

/-- The softmax average, as the reference writes it over all `N` keys, is the quotient of the sums over the first `n`. -/
theorem softmax_eq (S V : ℕ → EReal) (hS : ∀ i, S i ≠ ⊤) (h0 : S 0 ≠ ⊥) (n N : ℕ) (hn : 0 < n) (hN : n ≤ N) (hm : ∀ i, n ≤ i → S i = ⊥)
    (T : ℕ → EReal) (hT : ∀ i, T i = S i * ((Real.log 2 : ℝ) : EReal)) :
    ∑ i ∈ Finset.range N, V i * Ideal.div (Ideal.exp (T i - (Finset.range N).sup T)) (∑ j ∈ Finset.range N, Ideal.exp (T j - (Finset.range N).sup T))
      = Ideal.div (sumV S V n) (sumW S n) := by
  obtain ⟨a, ha⟩ := mx_real S hS h0 N (by omega)
  have hTe : T = fun i => S i * ((Real.log 2 : ℝ) : EReal) := funext hT
  have he : ∀ i, Ideal.exp (T i - (Finset.range N).sup T) = Ideal.exp2 (S i - mx S N) := by
    intro i
    rw [hTe, mx_log, ha]
    exact exp_log (S i) a (hS i)
  simp only [he]
  rw [← tail_sumV S V n N hN hm, sumW_eq S n, ← tail_sumV S (fun _ => 1) n N hN hm, ← sumW_eq, quotient S V hS h0 N (by omega)]
  rfl

end Cert.KernelIdeal.Flash
end
-- ==== Proof.FlashGrid.lean ====
module

public import proofs.«01_k».proof.Proof.FlashState
public import proofs.«01_k».proof.Proof.FlashMath
public import proofs.«01_k».proof.Proof.AttIdeal.Run

@[expose] public section

/-! The attention kernel's grid: batch, query block and key block of each point, and what the windows hold there. -/

set_option maxRecDepth 16384

noncomputable section

open Idealize.ShloMosaic Idealize.ShloMosaic.TcCoe Idealize.SL.Sem

namespace Cert.KernelIdeal.Flash

open Cert.KernelIdeal Cert.KernelIdeal.Gen Cert.KernelIdeal.Att

variable (m : (ℓ : Loc nD τ sig) → Buf (Elt Ideal) ℓ) (ρ : Dev nD → PrngReg)

/-- The grid as it is launched. -/
abbrev G : Type := Fin (cfgA 0).N

/-- The batch, the query block and the key block of point `n`. -/
def bT (n : ℕ) : ℕ := n / 36
def qT (n : ℕ) : ℕ := [0, 1, 1, 2, 2, 2, 3, 3, 3, 3, 4, 4, 4, 4, 4, 5, 5, 5, 5, 5, 5, 6, 6, 6, 6, 6, 6, 6, 7, 7, 7, 7, 7, 7, 7, 7].getD (n % 36) 0
def kT (n : ℕ) : ℕ := [0, 0, 1, 0, 1, 2, 0, 1, 2, 3, 0, 1, 2, 3, 4, 0, 1, 2, 3, 4, 5, 0, 1, 2, 3, 4, 5, 6, 0, 1, 2, 3, 4, 5, 6, 7].getD (n % 36) 0

/-- What the tables say of a point: bounds, and the point before it in the same row of blocks. -/
theorem tab : ∀ n : Fin 144, bT n < 4 ∧ qT n < 8 ∧ kT n ≤ qT n ∧
    (kT n ≠ 0 → n.val ≠ 0 ∧ bT (n.val - 1) = bT n ∧ qT (n.val - 1) = qT n ∧ kT (n.val - 1) + 1 = kT n) := by decide +kernel

theorem dec0 : ∀ t : G, P0_0 0 t ↔ kT t.val = 0 := by decide +kernel
theorem dec1 : ∀ t : G, P0_1 0 t ↔ kT t.val < qT t.val := by decide +kernel

/-- The block each window is at. -/
theorem idx : ∀ t : G, ((cfgA 0).win 0).index t = ![8 * bT t.val + qT t.val, 0] ∧ ((cfgA 0).win 1).index t = ![8 * bT t.val + kT t.val, 0]
    ∧ ((cfgA 0).win 2).index t = ![0, 8 * bT t.val + kT t.val] ∧ ((cfgA 0).win 3).index t = ![8 * bT t.val + qT t.val, 0] := by decide +kernel

theorem flush_iff : ∀ t : G, ((cfgA 0).win 3).flush t = true → kT t.val = qT t.val := by decide +kernel

/-- The queries, keys and values. -/
abbrev argQ (c : Dev nD) : S16384x512.Idx → EReal := m ((c : Thread nD τ).loc main_arg0)
abbrev argK (c : Dev nD) : S16384x512.Idx → EReal := m ((c : Thread nD τ).loc main_arg1)
abbrev argV (c : Dev nD) : S256x16384.Idx → EReal := m ((c : Thread nD τ).loc main_arg2)

theorem iblk0 (c : Dev nD) (t : G) (r : Fin 512) (j : Fin 512) (h : 512 * (8 * bT t.val + qT t.val) + r.val < 16384) :
    (iblk 0 m ρ c (0 : Fin 4) t : S512x512.Idx → EReal) (ix2 r j) = argQ m c (ix2 ⟨512 * (8 * bT t.val + qT t.val) + r.val, h⟩ j) := by
  blk_point [iblk, idx t]

theorem iblk1 (c : Dev nD) (t : G) (r : Fin 512) (j : Fin 512) (h : 512 * (8 * bT t.val + kT t.val) + r.val < 16384) :
    (iblk 0 m ρ c (1 : Fin 4) t : S512x512.Idx → EReal) (ix2 r j) = argK m c (ix2 ⟨512 * (8 * bT t.val + kT t.val) + r.val, h⟩ j) := by
  blk_point [iblk, idx t]

theorem iblk2 (c : Dev nD) (t : G) (e : Fin 256) (r : Fin 512) (h : 512 * (8 * bT t.val + kT t.val) + r.val < 16384) :
    (iblk 0 m ρ c (2 : Fin 4) t : S256x512.Idx → EReal) (ix2 e r) = argV m c (ix2 e ⟨512 * (8 * bT t.val + kT t.val) + r.val, h⟩) := by
  blk_point [iblk, idx t]

theorem emb3 (t : G) (r : Fin 512) (e : Fin 256) (h : 512 * (8 * bT t.val + qT t.val) + r.val < 16384) :
    ((((cfgA 0).win 3).blk t).view.emb (ix2 r e : S512x256.Idx) : S16384x256.Idx) = ix2 ⟨512 * (8 * bT t.val + qT t.val) + r.val, h⟩ e := by
  blk_ext [idx t]

end Cert.KernelIdeal.Flash
end
-- ==== Proof.FlashInv.lean ====
module

public import proofs.«01_k».proof.Proof.FlashGrid

@[expose] public section

/-! After each grid point the scratches hold the maximum, the sum of the weights and the weighted sums of all scores of the
    key blocks seen so far, and on the diagonal the output block is the quotient. -/

set_option maxRecDepth 16384

noncomputable section

open Idealize.ShloMosaic Idealize.ShloMosaic.TcCoe Idealize.SL.Sem

namespace Cert.KernelIdeal.Flash

open Cert.KernelIdeal Cert.KernelIdeal.Gen Cert.KernelIdeal.Att

variable (m : (ℓ : Loc nD τ sig) → Buf (Elt Ideal) ℓ) (ρ : Dev nD → PrngReg)

/-- The masked scores of query `i` of batch `b` and head `h`, by key. -/
def scr (Q K : S16384x512.Idx → EReal) (b i : ℕ) (h : Fin 4) (key : ℕ) : EReal :=
  if hk : key ≤ i ∧ 4096 * b + i < 16384 then
    ∑ j : Fin 128, K (ix2 ⟨4096 * b + key, by omega⟩ ⟨128 * h.val + j.val, by omega⟩) * Q (ix2 ⟨4096 * b + i, by omega⟩ ⟨128 * h.val + j.val, by omega⟩)
  else ⊥

/-- One row of the values of batch `b`, by key. -/
def vlu (W : S256x16384.Idx → EReal) (b : ℕ) (h : Fin 4) (d : Fin 64) (key : ℕ) : EReal :=
  if hk : 4096 * b + key < 16384 then W (ix2 ⟨64 * h.val + d.val, by omega⟩ ⟨4096 * b + key, hk⟩) else 0

/-- The scores of a block are a stretch of the masked scores. -/
theorem blk_scr (c : Dev nD) (t : G) (f : Bool) (hf : f = true ↔ kT t.val = qT t.val) (h : Fin 4) (cc : Fin 512) :
    (fun r => sS f (iblk 0 m ρ c (1 : Fin 4) t) (iblk 0 m ρ c (0 : Fin 4) t) h r cc)
      = fun r : Fin 512 => scr (argQ m c) (argK m c) (bT t.val) (512 * qT t.val + cc.val) h (512 * kT t.val + r.val) := by
  obtain ⟨hb, hq, hk, -⟩ := tab t
  funext r
  have hr := r.isLt
  have hc := cc.isLt
  unfold sS scr
  by_cases hm : f = true ∧ cc < r
  · have e := hf.1 hm.1
    have hlt : cc.val < r.val := hm.2
    rw [if_pos hm, dif_neg (by omega)]
  · have hle : 512 * kT t.val + r.val ≤ 512 * qT t.val + cc.val := by
      by_cases e : kT t.val = qT t.val
      · have : ¬ cc.val < r.val := fun hlt => hm ⟨hf.2 e, hlt⟩
        omega
      · omega
    rw [if_neg hm, dif_pos ⟨hle, by omega⟩]
    refine Finset.sum_congr rfl fun j _ => ?_
    rw [iblk0 m ρ c t cc _ (by omega), iblk1 m ρ c t r _ (by omega)]
    congr 3
    · exact Fin.ext (by show 512 * (8 * bT t.val + kT t.val) + r.val = 4096 * bT t.val + (512 * kT t.val + r.val); omega)
    · exact Fin.ext (by show 512 * (8 * bT t.val + qT t.val) + cc.val = 4096 * bT t.val + (512 * qT t.val + cc.val); omega)

theorem blk_vlu (c : Dev nD) (t : G) (h : Fin 4) (d : Fin 64) :
    (fun r : Fin 512 => (iblk 0 m ρ c (2 : Fin 4) t : S256x512.Idx → EReal) (ix2 ⟨64 * h.val + d.val, by omega⟩ r))
      = fun r : Fin 512 => vlu (argV m c) (bT t.val) h d (512 * kT t.val + r.val) := by
  obtain ⟨hb, hq, hk, -⟩ := tab t
  funext r
  have hr := r.isLt
  unfold vlu
  rw [dif_pos (by omega), iblk2 m ρ c t _ r (by omega)]
  congr 2
  exact Fin.ext (by show 512 * (8 * bT t.val + kT t.val) + r.val = 4096 * bT t.val + (512 * kT t.val + r.val); omega)

/-- Every query and key is a number. -/
def Fin' (X : S16384x512.Idx → EReal) : Prop := ∀ i, ∃ r : ℝ, X i = r

theorem scr_real (Q K : S16384x512.Idx → EReal) (hQ : Fin' Q) (hK : Fin' K) (b i : ℕ) (h : Fin 4) (key : ℕ)
    (hk : key ≤ i ∧ 4096 * b + i < 16384) : ∃ r : ℝ, scr Q K b i h key = r := by
  unfold scr
  rw [dif_pos hk]
  choose q hq using hQ
  choose k hk' using hK
  simp only [hq, hk', ← EReal.coe_mul]
  exact ⟨_, (coe_sum _ _).symm⟩

theorem scr_top (Q K : S16384x512.Idx → EReal) (hQ : Fin' Q) (hK : Fin' K) (b i : ℕ) (h : Fin 4) (key : ℕ) : scr Q K b i h key ≠ ⊤ := by
  by_cases hk : key ≤ i ∧ 4096 * b + i < 16384
  · obtain ⟨r, hr⟩ := scr_real Q K hQ hK b i h key hk
    rw [hr]; exact EReal.coe_ne_top _
  · unfold scr; rw [dif_neg hk]; exact bot_ne_top

theorem scr_zero (Q K : S16384x512.Idx → EReal) (hQ : Fin' Q) (hK : Fin' K) (b i : ℕ) (h : Fin 4) (hi : 4096 * b + i < 16384) :
    scr Q K b i h 0 ≠ ⊥ := by
  obtain ⟨r, hr⟩ := scr_real Q K hQ hK b i h 0 ⟨Nat.zero_le _, hi⟩
  rw [hr]; exact EReal.coe_ne_bot _

/-- What the scratches hold after point `n`. -/
def Holds (c : Dev nD) (n : ℕ) (s : (S512x256.Idx → Elt Ideal .bf16) × Buf (Elt Ideal) ((c : Thread nD τ).loc cc0_scratch0)
    × Buf (Elt Ideal) ((c : Thread nD τ).loc cc0_scratch1) × Buf (Elt Ideal) ((c : Thread nD τ).loc cc0_scratch2)) : Prop :=
  ∀ (h : Fin 4) (cc : Fin 512),
    stM s.2.1 h cc = mx (scr (argQ m c) (argK m c) (bT n) (512 * qT n + cc.val) h) (512 * (kT n + 1))
    ∧ stL s.2.2.1 h cc = sumW (scr (argQ m c) (argK m c) (bT n) (512 * qT n + cc.val) h) (512 * (kT n + 1))
    ∧ ∀ d : Fin 64, stA s.2.2.2 h d cc
        = sumV (scr (argQ m c) (argK m c) (bT n) (512 * qT n + cc.val) h) (vlu (argV m c) (bT n) h d) (512 * (kT n + 1))

set_option maxHeartbeats 2000000 in
theorem step_holds (c : Dev nD) (hQ : Fin' (argQ m c)) (hK : Fin' (argK m c)) (t : G)
    (s : (S512x256.Idx → Elt Ideal .bf16) × Buf (Elt Ideal) ((c : Thread nD τ).loc cc0_scratch0)
      × Buf (Elt Ideal) ((c : Thread nD τ).loc cc0_scratch1) × Buf (Elt Ideal) ((c : Thread nD τ).loc cc0_scratch2))
    (hs : kT t.val ≠ 0 → Holds m c (t.val - 1) s) :
    Holds m c t.val (step0 0 m ρ c t s) ∧ (kT t.val = qT t.val → ∀ (h : Fin 4) (d : Fin 64) (cc : Fin 512),
      ((step0 0 m ρ c t s).1 (ix2 cc ⟨64 * h.val + d.val, by omega⟩) : EReal)
        = Ideal.div (stA (step0 0 m ρ c t s).2.2.2 h d cc) (stL (step0 0 m ρ c t s).2.2.1 h cc)) := by
  obtain ⟨hb, hq, hk, hp⟩ := tab t
  have S1 : ∀ (h : Fin 4) (cc : Fin 512) (i : ℕ), scr (argQ m c) (argK m c) (bT t.val) (512 * qT t.val + cc.val) h i ≠ ⊤ :=
    fun h cc i => scr_top _ _ hQ hK _ _ _ _
  have S0 : ∀ (h : Fin 4) (cc : Fin 512), scr (argQ m c) (argK m c) (bT t.val) (512 * qT t.val + cc.val) h 0 ≠ ⊥ :=
    fun h cc => scr_zero _ _ hQ hK _ _ _ (by have := cc.isLt; omega)
  by_cases q0 : P0_0 0 t
  · have k0 : kT t.val = 0 := (dec0 t).1 q0
    have Z := fun (h : Fin 4) (d : Fin 64) (cc : Fin 512) => zero_state (scr (argQ m c) (argK m c) (bT t.val) (512 * qT t.val + cc.val) h) (vlu (argV m c) (bT t.val) h d)
    by_cases q1 : P0_1 0 t
    · have k1 := (dec1 t).1 q1
      rw [step0_B 0 m ρ c t s q0 q1]
      refine ⟨fun h cc => ⟨?_, ?_, fun d => ?_⟩, fun e => absurd e (by omega)⟩
      · rw [B_stM, blk_scr m ρ c t false (by simp; omega), ← nM_block, k0, (Z h 0 cc).1]
      · rw [B_stL, blk_scr m ρ c t false (by simp; omega), ← nL_block _ (S1 h cc) (S0 h cc), k0, (Z h 0 cc).1, (Z h 0 cc).2.1]
      · rw [B_stA, blk_scr m ρ c t false (by simp; omega), blk_vlu m ρ c t h d, ← nA_block _ _ (S1 h cc) (S0 h cc), k0, (Z h d cc).1, (Z h d cc).2.2]
    · have k1 : kT t.val = qT t.val := by have := (dec1 t).not.1 q1; omega
      rw [step0_A 0 m ρ c t s q0 q1]
      refine ⟨fun h cc => ⟨?_, ?_, fun d => ?_⟩, fun _ h d cc => by dsimp only; rw [A_out]⟩
      · rw [A_stM, blk_scr m ρ c t true (by simp; omega), ← nM_block, k0, (Z h 0 cc).1]
      · rw [A_stL, blk_scr m ρ c t true (by simp; omega), ← nL_block _ (S1 h cc) (S0 h cc), k0, (Z h 0 cc).1, (Z h 0 cc).2.1]
      · rw [A_stA, blk_scr m ρ c t true (by simp; omega), blk_vlu m ρ c t h d, ← nA_block _ _ (S1 h cc) (S0 h cc), k0, (Z h d cc).1, (Z h d cc).2.2]
  · have k0 : kT t.val ≠ 0 := (dec0 t).not.1 q0
    obtain ⟨_, e1, e2, e3⟩ := hp k0
    have I := hs k0
    unfold Holds at I
    rw [e1, e2, e3] at I
    by_cases q1 : P0_1 0 t
    · have k1 := (dec1 t).1 q1
      rw [step0_D 0 m ρ c t s q0 q1]
      refine ⟨fun h cc => ⟨?_, ?_, fun d => ?_⟩, fun e => absurd e (by omega)⟩
      · rw [D_stM, blk_scr m ρ c t false (by simp; omega), ← nM_block, (I h cc).1]
      · rw [D_stL, blk_scr m ρ c t false (by simp; omega), ← nL_block _ (S1 h cc) (S0 h cc), (I h cc).1, (I h cc).2.1]
      · rw [D_stA, blk_scr m ρ c t false (by simp; omega), blk_vlu m ρ c t h d, ← nA_block _ _ (S1 h cc) (S0 h cc), (I h cc).1, (I h cc).2.2 d]
    · have k1 : kT t.val = qT t.val := by have := (dec1 t).not.1 q1; omega
      rw [step0_C 0 m ρ c t s q0 q1]
      refine ⟨fun h cc => ⟨?_, ?_, fun d => ?_⟩, fun _ h d cc => by dsimp only; rw [C_out]⟩
      · rw [C_stM, blk_scr m ρ c t true (by simp; omega), ← nM_block, (I h cc).1]
      · rw [C_stL, blk_scr m ρ c t true (by simp; omega), ← nL_block _ (S1 h cc) (S0 h cc), (I h cc).1, (I h cc).2.1]
      · rw [C_stA, blk_scr m ρ c t true (by simp; omega), blk_vlu m ρ c t h d, ← nA_block _ _ (S1 h cc) (S0 h cc), (I h cc).1, (I h cc).2.2 d]

theorem traj_holds (c : Dev nD) (hQ : Fin' (argQ m c)) (hK : Fin' (argK m c)) : ∀ (n : ℕ) (hn : n < (cfgA 0).N), Holds m c n (traj0 0 m ρ c n hn)
  | 0, hn => (step_holds m ρ c hQ hK ⟨0, hn⟩ _ fun h => absurd rfl h).1
  | n + 1, hn => (step_holds m ρ c hQ hK ⟨n + 1, hn⟩ _ fun _ => traj_holds c hQ hK n (Nat.lt_of_succ_lt hn)).1

/-- The output block of a diagonal point. -/
theorem out_holds (c : Dev nD) (hQ : Fin' (argQ m c)) (hK : Fin' (argK m c)) (t : G) (hd : kT t.val = qT t.val) (h : Fin 4) (d : Fin 64) (cc : Fin 512) :
    ((traj0 0 m ρ c t.val t.isLt).1 (ix2 cc ⟨64 * h.val + d.val, by omega⟩) : EReal)
      = Ideal.div (sumV (scr (argQ m c) (argK m c) (bT t.val) (512 * qT t.val + cc.val) h) (vlu (argV m c) (bT t.val) h d) (512 * (qT t.val + 1)))
          (sumW (scr (argQ m c) (argK m c) (bT t.val) (512 * qT t.val + cc.val) h) (512 * (qT t.val + 1))) := by
  have H := traj_holds m ρ c hQ hK t.val t.isLt h cc
  have H1 := H.2.1
  have H2 := H.2.2 d
  rw [hd] at H1 H2
  rw [← H1, ← H2]
  obtain ⟨n, hn⟩ := t
  cases n with
  | zero => exact (step_holds m ρ c hQ hK ⟨0, hn⟩ _ fun h => absurd rfl h).2 hd h d cc
  | succ n => exact (step_holds m ρ c hQ hK ⟨n + 1, hn⟩ _ fun _ => traj_holds m ρ c hQ hK n (Nat.lt_of_succ_lt hn)).2 hd h d cc

end Cert.KernelIdeal.Flash
end
-- ==== Proof.FlashRef.lean ====
module

public import proofs.«01_k».proof.Proof.FlashInv
public import proofs.«01_k».proof.Proof.Gen.ReferenceIdeal.Run

@[expose] public section

/-! The attention reference, entry by entry: the softmax average of the values over all keys, the later keys masked. -/

set_option maxRecDepth 16384

noncomputable section

open Idealize.ShloMosaic Idealize.ShloMosaic.TcCoe Idealize.SL.Sem

namespace Cert.ReferenceIdeal.Flash

open Cert.ReferenceIdeal Cert.ReferenceIdeal.Gen

/-- The masked scores, by batch, head, query and key. -/
def sc (Q K : FVec Ideal S16384x512 .bf16) : FVec Ideal S4x4x4096x4096 .f32 :=
  select (broadcastInDim S4x4x4096x4096 ![2, 3] bcast_S4096x4096_S4x4x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (Host.dotGeneral dot_S4x4096x4x128_S4x4096x4x128_S4x4x4096x4096_3_3_1_1_02_02 none (shapeCast _ (extf .f32 Q bitsLt_bf16_f32) shapeCasts_S16384x512_S4x4096x4x128) (shapeCast _ (extf .f32 K bitsLt_bf16_f32) shapeCasts_S16384x512_S4x4096x4x128)) (broadcastInDim S4x4x4096x4096 ![] bcast_S_S4x4x4096x4096 (Host.log (constant S_ .f32 0x40000000#32))))
    (broadcastInDim S4x4x4096x4096 ![] bcast_S_S4x4x4096x4096 (id (constant S_ .f32 0xFF800000#32)))

/-- The largest score of each row. -/
def rmax (s : FVec Ideal S4x4x4096x4096 .f32) : FVec Ideal S4x4x4096 .f32 :=
  maximumf (broadcastInDim S4x4x4096 ![] bcast_S_S4x4x4096 (constant S_ .f32 0xFF800000#32)) (Host.reduce FloatOps.maximumf s (constant S_ .f32 0xFF800000#32) reducesTo_S4x4x4096x4096_S4x4x4096_d3 h_S_)

/-- The weights before and after dividing by their sum. -/
def wts (s : FVec Ideal S4x4x4096x4096 .f32) : FVec Ideal S4x4x4096x4096 .f32 :=
  Host.exp (subf s (broadcastInDim S4x4x4096x4096 ![0, 1, 2, 3] bcast_S4x4x4096x1_S4x4x4096x4096_0_1_2_3 (broadcastInDim S4x4x4096x1 ![0, 1, 2] bcast_S4x4x4096_S4x4x4096x1_0_1_2 (rmax s))))
def soft (w : FVec Ideal S4x4x4096x4096 .f32) : FVec Ideal S4x4x4096x4096 .f32 :=
  Host.divf w (broadcastInDim S4x4x4096x4096 ![0, 1, 2, 3] bcast_S4x4x4096x1_S4x4x4096x4096_0_1_2_3 (broadcastInDim S4x4x4096x1 ![0, 1, 2] bcast_S4x4x4096_S4x4x4096x1_0_1_2 (Host.reduceAdd w (constant S_ .f32 0x00000000#32) reducesTo_S4x4x4096x4096_S4x4x4096_d3 h_S_)))

/-- The average of the values. -/
def avg (W : FVec Ideal S256x16384 .bf16) (p : FVec Ideal S4x4x4096x4096 .f32) : FVec Ideal S4x4x64x4096 .f32 :=
  Host.dotGeneral dot_S4x64x4x4096_S4x4x4096x4096_S4x4x64x4096_3_3_1_2_20_01 none (shapeCast _ (extf .f32 W bitsLt_bf16_f32) shapeCasts_S256x16384_S4x64x4x4096) p

/-- The reference's result as one term of its three arguments. -/
def ref (Q K : FVec Ideal S16384x512 .bf16) (W : FVec Ideal S256x16384 .bf16) : FVec Ideal S16384x256 .bf16 :=
  truncf .bf16 (shapeCast _ (transpose S4x4096x4x64 [0, 3, 1, 2] (avg W (soft (wts (sc Q K)))) transposes_S4x4x64x4096_S4x4096x4x64_0_3_1_2) shapeCasts_S4x4096x4x64_S16384x256) bitsLt_bf16_f32

theorem res_eq (m : (ℓ : Loc nD τ sig) → Buf (Elt Ideal) ℓ) (c : Dev nD) :
    Value.res_main_v31 m c = ref (m ((c.tc : Thread nD τ).loc main_arg0)) (m ((c.tc : Thread nD τ).loc main_arg1)) (m ((c.tc : Thread nD τ).loc main_arg2)) := rfl

theorem log_two : Ideal.log (Ideal.ofBits FTy.f32 1073741824#32) = ((Real.log 2 : ℝ) : EReal) := by
  have : Ideal.ofBits FTy.f32 1073741824#32 = ((2 : ℝ) : EReal) := by
    simp [Ideal.ofBits, Ideal.ieee, -EReal.coe_mul]; norm_num
  rw [this]
  show Ideal.log ((2 : ℝ) : EReal) = _
  show (if (2 : ℝ) ≤ 0 then (⊥ : EReal) else ((Real.log 2 : ℝ) : EReal)) = _
  rw [if_neg (by norm_num)]

theorem toInt_small (n : ℕ) (h : n < 4096) : (BitVec.ofNat 32 n).toInt = (n : ℤ) := by
  rw [BitVec.toInt_eq_toNat_of_lt] <;> simp only [BitVec.toNat_ofNat] <;> omega

theorem sc_at (Q K : FVec Ideal S16384x512 .bf16) (b h : Fin 4) (q k : Fin 4096) :
    (sc Q K (ix4 b h q k) : EReal) = if k ≤ q then (∑ j : Fin 128, (Q (ix2 ⟨4096 * b.val + q.val, by omega⟩ ⟨128 * h.val + j.val, by omega⟩) : EReal)
      * K (ix2 ⟨4096 * b.val + k.val, by omega⟩ ⟨128 * h.val + j.val, by omega⟩)) * ((Real.log 2 : ℝ) : EReal) else ⊥ := by
  pointwise [sc]
  rw [log_two]
  have hr := k.isLt
  have hc := q.isLt
  have eQ : (⟨b.val * 4096 + q.val, by omega⟩ : Fin 16384) = ⟨4096 * b.val + q.val, by omega⟩ := Fin.ext (by show b.val * 4096 + q.val = 4096 * b.val + q.val; omega)
  have eK : (⟨b.val * 4096 + k.val, by omega⟩ : Fin 16384) = ⟨4096 * b.val + k.val, by omega⟩ := Fin.ext (by show b.val * 4096 + k.val = 4096 * b.val + k.val; omega)
  have eJ : ∀ j : Fin 128, (⟨h.val * 128 + j.val, by omega⟩ : Fin 512) = ⟨128 * h.val + j.val, by omega⟩ := fun j => Fin.ext (by show h.val * 128 + j.val = 128 * h.val + j.val; omega)
  simp only [eQ, eK, eJ]
  by_cases hh : k ≤ q
  · have : IntOp.cmpi CmpIPredicate.sle (BitVec.ofNat 32 k.val) (BitVec.ofNat 32 q.val) = 1#1 := by
      have h' : (k.val : ℤ) ≤ (q.val : ℤ) := by exact_mod_cast hh
      simp only [IntOp.cmpi, BitVec.sle_eq_decide, toInt_small _ hr, toInt_small _ hc, h', decide_true]
      rfl
    rw [this, if_pos hh]; rfl
  · have : IntOp.cmpi CmpIPredicate.sle (BitVec.ofNat 32 k.val) (BitVec.ofNat 32 q.val) = 0#1 := by
      have h' : ¬ (k.val : ℤ) ≤ (q.val : ℤ) := by exact_mod_cast hh
      simp only [IntOp.cmpi, BitVec.sle_eq_decide, toInt_small _ hr, toInt_small _ hc, h', decide_false]
      rfl
    rw [this, if_neg hh]
    exact Cert.KernelIdeal.Flash.neg_inf

/-- The maximum along the last axis, at any sizes. -/
theorem max_last {n0 n1 n2 n3 : ℕ} (s : FVec Ideal (⟨4, ![n0, n1, n2, n3]⟩ : Shape) .f32)
    (r : (⟨4, ![n0, n1, n2, n3]⟩ : Shape).ReducesTo [3] (⟨3, ![n0, n1, n2]⟩ : Shape)) (hu : 0 < S_.numel) (b : Fin n0) (h : Fin n1) (q : Fin n2) :
    (Host.reduce FloatOps.maximumf s (constant (F := Idealize.ShloMosaic.Ideal) S_ .f32 0xFF800000#32) r hu (ix3 b h q) : Idealize.ShloMosaic.Ideal .f32) = Finset.univ.sup fun k : Fin n3 => (s (ix4 b h q k) : EReal) := by
  pointwise
  rw [Cert.KernelIdeal.Flash.neg_inf]
  rfl

/-- Minus infinity is no larger than any entry. -/
theorem max_bot {n0 n1 n2 : ℕ} (M : FVec Ideal (⟨3, ![n0, n1, n2]⟩ : Shape) .f32) (hb : S_.BroadcastsInDim (⟨3, ![n0, n1, n2]⟩ : Shape) ![])
    (b : Fin n0) (h : Fin n1) (q : Fin n2) :
    (maximumf (broadcastInDim (⟨3, ![n0, n1, n2]⟩ : Shape) ![] hb (constant (F := Idealize.ShloMosaic.Ideal) S_ .f32 0xFF800000#32)) M (ix3 b h q) : EReal) = M (ix3 b h q) := by
  pointwise
  rw [Cert.KernelIdeal.Flash.neg_inf]
  exact max_eq_right bot_le

theorem rmax_at (s : FVec Ideal S4x4x4096x4096 .f32) (b h : Fin 4) (q : Fin 4096) :
    (rmax s (ix3 b h q) : EReal) = Finset.univ.sup fun k : Fin 4096 => (s (ix4 b h q k) : EReal) :=
  (max_bot (Host.reduce FloatOps.maximumf s (constant (F := Idealize.ShloMosaic.Ideal) S_ .f32 0xFF800000#32) reducesTo_S4x4x4096x4096_S4x4x4096_d3 h_S_) bcast_S_S4x4x4096 b h q).trans
    (max_last s reducesTo_S4x4x4096x4096_S4x4x4096_d3 h_S_ b h q)

theorem wts_at (s : FVec Ideal S4x4x4096x4096 .f32) (b h : Fin 4) (q k : Fin 4096) :
    (wts s (ix4 b h q k) : EReal) = Ideal.exp (s (ix4 b h q k) - rmax s (ix3 b h q)) := by
  pointwise [wts]

theorem soft_at (w : FVec Ideal S4x4x4096x4096 .f32) (b h : Fin 4) (q k : Fin 4096) :
    (soft w (ix4 b h q k) : EReal) = Ideal.div (w (ix4 b h q k)) (∑ j : Fin 4096, (w (ix4 b h q j) : EReal)) := by
  pointwise [soft]

theorem avg_at (W : FVec Ideal S256x16384 .bf16) (p : FVec Ideal S4x4x4096x4096 .f32) (b h : Fin 4) (d : Fin 64) (q : Fin 4096) :
    (avg W p (ix4 b h d q) : EReal) = ∑ k : Fin 4096, (W (ix2 ⟨64 * h.val + d.val, by omega⟩ ⟨4096 * b.val + k.val, by omega⟩) : EReal) * p (ix4 b h q k) := by
  pointwise [avg]
  refine Finset.sum_congr rfl fun k _ => ?_
  congr 3
  · exact Fin.ext (by show h.val * 64 + d.val = 64 * h.val + d.val; omega)
  · exact Fin.ext (by show b.val * 4096 + k.val = 4096 * b.val + k.val; omega)

theorem ref_at (Q K : FVec Ideal S16384x512 .bf16) (W : FVec Ideal S256x16384 .bf16) (b h : Fin 4) (d : Fin 64) (q : Fin 4096) :
    (ref Q K W (ix2 ⟨4096 * b.val + q.val, by omega⟩ ⟨64 * h.val + d.val, by omega⟩) : EReal) = avg W (soft (wts (sc Q K))) (ix4 b h d q) := by
  pointwise [ref]

end Cert.ReferenceIdeal.Flash
end
-- ==== Proof.FlashFinite.lean ====
module

public import proofs.«01_k».proof.Pre_finite
public import proofs.«01_k».proof.Proof.FlashInv

@[expose] public section

/-! What the precondition says: every query and every key is a number. -/

noncomputable section

open Idealize.ShloMosaic

namespace Cert.Pre_finite

/-- A conjunction that is true is true of every member. -/
theorem fold_and {ι : Type} [DecidableEq ι] (s : Finset ι) (f : ι → BitVec 1) (b : BitVec 1) :
    s.fold IntOp.andi b f = 1#1 → ∀ i ∈ s, f i = 1#1 := by
  have two : ∀ x y : BitVec 1, IntOp.andi x y = 1#1 → x = 1#1 ∧ y = 1#1 := by decide
  induction s using Finset.induction_on with
  | empty => intro _ i hi; exact absurd hi (Finset.notMem_empty i)
  | insert a s ha ih =>
    intro h i hi
    rw [Finset.fold_insert ha] at h
    obtain ⟨h1, h2⟩ := two _ _ h
    rcases Finset.mem_insert.1 hi with e | e
    · rw [e]; exact h1
    · exact ih h2 i e

/-- The same of a reduction over every axis. -/
theorem reduce_and {s u : Shape} {axes : List (Fin s.rank)} (x : s.Idx → BitVec 1) (v : u.Idx → BitVec 1)
    (r : s.ReducesTo axes (⟨0, ![]⟩ : Shape)) (hu : 0 < u.numel) (j : (⟨0, ![]⟩ : Shape).Idx)
    (h : Host.reduce IntOp.andi x v r hu j = 1#1) (i : s.Idx) : x i = 1#1 := by
  rw [Host.reduce_eq_fold] at h
  refine fold_and _ _ _ h i (Finset.mem_filter.2 ⟨Finset.mem_univ _, ?_⟩)
  funext a
  exact a.elim0

theorem inf_top : Ideal.ofBits FTy.f32 2139095040#32 = ⊤ := by
  simp [Ideal.ofBits, Ideal.ieee, -EReal.coe_mul]

/-- A number whose size is below infinity is a real number. -/
theorem real_of_abs (x : EReal) (h : Ideal.cmp CmpFPredicate.olt (max x (-x)) ⊤ = 1#1) : ∃ r : ℝ, x = r := by
  have h' : max x (-x) < ⊤ := by
    by_contra hn
    have : Ideal.cmp CmpFPredicate.olt (max x (-x)) ⊤ = BitVec.ofBool false := by
      show BitVec.ofBool (decide (max x (-x) < ⊤)) = _
      rw [decide_eq_false hn]
    rw [this] at h
    exact absurd h (by decide)
  induction x with
  | bot => simp at h'
  | top => simp at h'
  | coe r => exact ⟨r, rfl⟩

variable [Facts]

theorem all_real {s : Shape} {axes : List (Fin s.rank)} (X : FVec Ideal s .bf16) (hl : FTy.bits .bf16 < FTy.bits .f32) (hb : S_.BroadcastsInDim s (![] : Fin 0 → Fin s.rank))
    (r : s.ReducesTo axes S_) (hu : 0 < S_.numel) (v : IVec S_ 1) (j : S_.Idx)
    (h : Host.reduce IntOp.andi (cmpf .olt (Host.absf (extf .f32 X hl)) (broadcastInDim s ![] hb (constant (F := Ideal) S_ .f32 0x7F800000#32))) v r hu j = 1#1)
    (i : s.Idx) : ∃ a : ℝ, (X i : EReal) = a := by
  have H := reduce_and _ _ r hu j h i
  refine real_of_abs _ ?_
  rw [← inf_top]
  exact H

theorem finite_of_fn (Q K : FVec Ideal S16384x512 .bf16) (W : FVec Ideal S256x16384 .bf16) (h : fn Q K W = fun _ => 1#1) :
    Cert.KernelIdeal.Flash.Fin' Q ∧ Cert.KernelIdeal.Flash.Fin' K := by
  have two : ∀ x y : BitVec 1, IntOp.andi x y = 1#1 → x = 1#1 ∧ y = 1#1 := by decide
  obtain ⟨h1, h2⟩ := two _ _ (congrFun h (fun a => a.elim0))
  exact ⟨all_real Q _ _ _ _ _ _ h1, all_real K _ _ _ _ _ _ h2⟩

/-- The side conditions of the precondition's operations. -/
instance facts : Facts where
  bitsLt_bf16_f32 := by decide
  bcast_S_S16384x512 := by decide
  reducesTo_S16384x512_S_d0_1 := by decide
  h_S_ := by decide

end Cert.Pre_finite

end
-- ==== Proof.FlashPair.lean ====
module

public import proofs.«01_k».proof.Defs
public import proofs.«01_k».proof.Proof.FlashRef
public import proofs.«01_k».proof.Proof.FlashFinite
public import proofs.«01_k».proof.Proof.Gen.ReferenceIdeal.Run

@[expose] public section

/-! The attention kernel's array is its reference's array, and the two programs' value claim. -/

set_option maxRecDepth 16384

noncomputable section

open Idealize.ShloMosaic Idealize.ShloMosaic.TcCoe Idealize.SL.Sem

namespace Cert.KernelIdeal.Flash

open Cert.KernelIdeal Cert.KernelIdeal.Gen Cert.KernelIdeal.Att Cert.ReferenceIdeal.Flash

theorem sup_range {N : ℕ} (T : ℕ → EReal) : (Finset.range N).sup T = Finset.univ.sup fun k : Fin N => T k.val := by
  refine le_antisymm (Finset.sup_le fun i hi => ?_) (Finset.sup_le fun i _ => ?_)
  · exact Finset.le_sup (f := fun k : Fin N => T k.val) (Finset.mem_univ (⟨i, Finset.mem_range.1 hi⟩ : Fin N))
  · exact Finset.le_sup (f := T) (Finset.mem_range.2 i.isLt)

/-- The softmax average over all `N` keys is the quotient of the running sums over the first `n`, the others being masked. -/
theorem softmax_fin {N : ℕ} (S V : ℕ → EReal) (hS : ∀ i, S i ≠ ⊤) (h0 : S 0 ≠ ⊥) (n : ℕ) (hn : 0 < n) (hN : n ≤ N) (hm : ∀ i, n ≤ i → S i = ⊥)
    (s v w p : Fin N → EReal) (x : EReal) (hs : ∀ k : Fin N, s k = S k.val * ((Real.log 2 : ℝ) : EReal)) (hv : ∀ k : Fin N, v k = V k.val)
    (hx : x = Finset.univ.sup s) (hw : ∀ k, w k = Ideal.exp (s k - x)) (hp : ∀ k, p k = Ideal.div (w k) (∑ j, w j)) :
    ∑ k : Fin N, v k * p k = Ideal.div (sumV S V n) (sumW S n) := by
  have hse : s = fun k => S k.val * ((Real.log 2 : ℝ) : EReal) := funext hs
  rw [← softmax_eq S V hS h0 n N hn hN hm (fun i => S i * ((Real.log 2 : ℝ) : EReal)) (fun _ => rfl), Finset.sum_range, Finset.sum_range, sup_range]
  refine Finset.sum_congr rfl fun k _ => ?_
  rw [hv, hp]
  simp only [hw, hx, hse]

/-- The reference's scores are the kernel's, times the logarithm of two. -/
theorem sc_scr (Q K : FVec Ideal Cert.ReferenceIdeal.S16384x512 .bf16) (b h : Fin 4) (q k : Fin 4096) :
    (sc Q K (ix4 b h q k) : EReal) = scr Q K b.val q.val h k.val * ((Real.log 2 : ℝ) : EReal) := by
  have hb := b.isLt
  have hq := q.isLt
  rw [sc_at]
  unfold scr
  by_cases hh : k ≤ q
  · have h' : k.val ≤ q.val := hh
    rw [if_pos hh, dif_pos ⟨h', by omega⟩]
    congr 1
    exact Finset.sum_congr rfl fun j _ => mul_comm _ _
  · have h' : ¬ k.val ≤ q.val := hh
    rw [if_neg hh, dif_neg fun e => h' e.1]
    exact (EReal.bot_mul_coe_of_pos (Real.log_pos (by norm_num))).symm

/-- An entry of the reference as the quotient of the running sums. -/
theorem ref_quot (Q K : FVec Ideal Cert.ReferenceIdeal.S16384x512 .bf16) (W : FVec Ideal Cert.ReferenceIdeal.S256x16384 .bf16) (hQ : Fin' Q) (hK : Fin' K)
    (b h : Fin 4) (d : Fin 64) (q : Fin 4096) (n : ℕ) (hn : q.val < n) (hN : n ≤ 4096) :
    (ref Q K W (ix2 ⟨4096 * b.val + q.val, by omega⟩ ⟨64 * h.val + d.val, by omega⟩) : EReal)
      = Ideal.div (sumV (scr Q K b.val q.val h) (vlu W b.val h d) n) (sumW (scr Q K b.val q.val h) n) := by
  have hb := b.isLt
  have hq := q.isLt
  rw [ref_at, avg_at]
  refine softmax_fin (scr Q K b.val q.val h) (vlu W b.val h d) (fun i => scr_top Q K hQ hK _ _ h i) (scr_zero Q K hQ hK _ _ h (by omega)) n (by omega) hN
    (fun i hi => ?_) (fun k => sc Q K (ix4 b h q k)) _ (fun k => wts (sc Q K) (ix4 b h q k)) _ (rmax (sc Q K) (ix3 b h q)) (fun k => sc_scr Q K b h q k) (fun k => ?_)
    (rmax_at _ b h q) (fun k => wts_at _ b h q k) (fun k => soft_at _ b h q k)
  · unfold scr
    rw [dif_neg fun e => by omega]
  · have hk := k.isLt
    unfold vlu
    rw [dif_pos (by omega)]

variable (m : (ℓ : Loc nD τ sig) → Buf (Elt Ideal) ℓ) (ρ : Dev nD → PrngReg)

/-- What a diagonal point stores is the reference at the array index it sits at. -/
theorem point (c : Dev nD) (hQ : Fin' (argQ m c)) (hK : Fin' (argK m c)) (t : G) (hd : kT t.val = qT t.val) (y : S512x256.Idx) :
    ((traj0 0 m ρ c t.val t.isLt).1 y : EReal) = ref (argQ m c) (argK m c) (argV m c) ((((cfgA 0).win 3).blk t).view.emb y) := by
  obtain ⟨hb, hq, hk, -⟩ := tab t
  have h0 : (y 0).val < 512 := (y 0).isLt
  have h1 : (y 1).val < 256 := (y 1).isLt
  have hy : y = (ix2 (⟨(y 0).val, h0⟩ : Fin 512) (⟨64 * ((y 1).val / 64) + (y 1).val % 64, by omega⟩ : Fin 256) : S512x256.Idx) := by
    funext a
    fin_cases a
    · rfl
    · exact Fin.ext (by show (y 1).val = 64 * ((y 1).val / 64) + (y 1).val % 64; omega)
  have he := out_holds m ρ c hQ hK t hd ⟨(y 1).val / 64, by omega⟩ ⟨(y 1).val % 64, by omega⟩ ⟨(y 0).val, h0⟩
  have hr := ref_quot (argQ m c) (argK m c) (argV m c) hQ hK ⟨bT t.val, hb⟩ ⟨(y 1).val / 64, by omega⟩ ⟨(y 1).val % 64, by omega⟩
    ⟨512 * qT t.val + (y 0).val, by omega⟩ (512 * (qT t.val + 1)) (by show 512 * qT t.val + (y 0).val < 512 * (qT t.val + 1); omega) (by omega)
  rw [hy, emb3 t _ _ (by show 512 * (8 * bT t.val + qT t.val) + (y 0).val < 16384; omega)]
  refine he.trans (hr.symm.trans ?_)
  congr 2
  exact Fin.ext (by show 4096 * bT t.val + (512 * qT t.val + (y 0).val) = 512 * (8 * bT t.val + qT t.val) + (y 0).val; omega)

/-- The kernel's result array is the reference's term of the same arguments. -/
theorem final (c : Dev nD) (hQ : Fin' (argQ m c)) (hK : Fin' (argK m c)) :
    (dats 0 m ρ 0 c).arrAt (3 : Fin 4) (cfgA 0).N = ref (argQ m c) (argK m c) (argV m c) := by
  refine (dats 0 m ρ 0 c).arrAt_eq_of_covers (3 : Fin 4) _ (by decide +kernel) fun t hf y => ?_
  blk_simp
  rw [after0_3]
  exact point m ρ c hQ hK t (flush_iff t hf) y

end Cert.KernelIdeal.Flash

namespace Cert.Proof

open Cert.KernelIdeal.Flash

/-- The attention call and its reference, from equal arguments with real queries and keys, end with equal results. -/
theorem algebraicFlash : algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => Cert.ReferenceIdeal.Flash.ref (argQ m c) (argK m c) (argV m c), ?_, ?_⟩
  · refine (θ_run _ _ _).mono (fun r h c => ?_) (Cert.KernelIdeal.Att.run_main 0 m g)
    obtain ⟨hQ, hK⟩ := Cert.Pre_finite.finite_of_fn _ _ _ (hpre c)
    exact ⟨((h c).1 (3 : Fin 4)).trans (final m g c hQ hK),
      ((h c).1 (0 : Fin 4)).trans ((Cert.KernelIdeal.Att.dats 0 m g 0 c).arrAt_in (0 : Fin 4) rfl _),
      ((h c).1 (1 : Fin 4)).trans ((Cert.KernelIdeal.Att.dats 0 m g 0 c).arrAt_in (1 : Fin 4) rfl _),
      ((h c).1 (2 : Fin 4)).trans ((Cert.KernelIdeal.Att.dats 0 m g 0 c).arrAt_in (2 : Fin 4) rfl _)⟩
  · refine (θ_run _ _ _).mono (fun r h c => ⟨(h c).1.trans ?_, (h c).2⟩) (Cert.ReferenceIdeal.Value.run m' g')
    refine (Cert.ReferenceIdeal.Flash.res_eq m' c).trans ?_
    rw [(hagree c).1, (hagree c).2.1, (hagree c).2.2]

end Cert.Proof

end
-- ==== Proof.lean ====
/- The certificate's last step: each conjunct of `Cert.Claim` from the modules beside this one. The frames of the
   attention call are `Proof/AttBits` and `Proof/AttIdeal`; the value claims of the other calls are `Proof/Mlp`, `Proof/MlpInner`,
   `Proof/InProj`, `Proof/InProjGates`, `Proof/Merge`, `Proof/MlaPrep` and `Proof/DsaPrep`; the attention's value claim is `Proof/FlashPair`. -/
module

public import proofs.«01_k».proof.Defs
public import proofs.«01_k».proof.Proof.AttBits.Run
public import proofs.«01_k».proof.Proof.AttIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.InProj
public import proofs.«01_k».proof.Proof.InProjGates
public import proofs.«01_k».proof.Proof.Merge
public import proofs.«01_k».proof.Proof.Mlp
public import proofs.«01_k».proof.Proof.MlpInner
public import proofs.«01_k».proof.Proof.MlaPrep
public import proofs.«01_k».proof.Proof.DsaPrep
public import proofs.«01_k».proof.Proof.Gen.ReferenceIdeal.Run
public import proofs.«01_k».proof.Proof.FlashPair
public import Idealize.ShloMosaic.Adequacy
public import Idealize.ShloMosaic.Init

@[expose] public section

noncomputable section

namespace Cert.Proof

open Idealize.ShloMosaic Idealize.SL.Sem

/-- The last feed-forward call and its reference, from equal arguments, end with equal results. -/
theorem algebraic2 : algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    refine (Cert.Kernel2Ideal.Mlp.res_eq m' c).trans ?_
    rw [(hagree c).1, (hagree c).2.1, (hagree c).2.2.1, (hagree c).2.2.2.1, (hagree c).2.2.2.2]
    exact (Cert.Kernel2Ideal.Mlp.final m c).symm

/-- The 32-bit input projection and its reference, from equal arguments, end with equal results. -/
theorem algebraic3 : algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    exact (Cert.Kernel3Ideal.InProj.final m c).symm

/-- The gates' input projection and its reference, from equal arguments, end with equal results. -/
theorem algebraic4 : algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    exact (Cert.Kernel4Ideal.InProjGates.final m c).symm

/-- The merge and its reference, from equal arguments, end with equal results. -/
theorem algebraic5 : algebraic_Kernel5Ideal_Reference5Ideal (hKernel5Ideal := Cert.Kernel5Ideal.Gen.facts) (hReference5Ideal := Cert.Reference5Ideal.Gen.facts) := by
  pair_intro
  · run_from Cert.Kernel5Ideal.Value.run_blocks m g
  · run_from Cert.Reference5Ideal.Value.run m' g'
    exact (Cert.Kernel5Ideal.Merge.final m c).symm

/-- The feed-forward call of the earlier layers and its reference, from equal arguments, end with equal results. -/
theorem algebraic6 : algebraic_Kernel6Ideal_Reference6Ideal (hKernel6Ideal := Cert.Kernel6Ideal.Gen.facts) (hReference6Ideal := Cert.Reference6Ideal.Gen.facts) := by
  pair_intro
  · run_from Cert.Kernel6Ideal.Value.run_blocks m g
  · run_from Cert.Reference6Ideal.Value.run m' g'
    exact (Cert.Kernel6Ideal.MlpInner.final m c).symm

/-- The second layer's projection and its reference, from equal arguments, end with equal results. -/
theorem algebraic7 : algebraic_Kernel7Ideal_Reference7Ideal (hKernel7Ideal := Cert.Kernel7Ideal.Gen.facts) (hReference7Ideal := Cert.Reference7Ideal.Gen.facts) := by
  pair_intro
  · run_from Cert.Kernel7Ideal.Value.run_blocks m g
  · run_from Cert.Reference7Ideal.Value.run m' g'
    · refine (Cert.Kernel7Ideal.MlaPrep.res_q m' c).trans ?_
      rw [(hagree c).1, (hagree c).2.1, (hagree c).2.2.1, (hagree c).2.2.2.2.1]
      exact (Cert.Kernel7Ideal.MlaPrep.final_q m c).symm
    · refine (Cert.Kernel7Ideal.MlaPrep.res_k m' c).trans ?_
      rw [(hagree c).1, (hagree c).2.1, (hagree c).2.2.2.1, (hagree c).2.2.2.2.2.1]
      exact (Cert.Kernel7Ideal.MlaPrep.final_k m c).symm
    · exact (Cert.Kernel7Ideal.MlaPrep.final_v m c).symm

/-- The sparse branch's preparation and its reference, from equal arguments, end with equal results. -/
theorem algebraic8 : algebraic_Kernel8Ideal_Reference8Ideal (hKernel8Ideal := Cert.Kernel8Ideal.Gen.facts) (hReference8Ideal := Cert.Reference8Ideal.Gen.facts) := by
  pair_intro
  · run_from Cert.Kernel8Ideal.Value.run_blocks m g
  · run_from Cert.Reference8Ideal.Value.run m' g'
    · refine (Cert.Kernel8Ideal.DsaPrep.res_refIk m' c).trans ?_
      rw [(hagree c).1, (hagree c).2]
      exact (Cert.Kernel8Ideal.DsaPrep.final_ik m c).symm
    · refine (Cert.Kernel8Ideal.DsaPrep.res_refK m' c).trans ?_
      rw [(hagree c).1, (hagree c).2]
      exact (Cert.Kernel8Ideal.DsaPrep.final_k m c).symm
    · exact (Cert.Kernel8Ideal.DsaPrep.final_v m c).symm
    · refine (Cert.Kernel8Ideal.DsaPrep.res_refIq m' c).trans ?_
      rw [(hagree c).1, (hagree c).2]
      exact (Cert.Kernel8Ideal.DsaPrep.final_iq m c).symm
    · refine (Cert.Kernel8Ideal.DsaPrep.res_refQ m' c).trans ?_
      rw [(hagree c).1, (hagree c).2]
      exact (Cert.Kernel8Ideal.DsaPrep.final_q m c).symm
    · exact (Cert.Kernel8Ideal.DsaPrep.final_iw m c).symm

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite.facts,
  (fun m g _ => Cert.Kernel.Att.frame m g),
  (fun m g _ => Cert.KernelIdeal.Att.frame m g),
  (fun m g _ => Cert.KernelIdeal.Att.frame m g),
  (by intro m g _; refine (θ_run _ _ _).mono (fun r h => ⟨fun c => (h c).2, sem_eq_zero_of_no_sems (by decide) r.2⟩) (Cert.ReferenceIdeal.Value.run m g)),
  (by intro m g _; refine (θ_run _ _ _).mono (fun r h => ⟨fun c => (h c).2, sem_eq_zero_of_no_sems (by decide) r.2⟩) (Cert.ReferenceIdeal.Value.run m g)),
  (fun m g _ => Cert.Kernel2.Gen.frame m g),
  (fun m g _ => Cert.Kernel2Ideal.Gen.frame m g),
  (by intro m g _; refine (θ_run _ _ _).mono (fun r h => ⟨fun c => (h c).2, sem_eq_zero_of_no_sems (by decide) r.2⟩) (Cert.Reference2Ideal.Value.run m g)),
  (fun m g _ => Cert.Kernel3.Gen.frame m g),
  (fun m g _ => Cert.Kernel3Ideal.Gen.frame m g),
  (by intro m g _; refine (θ_run _ _ _).mono (fun r h => ⟨fun c => (h c).2, sem_eq_zero_of_no_sems (by decide) r.2⟩) (Cert.Reference3Ideal.Value.run m g)),
  (fun m g _ => Cert.Kernel4.Gen.frame m g),
  (fun m g _ => Cert.Kernel4Ideal.Gen.frame m g),
  (by intro m g _; refine (θ_run _ _ _).mono (fun r h => ⟨fun c => (h c).2, sem_eq_zero_of_no_sems (by decide) r.2⟩) (Cert.Reference4Ideal.Value.run m g)),
  (fun m g _ => Cert.Kernel5.Gen.frame m g),
  (fun m g _ => Cert.Kernel5Ideal.Gen.frame m g),
  (by intro m g _; refine (θ_run _ _ _).mono (fun r h => ⟨fun c => (h c).2, sem_eq_zero_of_no_sems (by decide) r.2⟩) (Cert.Reference5Ideal.Value.run m g)),
  (fun m g _ => Cert.Kernel6.Gen.frame m g),
  (fun m g _ => Cert.Kernel6Ideal.Gen.frame m g),
  (by intro m g _; refine (θ_run _ _ _).mono (fun r h => ⟨fun c => (h c).2, sem_eq_zero_of_no_sems (by decide) r.2⟩) (Cert.Reference6Ideal.Value.run m g)),
  (fun m g _ => Cert.Kernel7.Gen.frame m g),
  (fun m g _ => Cert.Kernel7Ideal.Gen.frame m g),
  (by intro m g _; refine (θ_run _ _ _).mono (fun r h => ⟨fun c => (h c).2.2.2, sem_eq_zero_of_no_sems (by decide) r.2⟩) (Cert.Reference7Ideal.Value.run m g)),
  (fun m g _ => Cert.Kernel8.Gen.frame m g),
  (fun m g _ => Cert.Kernel8Ideal.Gen.frame m g),
  (by intro m g _; refine (θ_run _ _ _).mono (fun r h => ⟨fun c => (h c).2.2.2.2.2.2, sem_eq_zero_of_no_sems (by decide) r.2⟩) (Cert.Reference8Ideal.Value.run m g)),
  (IdealRules.named_const.statement _ _ _ _ _ rfl),
  Cert.Proof.algebraicFlash,
  trivial,
  algebraic2,
  trivial,
  algebraic3,
  trivial,
  algebraic4,
  trivial,
  algebraic5,
  trivial,
  algebraic6,
  trivial,
  algebraic7,
  trivial,
  algebraic8⟩

end Cert.Proof

end
